-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sections [hPre_sections : Cert.Pre_sections.Facts] (m : (ℓ : Loc Cert.KernelIdeal.nD Cert.KernelIdeal.τ Cert.KernelIdeal.sig) → Buf (Elt Ideal) ℓ) : Prop :=
  ∀ c : Dev Cert.KernelIdeal.nD,
    (Cert.Pre_sections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sections [hPre_sections : Cert.Pre_sections.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sections [hKernelIdeal : Cert.KernelIdeal.Facts] [hPre_sections : Cert.Pre_sections.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sections m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sections [hReferenceIdeal : Cert.ReferenceIdeal.Facts] [hPre_sections : Cert.Pre_sections.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sections m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sections [hKernelIdeal : Cert.KernelIdeal.Facts] [hReferenceIdeal : Cert.ReferenceIdeal.Facts] [hPre_sections : Cert.Pre_sections.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sections m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sections : Cert.Pre_sections.Facts),
    quiescent_Kernel (hKernel := hKernel)
    ∧ quiescent_KernelIdeal (hKernelIdeal := hKernelIdeal)
    ∧ quiescent_KernelIdeal_pre_sections (hKernelIdeal := hKernelIdeal) (hPre_sections := hPre_sections)
    ∧ quiescent_ReferenceIdeal (hReferenceIdeal := hReferenceIdeal)
    ∧ quiescent_ReferenceIdeal_pre_sections (hReferenceIdeal := hReferenceIdeal) (hPre_sections := hPre_sections)
    ∧ preserves_Kernel_KernelIdeal
    ∧ algebraic_KernelIdeal_ReferenceIdeal_pre_sections (hKernelIdeal := hKernelIdeal) (hReferenceIdeal := hReferenceIdeal) (hPre_sections := hPre_sections)
-- ==== Pre_sections.lean ====
abbrev S2x100000x128 : Shape := ⟨3, ![2, 100000, 128]⟩
abbrev S25000x4 : Shape := ⟨2, ![25000, 4]⟩
abbrev S6250x4 : Shape := ⟨2, ![6250, 4]⟩
abbrev S_ : Shape := ⟨0, ![]⟩
abbrev S100000 : Shape := ⟨1, ![100000]⟩
abbrev S25000 : Shape := ⟨1, ![25000]⟩

class Facts : Prop where
  shapeCasts_S100000_S25000x4 : S100000.ShapeCasts S25000x4
  reducesTo_S25000x4_S_d0_1 : S25000x4.ReducesTo [0, 1] S_
  h_S_ : 0 < S_.numel
  shapeCasts_S25000_S6250x4 : S25000.ShapeCasts S6250x4
  reducesTo_S6250x4_S_d0_1 : S6250x4.ReducesTo [0, 1] S_

variable [Facts]

def fn {F : FTy → Type} [FloatOps F] (main_arg0 : FVec F S2x100000x128 .f32) (main_arg1 : IVec S25000x4 32) (main_arg2 : IVec S6250x4 32) (main_arg3 : IVec S_ 32) : IVec S_ 1 :=
  let main_v0 : IVec S100000 32 := iotaInDim S100000 32 0
  let main_v1 : IVec S25000x4 32 := shapeCast S25000x4 main_v0 shapeCasts_S100000_S25000x4
  let main_v2 : IVec S25000x4 1 := cmpi .eq main_arg1 main_v1
  let main_c : IVec S_ 1 := constantI S_ 1 1#1
  let main_v3 : IVec S_ 1 := (fun x v => Host.reduce IntOp.andi x v reducesTo_S25000x4_S_d0_1 h_S_) main_v2 main_c
  let main_v4 : IVec S25000 32 := iotaInDim S25000 32 0
  let main_v5 : IVec S6250x4 32 := shapeCast S6250x4 main_v4 shapeCasts_S25000_S6250x4
  let main_v6 : IVec S6250x4 1 := cmpi .eq main_arg2 main_v5
  let main_c_0 : IVec S_ 1 := constantI S_ 1 1#1
  let main_v7 : IVec S_ 1 := (fun x v => Host.reduce IntOp.andi x v reducesTo_S6250x4_S_d0_1 h_S_) main_v6 main_c_0
  let main_v8 : IVec S_ 1 := andi main_v3 main_v7
  main_v8
-- ==== Kernel.lean ====
abbrev S2x100000x128 : Shape := ⟨3, ![2, 100000, 128]⟩
abbrev S25000x4 : Shape := ⟨2, ![25000, 4]⟩
abbrev S6250x4 : Shape := ⟨2, ![6250, 4]⟩
abbrev S_ : Shape := ⟨0, ![]⟩
abbrev S1250x160x128 : Shape := ⟨3, ![1250, 160, 128]⟩
abbrev S1250x40x128 : Shape := ⟨3, ![1250, 40, 128]⟩
abbrev S1250x10x128 : Shape := ⟨3, ![1250, 10, 128]⟩
abbrev S2x1x160x128 : Shape := ⟨4, ![2, 1, 160, 128]⟩
abbrev S2 : Shape := ⟨1, ![2]⟩
abbrev S2x1x40x128 : Shape := ⟨4, ![2, 1, 40, 128]⟩
abbrev S2x1x10x128 : Shape := ⟨4, ![2, 1, 10, 128]⟩
abbrev S1x1x160x128 : Shape := ⟨4, ![1, 1, 160, 128]⟩
abbrev S1x160x128 : Shape := ⟨3, ![1, 160, 128]⟩
abbrev S1 : Shape := ⟨1, ![1]⟩
abbrev S160x128 : Shape := ⟨2, ![160, 128]⟩
abbrev S1x16 : Shape := ⟨2, ![1, 16]⟩
abbrev S16 : Shape := ⟨1, ![16]⟩
abbrev S1x1x40x128 : Shape := ⟨4, ![1, 1, 40, 128]⟩
abbrev S1x40x128 : Shape := ⟨3, ![1, 40, 128]⟩
abbrev S40x128 : Shape := ⟨2, ![40, 128]⟩
abbrev S1x1x10x128 : Shape := ⟨4, ![1, 1, 10, 128]⟩
abbrev S1x10x128 : Shape := ⟨3, ![1, 10, 128]⟩
abbrev S10x128 : Shape := ⟨2, ![10, 128]⟩
abbrev S2x25000x128 : Shape := ⟨3, ![2, 25000, 128]⟩
abbrev S2x6250x128 : Shape := ⟨3, ![2, 6250, 128]⟩

abbrev nBuf : Table → Nat
  | .hbm => 11
  | .local .scVector .vmem => 4
  | _ => 0

abbrev bufTy : (tb : Table) → Fin (nBuf tb) → BufTy
  | .hbm, ⟨0, _⟩ => ⟨S2x100000x128, .f32⟩
  | .hbm, ⟨1, _⟩ => ⟨S25000x4, .i32⟩
  | .hbm, ⟨2, _⟩ => ⟨S6250x4, .i32⟩
  | .hbm, ⟨3, _⟩ => ⟨S_, .i32⟩
  | .hbm, ⟨4, _⟩ => ⟨S1250x160x128, .f32⟩
  | .hbm, ⟨5, _⟩ => ⟨S1250x160x128, .f32⟩
  | .hbm, ⟨6, _⟩ => ⟨S1250x40x128, .f32⟩
  | .hbm, ⟨7, _⟩ => ⟨S1250x10x128, .f32⟩
  | .hbm, ⟨8, _⟩ => ⟨S2x100000x128, .f32⟩
  | .hbm, ⟨9, _⟩ => ⟨S2x25000x128, .f32⟩
  | .hbm, ⟨10, _⟩ => ⟨S2x6250x128, .f32⟩
  | .local .scVector .vmem, ⟨0, _⟩ => ⟨S2x1x160x128, .f32⟩
  | .local .scVector .vmem, ⟨1, _⟩ => ⟨S2x1x160x128, .f32⟩
  | .local .scVector .vmem, ⟨2, _⟩ => ⟨S2x1x40x128, .f32⟩
  | .local .scVector .vmem, ⟨3, _⟩ => ⟨S2x1x10x128, .f32⟩
  | _, _ => ⟨S2x100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev cc0_scoped0 : Ref sig .scVector := ⟨.vmem, 0, rfl⟩
abbrev cc0_scoped2 : Ref sig .scVector := ⟨.vmem, 1, rfl⟩
abbrev cc0_scoped4 : Ref sig .scVector := ⟨.vmem, 2, rfl⟩
abbrev cc0_scoped6 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_7_r0 : BitVec 32 := 0#32
  let v16_r0 : BitVec 1 := Scalar.cmpi .sgt v11 c0_i32_7_r0
  let v17_r0 : BitVec 32 := Scalar.extui v16_r0
  let c0_i32_8_r0 : BitVec 32 := 0#32
  let v18_r0 : BitVec 1 := Scalar.cmpi .ne v17_r0 c0_i32_8_r0
  v18_r0

def k0_cond2 (i : grid0.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v19_r0 : BitVec 32 := Scalar.muli c1_i32_9_r0 v5
  let c0_i32_23_r0 : BitVec 32 := 0#32
  let v37_r0 : BitVec 1 := Scalar.cmpi .sgt v19_r0 c0_i32_23_r0
  let v38_r0 : BitVec 1 := Scalar.andi true_24_r0 v37_r0
  let true_25_r0 : BitVec 1 := 1#1
  let v39_r0 : BitVec 1 := Scalar.andi v38_r0 true_25_r0
  let v40_r0 : BitVec 32 := Scalar.extui v39_r0
  let c0_i32_27_r0 : BitVec 32 := 0#32
  let v41_r0 : BitVec 1 := Scalar.cmpi .ne v40_r0 c0_i32_27_r0
  v41_r0

def k0_off1 : Fin 4 → Nat :=
  let c0_i32_26_r0 : BitVec 32 := 0#32
  let c2_i32_65_r0 : BitVec 32 := 2#32
  let v86_r0 : BitVec 32 := Scalar.remui c0_i32_26_r0 c2_i32_65_r0
  let c0_i32_67_r0 : BitVec 32 := 0#32
  let c0_i32_68_r0 : BitVec 32 := 0#32
  let c0_i32_69_r0 : BitVec 32 := 0#32
  ![v86_r0.toNat, 0, 0, 0]
def k0_off2 (i : grid0.Coords) : Fin 3 → Nat :=
  let c1_i32_66_r0 : BitVec 32 := 1#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v22_r0 : BitVec 32 := Scalar.addi c0_i32_12_r0 v10
  let v87_r0 : BitVec 32 := Scalar.muli c1_i32_66_r0 v22_r0
  let c0_i32_70_r0 : BitVec 32 := 0#32
  let c0_i32_71_r0 : BitVec 32 := 0#32
  ![v87_r0.toNat, 0, 0]
def k0_off3 : Fin 1 → Nat :=
  let c0_i32_26_r0 : BitVec 32 := 0#32
  let c2_i32_65_r0 : BitVec 32 := 2#32
  let v86_r0 : BitVec 32 := Scalar.remui c0_i32_26_r0 c2_i32_65_r0
  ![v86_r0.toNat]
@[reducible] def k0_t1_loop (i : grid0.Coords) : Scf.Loop 32 :=
  let c0_i32_31_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_41_r0 : BitVec 32 := 1#32
  ⟨c0_i32_31_r0, v48_r0, c1_i32_41_r0⟩
def k0_off4 (arg7_r0 : BitVec 32) : Fin 4 → Nat :=
  let c2_i32_142_r0 : BitVec 32 := 2#32
  let v230_r0 : BitVec 32 := Scalar.remui arg7_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond3 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v107_r0 : BitVec 1 := Scalar.cmpi .ne v90_r0 v101_r0
  let c0_i32_31_r0 : BitVec 32 := 0#32
  let c1_i32_41_r0 : BitVec 32 := 1#32
  let arg6_r0 : BitVec 32 := Scf.iv c0_i32_31_r0 c1_i32_41_r0 k0_t1
  let c1_i32_65_r0 : BitVec 32 := 1#32
  let v86_r0 : BitVec 32 := Scalar.muli c1_i32_65_r0 v5
  let c2_i32_78_r0 : BitVec 32 := 2#32
  let v108_r0 : BitVec 32 := Scalar.subi v86_r0 c2_i32_78_r0
  let c1_i32_79_r0 : BitVec 32 := 1#32
  let v109_r0 : BitVec 32 := Scalar.addi v108_r0 c1_i32_79_r0
  let v110_r0 : BitVec 1 := Scalar.cmpi .sge arg6_r0 v109_r0
  let true_80_r0 : BitVec 1 := 1#1
  let v111_r0 : BitVec 1 := Scalar.xori v110_r0 true_80_r0
  let v112_r0 : BitVec 1 := Scalar.andi v107_r0 v111_r0
  let true_81_r0 : BitVec 1 := 1#1
  let v113_r0 : BitVec 1 := Scalar.andi v112_r0 true_81_r0
  let v114_r0 : BitVec 32 := Scalar.extui v113_r0
  let c0_i32_82_r0 : BitVec 32 := 0#32
  let v115_r0 : BitVec 1 := Scalar.cmpi .ne v114_r0 c0_i32_82_r0
  v115_r0

def k0_off5 (i : grid0.Coords) (arg15_r0 : BitVec 32) : Fin 3 → Nat :=
  let c1_i32_143_r0 : BitVec 32 := 1#32
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v99_r0 : BitVec 1 := Scalar.cmpi .eq v98_r0 v5
  let c0_i32_74_r0 : BitVec 32 := 0#32
  let v100_r0 : BitVec 32 := Scalar.select v99_r0 c0_i32_74_r0 v98_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v101_r0 : BitVec 32 := Scalar.addi v100_r0 v10
  let v231_r0 : BitVec 32 := Scalar.muli c1_i32_143_r0 v101_r0
  let c0_i32_147_r0 : BitVec 32 := 0#32
  let c0_i32_148_r0 : BitVec 32 := 0#32
  ![v231_r0.toNat, 0, 0]
def k0_off6 (arg7_r0 : BitVec 32) : Fin 1 → Nat :=
  let c2_i32_142_r0 : BitVec 32 := 2#32
  let v230_r0 : BitVec 32 := Scalar.remui arg7_r0 c2_i32_142_r0
  ![v230_r0.toNat]
def k0_off7 (arg8_r0 : BitVec 32) : Fin 4 → Nat :=
  let c2_i32_143_r0 : BitVec 32 := 2#32
  let v231_r0 : BitVec 32 := Scalar.remui arg8_r0 c2_i32_143_r0
  let c0_i32_144_r0 : BitVec 32 := 0#32
  let c0_i32_145_r0 : BitVec 32 := 0#32
  let c0_i32_146_r0 : BitVec 32 := 0#32
  ![v231_r0.toNat, 0, 0, 0]
def k0_cond4 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v137_r0 : BitVec 1 := Scalar.cmpi .ne v90_r0 v96_r0
  let c0_i32_31_r0 : BitVec 32 := 0#32
  let c1_i32_41_r0 : BitVec 32 := 1#32
  let arg6_r0 : BitVec 32 := Scf.iv c0_i32_31_r0 c1_i32_41_r0 k0_t1
  let c0_i32_66_r0 : BitVec 32 := 0#32
  let v87_r0 : BitVec 1 := Scalar.cmpi .eq arg6_r0 c0_i32_66_r0
  let v138_r0 : BitVec 1 := Scalar.ori v137_r0 v87_r0
  let c0_i32_94_r0 : BitVec 32 := 0#32
  let v139_r0 : BitVec 1 := Scalar.cmpi .sge arg6_r0 c0_i32_94_r0
  let v140_r0 : BitVec 1 := Scalar.andi v138_r0 v139_r0
  let v141_r0 : BitVec 32 := Scalar.extui v140_r0
  let c0_i32_95_r0 : BitVec 32 := 0#32
  let v142_r0 : BitVec 1 := Scalar.cmpi .ne v141_r0 c0_i32_95_r0
  v142_r0

def k0_off8 (i : grid0.Coords) (arg15_r0 : BitVec 32) : Fin 3 → Nat :=
  let c1_i32_142_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v230_r0 : BitVec 32 := Scalar.muli c1_i32_142_r0 v90_r0
  let c0_i32_147_r0 : BitVec 32 := 0#32
  let c0_i32_148_r0 : BitVec 32 := 0#32
  ![v230_r0.toNat, 0, 0]
def k0_off9 (arg8_r0 : BitVec 32) : Fin 1 → Nat :=
  let c2_i32_143_r0 : BitVec 32 := 2#32
  let v231_r0 : BitVec 32 := Scalar.remui arg8_r0 c2_i32_143_r0
  ![v231_r0.toNat]
@[reducible] def k0_t2_loop : Scf.Loop 32 :=
  let c0_i32_110_r0 : BitVec 32 := 0#32
  let c10_i32_r0 : BitVec 32 := 10#32
  let v165_r0 : BitVec 32 := Scalar.addi c0_i32_110_r0 c10_i32_r0
  let c1_i32_111_r0 : BitVec 32 := 1#32
  ⟨c0_i32_110_r0, v165_r0, c1_i32_111_r0⟩
def k0_off10 (arg8_r0 : BitVec 32) : Fin 4 → Nat :=
  let c2_i32_102_r0 : BitVec 32 := 2#32
  let v161_r0 : BitVec 32 := Scalar.remui arg8_r0 c2_i32_102_r0
  let c0_i32_147_r0 : BitVec 32 := 0#32
  let c0_i32_148_r0 : BitVec 32 := 0#32
  let c0_i32_149_r0 : BitVec 32 := 0#32
  ![v161_r0.toNat, 0, 0, 0]

def k0_off11 (k0_t2 : Fin k0_t2_loop.trips) (c0_i32_145_r0 : BitVec 32) (c0_i32_146_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v233_r0 : BitVec 32 := Scalar.addi v232_r0 c0_i32_145_r0
  let v234_r0 : BitVec 32 := Scalar.addi v233_r0 c0_i32_146_r0
  let v239_r0 : Index := Scalar.indexCast v234_r0
  let c0_r0 : Index := 0#32
  ![v239_r0.toNat, 0]
def k0_off12 (arg9_r0 : BitVec 32) : Fin 4 → Nat :=
  let c2_i32_103_r0 : BitVec 32 := 2#32
  let v162_r0 : BitVec 32 := Scalar.remui arg9_r0 c2_i32_103_r0
  let c0_i32_273_r0 : BitVec 32 := 0#32
  let c0_i32_274_r0 : BitVec 32 := 0#32
  let c0_i32_275_r0 : BitVec 32 := 0#32
  ![v162_r0.toNat, 0, 0, 0]

def k0_off13 (k0_t2 : Fin k0_t2_loop.trips) (c0_i32_271_r0 : BitVec 32) (c0_i32_272_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v398_r0 : BitVec 32 := Scalar.addi v232_r0 c0_i32_271_r0
  let v399_r0 : BitVec 32 := Scalar.addi v398_r0 c0_i32_272_r0
  let v404_r0 : Index := Scalar.indexCast v399_r0
  let c0_278_r0 : Index := 0#32
  ![v404_r0.toNat, 0]
def k0_off14 (arg11_r0 : BitVec 32) : Fin 4 → Nat :=
  let c2_i32_104_r0 : BitVec 32 := 2#32
  let v163_r0 : BitVec 32 := Scalar.remui arg11_r0 c2_i32_104_r0
  let c0_i32_402_r0 : BitVec 32 := 0#32
  let c0_i32_403_r0 : BitVec 32 := 0#32
  let c0_i32_404_r0 : BitVec 32 := 0#32
  ![v163_r0.toNat, 0, 0, 0]

def k0_off15 (k0_t2 : Fin k0_t2_loop.trips) (c0_i32_401_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_400_r0 : BitVec 32 := 4#32
  let v579_r0 : BitVec 32 := Scalar.muli v231_r0 c4_i32_400_r0
  let v580_r0 : BitVec 32 := Scalar.addi v579_r0 c0_i32_401_r0
  let v585_r0 : Index := Scalar.indexCast v580_r0
  let c0_407_r0 : Index := 0#32
  ![v585_r0.toNat, 0]
def k0_off16 (arg13_r0 : BitVec 32) : Fin 4 → Nat :=
  let c2_i32_105_r0 : BitVec 32 := 2#32
  let v164_r0 : BitVec 32 := Scalar.remui arg13_r0 c2_i32_105_r0
  let c0_i32_432_r0 : BitVec 32 := 0#32
  let c0_i32_433_r0 : BitVec 32 := 0#32
  let c0_i32_434_r0 : BitVec 32 := 0#32
  ![v164_r0.toNat, 0, 0, 0]

def k0_chk5 (i : grid0.Coords) (arg13_r0 : BitVec 32) : Prop :=
  (∀ (k0_h1 : k0_cond1 i = 1#1), ∀ a, (k0_off16 arg13_r0) a + S1x1x10x128.size a ≤ S2x1x10x128.size a)
theorem k0_off16_inb : ∀ (i : grid0.Coords) (arg13_r0 : BitVec 32) (k0_hw5 : k0_chk5 i arg13_r0), ∀ (k0_h1 : k0_cond1 i = 1#1), ∀ a, (k0_off16 arg13_r0) a + S1x1x10x128.size a ≤ S2x1x10x128.size a := fun i arg13_r0 k0_hw5 k0_h1 => k0_hw5 k0_h1

def k0_off17 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v626_r0 : Index := Scalar.indexCast v231_r0
  let c0_437_r0 : Index := 0#32
  ![v626_r0.toNat, 0]
def k0_off18 (arg8_r0 : BitVec 32) : Fin 4 → Nat :=
  let c2_i32_102_r0 : BitVec 32 := 2#32
  let v161_r0 : BitVec 32 := Scalar.remui arg8_r0 c2_i32_102_r0
  let c0_i32_440_r0 : BitVec 32 := 0#32
  let c0_i32_441_r0 : BitVec 32 := 0#32
  let c0_i32_442_r0 : BitVec 32 := 0#32
  ![v161_r0.toNat, 0, 0, 0]

def k0_chk2 (i : grid0.Coords) (arg8_r0 : BitVec 32) : Prop :=
  (∀ (k0_h1 : k0_cond1 i = 1#1), ∀ a, (k0_off10 arg8_r0) a + S1x1x160x128.size a ≤ S2x1x160x128.size a) ∧
  (∀ (k0_h1 : k0_cond1 i = 1#1), ∀ a, (k0_off18 arg8_r0) a + S1x1x160x128.size a ≤ S2x1x160x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x1x160x128.size a ≤ S2x1x160x128.size a := fun i arg8_r0 k0_hw2 k0_h1 => k0_hw2.1 k0_h1
theorem k0_off18_inb : ∀ (i : grid0.Coords) (arg8_r0 : BitVec 32) (k0_hw2 : k0_chk2 i arg8_r0), ∀ (k0_h1 : k0_cond1 i = 1#1), ∀ a, (k0_off18 arg8_r0) a + S1x1x160x128.size a ≤ S2x1x160x128.size a := fun i arg8_r0 k0_hw2 k0_h1 => k0_hw2.2 k0_h1

def k0_off19 (k0_t2 : Fin k0_t2_loop.trips) (c0_i32_438_r0 : BitVec 32) (c0_i32_439_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v630_r0 : BitVec 32 := Scalar.addi v232_r0 c0_i32_438_r0
  let v631_r0 : BitVec 32 := Scalar.addi v630_r0 c0_i32_439_r0
  let v636_r0 : Index := Scalar.indexCast v631_r0
  let c16_r0 : Index := 16#32
  ![v636_r0.toNat, 16]
def k0_off20 (arg9_r0 : BitVec 32) : Fin 4 → Nat :=
  let c2_i32_103_r0 : BitVec 32 := 2#32
  let v162_r0 : BitVec 32 := Scalar.remui arg9_r0 c2_i32_103_r0
  let c0_i32_571_r0 : BitVec 32 := 0#32
  let c0_i32_572_r0 : BitVec 32 := 0#32
  let c0_i32_573_r0 : BitVec 32 := 0#32
  ![v162_r0.toNat, 0, 0, 0]

def k0_chk3 (i : grid0.Coords) (arg9_r0 : BitVec 32) : Prop :=
  (∀ (k0_h1 : k0_cond1 i = 1#1), ∀ a, (k0_off12 arg9_r0) a + S1x1x160x128.size a ≤ S2x1x160x128.size a) ∧
  (∀ (k0_h1 : k0_cond1 i = 1#1), ∀ a, (k0_off20 arg9_r0) a + S1x1x160x128.size a ≤ S2x1x160x128.size a)
theorem k0_off12_inb : ∀ (i : grid0.Coords) (arg9_r0 : BitVec 32) (k0_hw3 : k0_chk3 i arg9_r0), ∀ (k0_h1 : k0_cond1 i = 1#1), ∀ a, (k0_off12 arg9_r0) a + S1x1x160x128.size a ≤ S2x1x160x128.size a := fun i arg9_r0 k0_hw3 k0_h1 => k0_hw3.1 k0_h1
theorem k0_off20_inb : ∀ (i : grid0.Coords) (arg9_r0 : BitVec 32) (k0_hw3 : k0_chk3 i arg9_r0), ∀ (k0_h1 : k0_cond1 i = 1#1), ∀ a, (k0_off20 arg9_r0) a + S1x1x160x128.size a ≤ S2x1x160x128.size a := fun i arg9_r0 k0_hw3 k0_h1 => k0_hw3.2 k0_h1

def k0_off21 (arg11_r0 : BitVec 32) : Fin 4 → Nat :=
  let c2_i32_104_r0 : BitVec 32 := 2#32
  let v163_r0 : BitVec 32 := Scalar.remui arg11_r0 c2_i32_104_r0
  let c0_i32_700_r0 : BitVec 32 := 0#32
  let c0_i32_701_r0 : BitVec 32 := 0#32
  let c0_i32_702_r0 : BitVec 32 := 0#32
  ![v163_r0.toNat, 0, 0, 0]

def k0_chk4 (i : grid0.Coords) (arg11_r0 : BitVec 32) : Prop :=
  (∀ (k0_h1 : k0_cond1 i = 1#1), ∀ a, (k0_off14 arg11_r0) a + S1x1x40x128.size a ≤ S2x1x40x128.size a) ∧
  (∀ (k0_h1 : k0_cond1 i = 1#1), ∀ a, (k0_off21 arg11_r0) a + S1x1x40x128.size a ≤ S2x1x40x128.size a)
theorem k0_off14_inb : ∀ (i : grid0.Coords) (arg11_r0 : BitVec 32) (k0_hw4 : k0_chk4 i arg11_r0), ∀ (k0_h1 : k0_cond1 i = 1#1), ∀ a, (k0_off14 arg11_r0) a + S1x1x40x128.size a ≤ S2x1x40x128.size a := fun i arg11_r0 k0_hw4 k0_h1 => k0_hw4.1 k0_h1
theorem k0_off21_inb : ∀ (i : grid0.Coords) (arg11_r0 : BitVec 32) (k0_hw4 : k0_chk4 i arg11_r0), ∀ (k0_h1 : k0_cond1 i = 1#1), ∀ a, (k0_off21 arg11_r0) a + S1x1x40x128.size a ≤ S2x1x40x128.size a := fun i arg11_r0 k0_hw4 k0_h1 => k0_hw4.2 k0_h1

def k0_off22 (k0_t2 : Fin k0_t2_loop.trips) (c0_i32_699_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_698_r0 : BitVec 32 := 4#32
  let v976_r0 : BitVec 32 := Scalar.muli v231_r0 c4_i32_698_r0
  let v977_r0 : BitVec 32 := Scalar.addi v976_r0 c0_i32_699_r0
  let v982_r0 : Index := Scalar.indexCast v977_r0
  let c16_705_r0 : Index := 16#32
  ![v982_r0.toNat, 16]
def k0_off23 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v1023_r0 : Index := Scalar.indexCast v231_r0
  let c16_735_r0 : Index := 16#32
  ![v1023_r0.toNat, 16]
def k0_off24 (k0_t2 : Fin k0_t2_loop.trips) (c0_i32_736_r0 : BitVec 32) (c0_i32_737_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1027_r0 : BitVec 32 := Scalar.addi v232_r0 c0_i32_736_r0
  let v1028_r0 : BitVec 32 := Scalar.addi v1027_r0 c0_i32_737_r0
  let v1033_r0 : Index := Scalar.indexCast v1028_r0
  let c32_r0 : Index := 32#32
  ![v1033_r0.toNat, 32]
def k0_off25 (k0_t2 : Fin k0_t2_loop.trips) (c0_i32_997_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_996_r0 : BitVec 32 := 4#32
  let v1373_r0 : BitVec 32 := Scalar.muli v231_r0 c4_i32_996_r0
  let v1374_r0 : BitVec 32 := Scalar.addi v1373_r0 c0_i32_997_r0
  let v1379_r0 : Index := Scalar.indexCast v1374_r0
  let c32_1003_r0 : Index := 32#32
  ![v1379_r0.toNat, 32]
def k0_off26 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v1420_r0 : Index := Scalar.indexCast v231_r0
  let c32_1033_r0 : Index := 32#32
  ![v1420_r0.toNat, 32]
def k0_off27 (k0_t2 : Fin k0_t2_loop.trips) (c0_i32_1034_r0 : BitVec 32) (c0_i32_1035_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1424_r0 : BitVec 32 := Scalar.addi v232_r0 c0_i32_1034_r0
  let v1425_r0 : BitVec 32 := Scalar.addi v1424_r0 c0_i32_1035_r0
  let v1430_r0 : Index := Scalar.indexCast v1425_r0
  let c48_r0 : Index := 48#32
  ![v1430_r0.toNat, 48]
def k0_off28 (k0_t2 : Fin k0_t2_loop.trips) (c0_i32_1295_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_1294_r0 : BitVec 32 := 4#32
  let v1770_r0 : BitVec 32 := Scalar.muli v231_r0 c4_i32_1294_r0
  let v1771_r0 : BitVec 32 := Scalar.addi v1770_r0 c0_i32_1295_r0
  let v1776_r0 : Index := Scalar.indexCast v1771_r0
  let c48_1301_r0 : Index := 48#32
  ![v1776_r0.toNat, 48]
def k0_off29 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v1817_r0 : Index := Scalar.indexCast v231_r0
  let c48_1331_r0 : Index := 48#32
  ![v1817_r0.toNat, 48]
def k0_off30 (k0_t2 : Fin k0_t2_loop.trips) (c0_i32_1332_r0 : BitVec 32) (c0_i32_1333_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1821_r0 : BitVec 32 := Scalar.addi v232_r0 c0_i32_1332_r0
  let v1822_r0 : BitVec 32 := Scalar.addi v1821_r0 c0_i32_1333_r0
  let v1827_r0 : Index := Scalar.indexCast v1822_r0
  let c64_r0 : Index := 64#32
  ![v1827_r0.toNat, 64]
def k0_off31 (k0_t2 : Fin k0_t2_loop.trips) (c0_i32_1593_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_1592_r0 : BitVec 32 := 4#32
  let v2167_r0 : BitVec 32 := Scalar.muli v231_r0 c4_i32_1592_r0
  let v2168_r0 : BitVec 32 := Scalar.addi v2167_r0 c0_i32_1593_r0
  let v2173_r0 : Index := Scalar.indexCast v2168_r0
  let c64_1599_r0 : Index := 64#32
  ![v2173_r0.toNat, 64]
def k0_off32 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v2214_r0 : Index := Scalar.indexCast v231_r0
  let c64_1629_r0 : Index := 64#32
  ![v2214_r0.toNat, 64]
def k0_off33 (k0_t2 : Fin k0_t2_loop.trips) (c0_i32_1630_r0 : BitVec 32) (c0_i32_1631_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v2218_r0 : BitVec 32 := Scalar.addi v232_r0 c0_i32_1630_r0
  let v2219_r0 : BitVec 32 := Scalar.addi v2218_r0 c0_i32_1631_r0
  let v2224_r0 : Index := Scalar.indexCast v2219_r0
  let c80_r0 : Index := 80#32
  ![v2224_r0.toNat, 80]
def k0_off34 (k0_t2 : Fin k0_t2_loop.trips) (c0_i32_1891_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_1890_r0 : BitVec 32 := 4#32
  let v2564_r0 : BitVec 32 := Scalar.muli v231_r0 c4_i32_1890_r0
  let v2565_r0 : BitVec 32 := Scalar.addi v2564_r0 c0_i32_1891_r0
  let v2570_r0 : Index := Scalar.indexCast v2565_r0
  let c80_1897_r0 : Index := 80#32
  ![v2570_r0.toNat, 80]
def k0_off35 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v2611_r0 : Index := Scalar.indexCast v231_r0
  let c80_1927_r0 : Index := 80#32
  ![v2611_r0.toNat, 80]
def k0_off36 (k0_t2 : Fin k0_t2_loop.trips) (c0_i32_1928_r0 : BitVec 32) (c0_i32_1929_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v2615_r0 : BitVec 32 := Scalar.addi v232_r0 c0_i32_1928_r0
  let v2616_r0 : BitVec 32 := Scalar.addi v2615_r0 c0_i32_1929_r0
  let v2621_r0 : Index := Scalar.indexCast v2616_r0
  let c96_r0 : Index := 96#32
  ![v2621_r0.toNat, 96]
def k0_off37 (k0_t2 : Fin k0_t2_loop.trips) (c0_i32_2189_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_2188_r0 : BitVec 32 := 4#32
  let v2961_r0 : BitVec 32 := Scalar.muli v231_r0 c4_i32_2188_r0
  let v2962_r0 : BitVec 32 := Scalar.addi v2961_r0 c0_i32_2189_r0
  let v2967_r0 : Index := Scalar.indexCast v2962_r0
  let c96_2195_r0 : Index := 96#32
  ![v2967_r0.toNat, 96]
def k0_off38 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v3008_r0 : Index := Scalar.indexCast v231_r0
  let c96_2225_r0 : Index := 96#32
  ![v3008_r0.toNat, 96]
def k0_off39 (k0_t2 : Fin k0_t2_loop.trips) (c0_i32_2226_r0 : BitVec 32) (c0_i32_2227_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v3012_r0 : BitVec 32 := Scalar.addi v232_r0 c0_i32_2226_r0
  let v3013_r0 : BitVec 32 := Scalar.addi v3012_r0 c0_i32_2227_r0
  let v3018_r0 : Index := Scalar.indexCast v3013_r0
  let c112_r0 : Index := 112#32
  ![v3018_r0.toNat, 112]
def k0_off40 (k0_t2 : Fin k0_t2_loop.trips) (c0_i32_2487_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let c4_i32_2486_r0 : BitVec 32 := 4#32
  let v3358_r0 : BitVec 32 := Scalar.muli v231_r0 c4_i32_2486_r0
  let v3359_r0 : BitVec 32 := Scalar.addi v3358_r0 c0_i32_2487_r0
  let v3364_r0 : Index := Scalar.indexCast v3359_r0
  let c112_2493_r0 : Index := 112#32
  ![v3364_r0.toNat, 112]
def k0_off41 (k0_t2 : Fin k0_t2_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t2
  let c1_i32_142_r0 : BitVec 32 := 1#32
  let v230_r0 : BitVec 32 := Scalar.muli arg16_r0 c1_i32_142_r0
  let v231_r0 : BitVec 32 := Scalar.addi c0_i32_143_r0 v230_r0
  let v3405_r0 : Index := Scalar.indexCast v231_r0
  let c112_2523_r0 : Index := 112#32
  ![v3405_r0.toNat, 112]
def k0_off42 (arg9_r0 : BitVec 32) : Fin 4 → Nat :=
  let c2_i32_142_r0 : BitVec 32 := 2#32
  let v230_r0 : BitVec 32 := Scalar.remui arg9_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond9 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v171_r0 : BitVec 1 := Scalar.cmpi .ne v90_r0 v101_r0
  let c0_i32_31_r0 : BitVec 32 := 0#32
  let c1_i32_41_r0 : BitVec 32 := 1#32
  let arg6_r0 : BitVec 32 := Scf.iv c0_i32_31_r0 c1_i32_41_r0 k0_t1
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v172_r0 : BitVec 1 := Scalar.ori v171_r0 v89_r0
  let v173_r0 : BitVec 32 := Scalar.extui v172_r0
  let c0_i32_114_r0 : BitVec 32 := 0#32
  let v174_r0 : BitVec 1 := Scalar.cmpi .ne v173_r0 c0_i32_114_r0
  v174_r0

def k0_off43 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off44 (arg9_r0 : BitVec 32) : Fin 1 → Nat :=
  let c2_i32_142_r0 : BitVec 32 := 2#32
  let v230_r0 : BitVec 32 := Scalar.remui arg9_r0 c2_i32_142_r0
  ![v230_r0.toNat]
def k0_off45 (arg11_r0 : BitVec 32) : Fin 4 → Nat :=
  let c2_i32_142_r0 : BitVec 32 := 2#32
  let v230_r0 : BitVec 32 := Scalar.remui arg11_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond10 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v178_r0 : BitVec 1 := Scalar.cmpi .ne v90_r0 v101_r0
  let c0_i32_31_r0 : BitVec 32 := 0#32
  let c1_i32_41_r0 : BitVec 32 := 1#32
  let arg6_r0 : BitVec 32 := Scf.iv c0_i32_31_r0 c1_i32_41_r0 k0_t1
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v179_r0 : BitVec 1 := Scalar.ori v178_r0 v89_r0
  let v180_r0 : BitVec 32 := Scalar.extui v179_r0
  let c0_i32_117_r0 : BitVec 32 := 0#32
  let v181_r0 : BitVec 1 := Scalar.cmpi .ne v180_r0 c0_i32_117_r0
  v181_r0

def k0_off46 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off47 (arg11_r0 : BitVec 32) : Fin 1 → Nat :=
  let c2_i32_142_r0 : BitVec 32 := 2#32
  let v230_r0 : BitVec 32 := Scalar.remui arg11_r0 c2_i32_142_r0
  ![v230_r0.toNat]
def k0_off48 (arg13_r0 : BitVec 32) : Fin 4 → Nat :=
  let c2_i32_142_r0 : BitVec 32 := 2#32
  let v230_r0 : BitVec 32 := Scalar.remui arg13_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond11 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v185_r0 : BitVec 1 := Scalar.cmpi .ne v90_r0 v101_r0
  let c0_i32_31_r0 : BitVec 32 := 0#32
  let c1_i32_41_r0 : BitVec 32 := 1#32
  let arg6_r0 : BitVec 32 := Scf.iv c0_i32_31_r0 c1_i32_41_r0 k0_t1
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v186_r0 : BitVec 1 := Scalar.ori v185_r0 v89_r0
  let v187_r0 : BitVec 32 := Scalar.extui v186_r0
  let c0_i32_120_r0 : BitVec 32 := 0#32
  let v188_r0 : BitVec 1 := Scalar.cmpi .ne v187_r0 c0_i32_120_r0
  v188_r0

def k0_off49 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off50 (arg13_r0 : BitVec 32) : Fin 1 → Nat :=
  let c2_i32_142_r0 : BitVec 32 := 2#32
  let v230_r0 : BitVec 32 := Scalar.remui arg13_r0 c2_i32_142_r0
  ![v230_r0.toNat]
def k0_off51 (arg10_r0 : BitVec 32) : Fin 4 → Nat :=
  let c2_i32_142_r0 : BitVec 32 := 2#32
  let v230_r0 : BitVec 32 := Scalar.remui arg10_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond13 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v198_r0 : BitVec 1 := Scalar.cmpi .ne v90_r0 v96_r0
  let c0_i32_31_r0 : BitVec 32 := 0#32
  let c1_i32_41_r0 : BitVec 32 := 1#32
  let arg6_r0 : BitVec 32 := Scf.iv c0_i32_31_r0 c1_i32_41_r0 k0_t1
  let c0_i32_66_r0 : BitVec 32 := 0#32
  let v87_r0 : BitVec 1 := Scalar.cmpi .eq arg6_r0 c0_i32_66_r0
  let true_126_r0 : BitVec 1 := 1#1
  let v199_r0 : BitVec 1 := Scalar.xori v87_r0 true_126_r0
  let v200_r0 : BitVec 1 := Scalar.andi v198_r0 v199_r0
  let v201_r0 : BitVec 32 := Scalar.extui v200_r0
  let c0_i32_127_r0 : BitVec 32 := 0#32
  let v202_r0 : BitVec 1 := Scalar.cmpi .ne v201_r0 c0_i32_127_r0
  v202_r0

def k0_off52 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off53 (arg10_r0 : BitVec 32) : Fin 1 → Nat :=
  let c2_i32_142_r0 : BitVec 32 := 2#32
  let v230_r0 : BitVec 32 := Scalar.remui arg10_r0 c2_i32_142_r0
  ![v230_r0.toNat]
def k0_off54 (arg12_r0 : BitVec 32) : Fin 4 → Nat :=
  let c2_i32_142_r0 : BitVec 32 := 2#32
  let v230_r0 : BitVec 32 := Scalar.remui arg12_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond14 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v206_r0 : BitVec 1 := Scalar.cmpi .ne v90_r0 v96_r0
  let c0_i32_31_r0 : BitVec 32 := 0#32
  let c1_i32_41_r0 : BitVec 32 := 1#32
  let arg6_r0 : BitVec 32 := Scf.iv c0_i32_31_r0 c1_i32_41_r0 k0_t1
  let c0_i32_66_r0 : BitVec 32 := 0#32
  let v87_r0 : BitVec 1 := Scalar.cmpi .eq arg6_r0 c0_i32_66_r0
  let true_130_r0 : BitVec 1 := 1#1
  let v207_r0 : BitVec 1 := Scalar.xori v87_r0 true_130_r0
  let v208_r0 : BitVec 1 := Scalar.andi v206_r0 v207_r0
  let v209_r0 : BitVec 32 := Scalar.extui v208_r0
  let c0_i32_131_r0 : BitVec 32 := 0#32
  let v210_r0 : BitVec 1 := Scalar.cmpi .ne v209_r0 c0_i32_131_r0
  v210_r0

def k0_off55 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off56 (arg12_r0 : BitVec 32) : Fin 1 → Nat :=
  let c2_i32_142_r0 : BitVec 32 := 2#32
  let v230_r0 : BitVec 32 := Scalar.remui arg12_r0 c2_i32_142_r0
  ![v230_r0.toNat]
def k0_off57 (arg14_r0 : BitVec 32) : Fin 4 → Nat :=
  let c2_i32_142_r0 : BitVec 32 := 2#32
  let v230_r0 : BitVec 32 := Scalar.remui arg14_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond15 (i : grid0.Coords) (k0_t1 : Fin (k0_t1_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v214_r0 : BitVec 1 := Scalar.cmpi .ne v90_r0 v96_r0
  let c0_i32_31_r0 : BitVec 32 := 0#32
  let c1_i32_41_r0 : BitVec 32 := 1#32
  let arg6_r0 : BitVec 32 := Scf.iv c0_i32_31_r0 c1_i32_41_r0 k0_t1
  let c0_i32_66_r0 : BitVec 32 := 0#32
  let v87_r0 : BitVec 1 := Scalar.cmpi .eq arg6_r0 c0_i32_66_r0
  let true_134_r0 : BitVec 1 := 1#1
  let v215_r0 : BitVec 1 := Scalar.xori v87_r0 true_134_r0
  let v216_r0 : BitVec 1 := Scalar.andi v214_r0 v215_r0
  let v217_r0 : BitVec 32 := Scalar.extui v216_r0
  let c0_i32_135_r0 : BitVec 32 := 0#32
  let v218_r0 : BitVec 1 := Scalar.cmpi .ne v217_r0 c0_i32_135_r0
  v218_r0

def k0_off58 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off59 (arg14_r0 : BitVec 32) : Fin 1 → Nat :=
  let c2_i32_142_r0 : BitVec 32 := 2#32
  let v230_r0 : BitVec 32 := Scalar.remui arg14_r0 c2_i32_142_r0
  ![v230_r0.toNat]

def k0_chk1 (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h1 : k0_cond1 i = 1#1), ∀ (k0_h3 : k0_cond3 i k0_t1 arg15_r0 = 1#1), ∀ a, (k0_off4 arg7_r0) a + S1x1x160x128.size a ≤ S2x1x160x128.size a) ∧
  (∀ (k0_h1 : k0_cond1 i = 1#1), ∀ (k0_h3 : k0_cond3 i k0_t1 arg15_r0 = 1#1), ∀ a, (k0_off5 i arg15_r0) a + S1x160x128.size a ≤ S1250x160x128.size a) ∧
  (∀ (k0_h1 : k0_cond1 i = 1#1), ∀ (k0_h3 : k0_cond3 i k0_t1 arg15_r0 = 1#1), ∀ a, (k0_off6 arg7_r0) a + S1.size a ≤ S2.size a) ∧
  (∀ (k0_h1 : k0_cond1 i = 1#1), ∀ (k0_h4 : k0_cond4 i k0_t1 arg15_r0 = 1#1), ∀ a, (k0_off7 arg8_r0) a + S1x1x160x128.size a ≤ S2x1x160x128.size a) ∧
  (∀ (k0_h1 : k0_cond1 i = 1#1), ∀ (k0_h4 : k0_cond4 i k0_t1 arg15_r0 = 1#1), ∀ a, (k0_off8 i arg15_r0) a + S1x160x128.size a ≤ S1250x160x128.size a) ∧
  (∀ (k0_h1 : k0_cond1 i = 1#1), ∀ (k0_h4 : k0_cond4 i k0_t1 arg15_r0 = 1#1), ∀ a, (k0_off9 arg8_r0) a + S1.size a ≤ S2.size a) ∧
  (∀ (k0_h1 : k0_cond1 i = 1#1), ∀ (k0_h9 : k0_cond9 i k0_t1 arg15_r0 = 1#1), ∀ a, (k0_off42 arg9_r0) a + S1x1x160x128.size a ≤ S2x1x160x128.size a) ∧
  (∀ (k0_h1 : k0_cond1 i = 1#1), ∀ (k0_h9 : k0_cond9 i k0_t1 arg15_r0 = 1#1), ∀ a, (k0_off43 i arg15_r0) a + S1x160x128.size a ≤ S1250x160x128.size a) ∧
  (∀ (k0_h1 : k0_cond1 i = 1#1), ∀ (k0_h9 : k0_cond9 i k0_t1 arg15_r0 = 1#1), ∀ a, (k0_off44 arg9_r0) a + S1.size a ≤ S2.size a) ∧
  (∀ (k0_h1 : k0_cond1 i = 1#1), ∀ (k0_h10 : k0_cond10 i k0_t1 arg15_r0 = 1#1), ∀ a, (k0_off45 arg11_r0) a + S1x1x40x128.size a ≤ S2x1x40x128.size a) ∧
  (∀ (k0_h1 : k0_cond1 i = 1#1), ∀ (k0_h10 : k0_cond10 i k0_t1 arg15_r0 = 1#1), ∀ a, (k0_off46 i arg15_r0) a + S1x40x128.size a ≤ S1250x40x128.size a) ∧
  (∀ (k0_h1 : k0_cond1 i = 1#1), ∀ (k0_h10 : k0_cond10 i k0_t1 arg15_r0 = 1#1), ∀ a, (k0_off47 arg11_r0) a + S1.size a ≤ S2.size a) ∧
  (∀ (k0_h1 : k0_cond1 i = 1#1), ∀ (k0_h11 : k0_cond11 i k0_t1 arg15_r0 = 1#1), ∀ a, (k0_off48 arg13_r0) a + S1x1x10x128.size a ≤ S2x1x10x128.size a) ∧
  (∀ (k0_h1 : k0_cond1 i = 1#1), ∀ (k0_h11 : k0_cond11 i k0_t1 arg15_r0 = 1#1), ∀ a, (k0_off49 i arg15_r0) a + S1x10x128.size a ≤ S1250x10x128.size a) ∧
  (∀ (k0_h1 : k0_cond1 i = 1#1), ∀ (k0_h11 : k0_cond11 i k0_t1 arg15_r0 = 1#1), ∀ a, (k0_off50 arg13_r0) a + S1.size a ≤ S2.size a) ∧
  (∀ (k0_h1 : k0_cond1 i = 1#1), ∀ (k0_h13 : k0_cond13 i k0_t1 arg15_r0 = 1#1), ∀ a, (k0_off51 arg10_r0) a + S1x1x160x128.size a ≤ S2x1x160x128.size a) ∧
  (∀ (k0_h1 : k0_cond1 i = 1#1), ∀ (k0_h13 : k0_cond13 i k0_t1 arg15_r0 = 1#1), ∀ a, (k0_off52 i arg15_r0) a + S1x160x128.size a ≤ S1250x160x128.size a) ∧
  (∀ (k0_h1 : k0_cond1 i = 1#1), ∀ (k0_h13 : k0_cond13 i k0_t1 arg15_r0 = 1#1), ∀ a, (k0_off53 arg10_r0) a + S1.size a ≤ S2.size a) ∧
  (∀ (k0_h1 : k0_cond1 i = 1#1), ∀ (k0_h14 : k0_cond14 i k0_t1 arg15_r0 = 1#1), ∀ a, (k0_off54 arg12_r0) a + S1x1x40x128.size a ≤ S2x1x40x128.size a) ∧
  (∀ (k0_h1 : k0_cond1 i = 1#1), ∀ (k0_h14 : k0_cond14 i k0_t1 arg15_r0 = 1#1), ∀ a, (k0_off55 i arg15_r0) a + S1x40x128.size a ≤ S1250x40x128.size a) ∧
  (∀ (k0_h1 : k0_cond1 i = 1#1), ∀ (k0_h14 : k0_cond14 i k0_t1 arg15_r0 = 1#1), ∀ a, (k0_off56 arg12_r0) a + S1.size a ≤ S2.size a) ∧
  (∀ (k0_h1 : k0_cond1 i = 1#1), ∀ (k0_h15 : k0_cond15 i k0_t1 arg15_r0 = 1#1), ∀ a, (k0_off57 arg14_r0) a + S1x1x10x128.size a ≤ S2x1x10x128.size a) ∧
  (∀ (k0_h1 : k0_cond1 i = 1#1), ∀ (k0_h15 : k0_cond15 i k0_t1 arg15_r0 = 1#1), ∀ a, (k0_off58 i arg15_r0) a + S1x10x128.size a ≤ S1250x10x128.size a) ∧
  (∀ (k0_h1 : k0_cond1 i = 1#1), ∀ (k0_h15 : k0_cond15 i k0_t1 arg15_r0 = 1#1), ∀ a, (k0_off59 arg14_r0) a + S1.size a ≤ S2.size a)
theorem k0_off4_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h3 : k0_cond3 i k0_t1 arg15_r0 = 1#1), ∀ a, (k0_off4 arg7_r0) a + S1x1x160x128.size a ≤ S2x1x160x128.size a := fun i k0_t1 arg7_r0 arg8_r0 arg9_r0 arg10_r0 arg11_r0 arg12_r0 arg13_r0 arg14_r0 arg15_r0 k0_hw1 k0_h1 k0_h3 => k0_hw1.1 k0_h1 k0_h3
theorem k0_off5_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h3 : k0_cond3 i k0_t1 arg15_r0 = 1#1), ∀ a, (k0_off5 i arg15_r0) a + S1x160x128.size a ≤ S1250x160x128.size a := fun i k0_t1 arg7_r0 arg8_r0 arg9_r0 arg10_r0 arg11_r0 arg12_r0 arg13_r0 arg14_r0 arg15_r0 k0_hw1 k0_h1 k0_h3 => k0_hw1.2.1 k0_h1 k0_h3
theorem k0_off6_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h3 : k0_cond3 i k0_t1 arg15_r0 = 1#1), ∀ a, (k0_off6 arg7_r0) a + S1.size a ≤ S2.size a := fun i k0_t1 arg7_r0 arg8_r0 arg9_r0 arg10_r0 arg11_r0 arg12_r0 arg13_r0 arg14_r0 arg15_r0 k0_hw1 k0_h1 k0_h3 => k0_hw1.2.2.1 k0_h1 k0_h3
theorem k0_off7_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h4 : k0_cond4 i k0_t1 arg15_r0 = 1#1), ∀ a, (k0_off7 arg8_r0) a + S1x1x160x128.size a ≤ S2x1x160x128.size a := fun i k0_t1 arg7_r0 arg8_r0 arg9_r0 arg10_r0 arg11_r0 arg12_r0 arg13_r0 arg14_r0 arg15_r0 k0_hw1 k0_h1 k0_h4 => k0_hw1.2.2.2.1 k0_h1 k0_h4
theorem k0_off8_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h4 : k0_cond4 i k0_t1 arg15_r0 = 1#1), ∀ a, (k0_off8 i arg15_r0) a + S1x160x128.size a ≤ S1250x160x128.size a := fun i k0_t1 arg7_r0 arg8_r0 arg9_r0 arg10_r0 arg11_r0 arg12_r0 arg13_r0 arg14_r0 arg15_r0 k0_hw1 k0_h1 k0_h4 => k0_hw1.2.2.2.2.1 k0_h1 k0_h4
theorem k0_off9_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h4 : k0_cond4 i k0_t1 arg15_r0 = 1#1), ∀ a, (k0_off9 arg8_r0) a + S1.size a ≤ S2.size a := fun i k0_t1 arg7_r0 arg8_r0 arg9_r0 arg10_r0 arg11_r0 arg12_r0 arg13_r0 arg14_r0 arg15_r0 k0_hw1 k0_h1 k0_h4 => k0_hw1.2.2.2.2.2.1 k0_h1 k0_h4
theorem k0_off42_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h9 : k0_cond9 i k0_t1 arg15_r0 = 1#1), ∀ a, (k0_off42 arg9_r0) a + S1x1x160x128.size a ≤ S2x1x160x128.size a := fun i k0_t1 arg7_r0 arg8_r0 arg9_r0 arg10_r0 arg11_r0 arg12_r0 arg13_r0 arg14_r0 arg15_r0 k0_hw1 k0_h1 k0_h9 => k0_hw1.2.2.2.2.2.2.1 k0_h1 k0_h9
theorem k0_off43_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h9 : k0_cond9 i k0_t1 arg15_r0 = 1#1), ∀ a, (k0_off43 i arg15_r0) a + S1x160x128.size a ≤ S1250x160x128.size a := fun i k0_t1 arg7_r0 arg8_r0 arg9_r0 arg10_r0 arg11_r0 arg12_r0 arg13_r0 arg14_r0 arg15_r0 k0_hw1 k0_h1 k0_h9 => k0_hw1.2.2.2.2.2.2.2.1 k0_h1 k0_h9
theorem k0_off44_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h9 : k0_cond9 i k0_t1 arg15_r0 = 1#1), ∀ a, (k0_off44 arg9_r0) a + S1.size a ≤ S2.size a := fun i k0_t1 arg7_r0 arg8_r0 arg9_r0 arg10_r0 arg11_r0 arg12_r0 arg13_r0 arg14_r0 arg15_r0 k0_hw1 k0_h1 k0_h9 => k0_hw1.2.2.2.2.2.2.2.2.1 k0_h1 k0_h9
theorem k0_off45_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h10 : k0_cond10 i k0_t1 arg15_r0 = 1#1), ∀ a, (k0_off45 arg11_r0) a + S1x1x40x128.size a ≤ S2x1x40x128.size a := fun i k0_t1 arg7_r0 arg8_r0 arg9_r0 arg10_r0 arg11_r0 arg12_r0 arg13_r0 arg14_r0 arg15_r0 k0_hw1 k0_h1 k0_h10 => k0_hw1.2.2.2.2.2.2.2.2.2.1 k0_h1 k0_h10
theorem k0_off46_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h10 : k0_cond10 i k0_t1 arg15_r0 = 1#1), ∀ a, (k0_off46 i arg15_r0) a + S1x40x128.size a ≤ S1250x40x128.size a := fun i k0_t1 arg7_r0 arg8_r0 arg9_r0 arg10_r0 arg11_r0 arg12_r0 arg13_r0 arg14_r0 arg15_r0 k0_hw1 k0_h1 k0_h10 => k0_hw1.2.2.2.2.2.2.2.2.2.2.1 k0_h1 k0_h10
theorem k0_off47_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h10 : k0_cond10 i k0_t1 arg15_r0 = 1#1), ∀ a, (k0_off47 arg11_r0) a + S1.size a ≤ S2.size a := fun i k0_t1 arg7_r0 arg8_r0 arg9_r0 arg10_r0 arg11_r0 arg12_r0 arg13_r0 arg14_r0 arg15_r0 k0_hw1 k0_h1 k0_h10 => k0_hw1.2.2.2.2.2.2.2.2.2.2.2.1 k0_h1 k0_h10
theorem k0_off48_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h11 : k0_cond11 i k0_t1 arg15_r0 = 1#1), ∀ a, (k0_off48 arg13_r0) a + S1x1x10x128.size a ≤ S2x1x10x128.size a := fun i k0_t1 arg7_r0 arg8_r0 arg9_r0 arg10_r0 arg11_r0 arg12_r0 arg13_r0 arg14_r0 arg15_r0 k0_hw1 k0_h1 k0_h11 => k0_hw1.2.2.2.2.2.2.2.2.2.2.2.2.1 k0_h1 k0_h11
theorem k0_off49_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h11 : k0_cond11 i k0_t1 arg15_r0 = 1#1), ∀ a, (k0_off49 i arg15_r0) a + S1x10x128.size a ≤ S1250x10x128.size a := fun i k0_t1 arg7_r0 arg8_r0 arg9_r0 arg10_r0 arg11_r0 arg12_r0 arg13_r0 arg14_r0 arg15_r0 k0_hw1 k0_h1 k0_h11 => k0_hw1.2.2.2.2.2.2.2.2.2.2.2.2.2.1 k0_h1 k0_h11
theorem k0_off50_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h11 : k0_cond11 i k0_t1 arg15_r0 = 1#1), ∀ a, (k0_off50 arg13_r0) a + S1.size a ≤ S2.size a := fun i k0_t1 arg7_r0 arg8_r0 arg9_r0 arg10_r0 arg11_r0 arg12_r0 arg13_r0 arg14_r0 arg15_r0 k0_hw1 k0_h1 k0_h11 => k0_hw1.2.2.2.2.2.2.2.2.2.2.2.2.2.2.1 k0_h1 k0_h11
theorem k0_off51_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h13 : k0_cond13 i k0_t1 arg15_r0 = 1#1), ∀ a, (k0_off51 arg10_r0) a + S1x1x160x128.size a ≤ S2x1x160x128.size a := fun i k0_t1 arg7_r0 arg8_r0 arg9_r0 arg10_r0 arg11_r0 arg12_r0 arg13_r0 arg14_r0 arg15_r0 k0_hw1 k0_h1 k0_h13 => k0_hw1.2.2.2.2.2.2.2.2.2.2.2.2.2.2.2.1 k0_h1 k0_h13
theorem k0_off52_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h13 : k0_cond13 i k0_t1 arg15_r0 = 1#1), ∀ a, (k0_off52 i arg15_r0) a + S1x160x128.size a ≤ S1250x160x128.size a := fun i k0_t1 arg7_r0 arg8_r0 arg9_r0 arg10_r0 arg11_r0 arg12_r0 arg13_r0 arg14_r0 arg15_r0 k0_hw1 k0_h1 k0_h13 => k0_hw1.2.2.2.2.2.2.2.2.2.2.2.2.2.2.2.2.1 k0_h1 k0_h13
theorem k0_off53_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h13 : k0_cond13 i k0_t1 arg15_r0 = 1#1), ∀ a, (k0_off53 arg10_r0) a + S1.size a ≤ S2.size a := fun i k0_t1 arg7_r0 arg8_r0 arg9_r0 arg10_r0 arg11_r0 arg12_r0 arg13_r0 arg14_r0 arg15_r0 k0_hw1 k0_h1 k0_h13 => k0_hw1.2.2.2.2.2.2.2.2.2.2.2.2.2.2.2.2.2.1 k0_h1 k0_h13
theorem k0_off54_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h14 : k0_cond14 i k0_t1 arg15_r0 = 1#1), ∀ a, (k0_off54 arg12_r0) a + S1x1x40x128.size a ≤ S2x1x40x128.size a := fun i k0_t1 arg7_r0 arg8_r0 arg9_r0 arg10_r0 arg11_r0 arg12_r0 arg13_r0 arg14_r0 arg15_r0 k0_hw1 k0_h1 k0_h14 => k0_hw1.2.2.2.2.2.2.2.2.2.2.2.2.2.2.2.2.2.2.1 k0_h1 k0_h14
theorem k0_off55_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h14 : k0_cond14 i k0_t1 arg15_r0 = 1#1), ∀ a, (k0_off55 i arg15_r0) a + S1x40x128.size a ≤ S1250x40x128.size a := fun i k0_t1 arg7_r0 arg8_r0 arg9_r0 arg10_r0 arg11_r0 arg12_r0 arg13_r0 arg14_r0 arg15_r0 k0_hw1 k0_h1 k0_h14 => k0_hw1.2.2.2.2.2.2.2.2.2.2.2.2.2.2.2.2.2.2.2.1 k0_h1 k0_h14
theorem k0_off56_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h14 : k0_cond14 i k0_t1 arg15_r0 = 1#1), ∀ a, (k0_off56 arg12_r0) a + S1.size a ≤ S2.size a := fun i k0_t1 arg7_r0 arg8_r0 arg9_r0 arg10_r0 arg11_r0 arg12_r0 arg13_r0 arg14_r0 arg15_r0 k0_hw1 k0_h1 k0_h14 => k0_hw1.2.2.2.2.2.2.2.2.2.2.2.2.2.2.2.2.2.2.2.2.1 k0_h1 k0_h14
theorem k0_off57_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h15 : k0_cond15 i k0_t1 arg15_r0 = 1#1), ∀ a, (k0_off57 arg14_r0) a + S1x1x10x128.size a ≤ S2x1x10x128.size a := fun i k0_t1 arg7_r0 arg8_r0 arg9_r0 arg10_r0 arg11_r0 arg12_r0 arg13_r0 arg14_r0 arg15_r0 k0_hw1 k0_h1 k0_h15 => k0_hw1.2.2.2.2.2.2.2.2.2.2.2.2.2.2.2.2.2.2.2.2.2.1 k0_h1 k0_h15
theorem k0_off58_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h15 : k0_cond15 i k0_t1 arg15_r0 = 1#1), ∀ a, (k0_off58 i arg15_r0) a + S1x10x128.size a ≤ S1250x10x128.size a := fun i k0_t1 arg7_r0 arg8_r0 arg9_r0 arg10_r0 arg11_r0 arg12_r0 arg13_r0 arg14_r0 arg15_r0 k0_hw1 k0_h1 k0_h15 => k0_hw1.2.2.2.2.2.2.2.2.2.2.2.2.2.2.2.2.2.2.2.2.2.2.1 k0_h1 k0_h15
theorem k0_off59_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 i k0_t1 arg7_r0 arg8_r0 arg9_r0 arg10_r0 arg11_r0 arg12_r0 arg13_r0 arg14_r0 arg15_r0), ∀ (k0_h1 : k0_cond1 i = 1#1), ∀ (k0_h15 : k0_cond15 i k0_t1 arg15_r0 = 1#1), ∀ a, (k0_off59 arg14_r0) a + S1.size a ≤ S2.size a := fun i k0_t1 arg7_r0 arg8_r0 arg9_r0 arg10_r0 arg11_r0 arg12_r0 arg13_r0 arg14_r0 arg15_r0 k0_hw1 k0_h1 k0_h15 => k0_hw1.2.2.2.2.2.2.2.2.2.2.2.2.2.2.2.2.2.2.2.2.2.2.2 k0_h1 k0_h15

@[reducible] def k0_t3_loop (i : grid0.Coords) : Scf.Loop 32 :=
  let c0_i32_31_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let v45_r0 : BitVec 32 := Scalar.addi c0_i32_31_r0 v44_r0
  let c1_i32_42_r0 : BitVec 32 := 1#32
  ⟨v48_r0, v45_r0, c1_i32_42_r0⟩
def k0_off60 (arg7_r0 : BitVec 32) : Fin 4 → Nat :=
  let c2_i32_142_r0 : BitVec 32 := 2#32
  let v230_r0 : BitVec 32 := Scalar.remui arg7_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond16 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v107_r0 : BitVec 1 := Scalar.cmpi .ne v90_r0 v101_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c1_i32_65_r0 : BitVec 32 := 1#32
  let v86_r0 : BitVec 32 := Scalar.muli c1_i32_65_r0 v5
  let c2_i32_78_r0 : BitVec 32 := 2#32
  let v108_r0 : BitVec 32 := Scalar.subi v86_r0 c2_i32_78_r0
  let c1_i32_79_r0 : BitVec 32 := 1#32
  let v109_r0 : BitVec 32 := Scalar.addi v108_r0 c1_i32_79_r0
  let v110_r0 : BitVec 1 := Scalar.cmpi .sge arg6_r0 v109_r0
  let true_80_r0 : BitVec 1 := 1#1
  let v111_r0 : BitVec 1 := Scalar.xori v110_r0 true_80_r0
  let v112_r0 : BitVec 1 := Scalar.andi v107_r0 v111_r0
  let true_81_r0 : BitVec 1 := 1#1
  let v113_r0 : BitVec 1 := Scalar.andi v112_r0 true_81_r0
  let v114_r0 : BitVec 32 := Scalar.extui v113_r0
  let c0_i32_82_r0 : BitVec 32 := 0#32
  let v115_r0 : BitVec 1 := Scalar.cmpi .ne v114_r0 c0_i32_82_r0
  v115_r0

def k0_off61 (i : grid0.Coords) (arg15_r0 : BitVec 32) : Fin 3 → Nat :=
  let c1_i32_143_r0 : BitVec 32 := 1#32
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v99_r0 : BitVec 1 := Scalar.cmpi .eq v98_r0 v5
  let c0_i32_74_r0 : BitVec 32 := 0#32
  let v100_r0 : BitVec 32 := Scalar.select v99_r0 c0_i32_74_r0 v98_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v101_r0 : BitVec 32 := Scalar.addi v100_r0 v10
  let v231_r0 : BitVec 32 := Scalar.muli c1_i32_143_r0 v101_r0
  let c0_i32_147_r0 : BitVec 32 := 0#32
  let c0_i32_148_r0 : BitVec 32 := 0#32
  ![v231_r0.toNat, 0, 0]
def k0_off62 (arg7_r0 : BitVec 32) : Fin 1 → Nat :=
  let c2_i32_142_r0 : BitVec 32 := 2#32
  let v230_r0 : BitVec 32 := Scalar.remui arg7_r0 c2_i32_142_r0
  ![v230_r0.toNat]
def k0_off63 (arg8_r0 : BitVec 32) : Fin 4 → Nat :=
  let c2_i32_143_r0 : BitVec 32 := 2#32
  let v231_r0 : BitVec 32 := Scalar.remui arg8_r0 c2_i32_143_r0
  let c0_i32_144_r0 : BitVec 32 := 0#32
  let c0_i32_145_r0 : BitVec 32 := 0#32
  let c0_i32_146_r0 : BitVec 32 := 0#32
  ![v231_r0.toNat, 0, 0, 0]
def k0_cond17 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v137_r0 : BitVec 1 := Scalar.cmpi .ne v90_r0 v96_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c0_i32_66_r0 : BitVec 32 := 0#32
  let v87_r0 : BitVec 1 := Scalar.cmpi .eq arg6_r0 c0_i32_66_r0
  let v138_r0 : BitVec 1 := Scalar.ori v137_r0 v87_r0
  let c0_i32_94_r0 : BitVec 32 := 0#32
  let v139_r0 : BitVec 1 := Scalar.cmpi .sge arg6_r0 c0_i32_94_r0
  let v140_r0 : BitVec 1 := Scalar.andi v138_r0 v139_r0
  let v141_r0 : BitVec 32 := Scalar.extui v140_r0
  let c0_i32_95_r0 : BitVec 32 := 0#32
  let v142_r0 : BitVec 1 := Scalar.cmpi .ne v141_r0 c0_i32_95_r0
  v142_r0

def k0_off64 (i : grid0.Coords) (arg15_r0 : BitVec 32) : Fin 3 → Nat :=
  let c1_i32_142_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v230_r0 : BitVec 32 := Scalar.muli c1_i32_142_r0 v90_r0
  let c0_i32_147_r0 : BitVec 32 := 0#32
  let c0_i32_148_r0 : BitVec 32 := 0#32
  ![v230_r0.toNat, 0, 0]
def k0_off65 (arg8_r0 : BitVec 32) : Fin 1 → Nat :=
  let c2_i32_143_r0 : BitVec 32 := 2#32
  let v231_r0 : BitVec 32 := Scalar.remui arg8_r0 c2_i32_143_r0
  ![v231_r0.toNat]
@[reducible] def k0_t4_loop : Scf.Loop 32 :=
  let c0_i32_110_r0 : BitVec 32 := 0#32
  let c10_i32_r0 : BitVec 32 := 10#32
  let v165_r0 : BitVec 32 := Scalar.addi c0_i32_110_r0 c10_i32_r0
  let c1_i32_111_r0 : BitVec 32 := 1#32
  ⟨c0_i32_110_r0, v165_r0, c1_i32_111_r0⟩
def k0_off66 (arg8_r0 : BitVec 32) : Fin 4 → Nat :=
  let c2_i32_102_r0 : BitVec 32 := 2#32
  let v161_r0 : BitVec 32 := Scalar.remui arg8_r0 c2_i32_102_r0
  let c0_i32_147_r0 : BitVec 32 := 0#32
  let c0_i32_148_r0 : BitVec 32 := 0#32
  let c0_i32_149_r0 : BitVec 32 := 0#32
  ![v161_r0.toNat, 0, 0, 0]

def k0_off67 (k0_t4 : Fin k0_t4_loop.trips) (c0_i32_145_r0 : BitVec 32) (c0_i32_146_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v233_r0 : BitVec 32 := Scalar.addi v232_r0 c0_i32_145_r0
  let v234_r0 : BitVec 32 := Scalar.addi v233_r0 c0_i32_146_r0
  let v239_r0 : Index := Scalar.indexCast v234_r0
  let c0_r0 : Index := 0#32
  ![v239_r0.toNat, 0]
def k0_off68 (arg9_r0 : BitVec 32) : Fin 4 → Nat :=
  let c2_i32_103_r0 : BitVec 32 := 2#32
  let v162_r0 : BitVec 32 := Scalar.remui arg9_r0 c2_i32_103_r0
  let c0_i32_273_r0 : BitVec 32 := 0#32
  let c0_i32_274_r0 : BitVec 32 := 0#32
  let c0_i32_275_r0 : BitVec 32 := 0#32
  ![v162_r0.toNat, 0, 0, 0]

def k0_off69 (k0_t4 : Fin k0_t4_loop.trips) (c0_i32_271_r0 : BitVec 32) (c0_i32_272_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v398_r0 : BitVec 32 := Scalar.addi v232_r0 c0_i32_271_r0
  let v399_r0 : BitVec 32 := Scalar.addi v398_r0 c0_i32_272_r0
  let v404_r0 : Index := Scalar.indexCast v399_r0
  let c0_278_r0 : Index := 0#32
  ![v404_r0.toNat, 0]
def k0_off70 (arg11_r0 : BitVec 32) : Fin 4 → Nat :=
  let c2_i32_104_r0 : BitVec 32 := 2#32
  let v163_r0 : BitVec 32 := Scalar.remui arg11_r0 c2_i32_104_r0
  let c0_i32_402_r0 : BitVec 32 := 0#32
  let c0_i32_403_r0 : BitVec 32 := 0#32
  let c0_i32_404_r0 : BitVec 32 := 0#32
  ![v163_r0.toNat, 0, 0, 0]

def k0_off71 (k0_t4 : Fin k0_t4_loop.trips) (c0_i32_401_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_400_r0 : BitVec 32 := 4#32
  let v579_r0 : BitVec 32 := Scalar.muli v231_r0 c4_i32_400_r0
  let v580_r0 : BitVec 32 := Scalar.addi v579_r0 c0_i32_401_r0
  let v585_r0 : Index := Scalar.indexCast v580_r0
  let c0_407_r0 : Index := 0#32
  ![v585_r0.toNat, 0]
def k0_off72 (arg13_r0 : BitVec 32) : Fin 4 → Nat :=
  let c2_i32_105_r0 : BitVec 32 := 2#32
  let v164_r0 : BitVec 32 := Scalar.remui arg13_r0 c2_i32_105_r0
  let c0_i32_432_r0 : BitVec 32 := 0#32
  let c0_i32_433_r0 : BitVec 32 := 0#32
  let c0_i32_434_r0 : BitVec 32 := 0#32
  ![v164_r0.toNat, 0, 0, 0]

def k0_chk10 (i : grid0.Coords) (k0_t3 : Fin (k0_t3_loop i).trips) (arg13_r0 : BitVec 32) : Prop :=
  (∀ (k0_h1 : k0_cond1 i = 1#1), ∀ a, (k0_off72 arg13_r0) a + S1x1x10x128.size a ≤ S2x1x10x128.size a)
theorem k0_off72_inb : ∀ (i : grid0.Coords) (k0_t3 : Fin (k0_t3_loop i).trips) (arg13_r0 : BitVec 32) (k0_hw10 : k0_chk10 i k0_t3 arg13_r0), ∀ (k0_h1 : k0_cond1 i = 1#1), ∀ a, (k0_off72 arg13_r0) a + S1x1x10x128.size a ≤ S2x1x10x128.size a := fun i k0_t3 arg13_r0 k0_hw10 k0_h1 => k0_hw10 k0_h1

def k0_off73 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v626_r0 : Index := Scalar.indexCast v231_r0
  let c0_437_r0 : Index := 0#32
  ![v626_r0.toNat, 0]
def k0_off74 (arg8_r0 : BitVec 32) : Fin 4 → Nat :=
  let c2_i32_102_r0 : BitVec 32 := 2#32
  let v161_r0 : BitVec 32 := Scalar.remui arg8_r0 c2_i32_102_r0
  let c0_i32_440_r0 : BitVec 32 := 0#32
  let c0_i32_441_r0 : BitVec 32 := 0#32
  let c0_i32_442_r0 : BitVec 32 := 0#32
  ![v161_r0.toNat, 0, 0, 0]

def k0_chk7 (i : grid0.Coords) (k0_t3 : Fin (k0_t3_loop i).trips) (arg8_r0 : BitVec 32) : Prop :=
  (∀ (k0_h1 : k0_cond1 i = 1#1), ∀ a, (k0_off66 arg8_r0) a + S1x1x160x128.size a ≤ S2x1x160x128.size a) ∧
  (∀ (k0_h1 : k0_cond1 i = 1#1), ∀ a, (k0_off74 arg8_r0) a + S1x1x160x128.size a ≤ S2x1x160x128.size a)
theorem k0_off66_inb : ∀ (i : grid0.Coords) (k0_t3 : Fin (k0_t3_loop i).trips) (arg8_r0 : BitVec 32) (k0_hw7 : k0_chk7 i k0_t3 arg8_r0), ∀ (k0_h1 : k0_cond1 i = 1#1), ∀ a, (k0_off66 arg8_r0) a + S1x1x160x128.size a ≤ S2x1x160x128.size a := fun i k0_t3 arg8_r0 k0_hw7 k0_h1 => k0_hw7.1 k0_h1
theorem k0_off74_inb : ∀ (i : grid0.Coords) (k0_t3 : Fin (k0_t3_loop i).trips) (arg8_r0 : BitVec 32) (k0_hw7 : k0_chk7 i k0_t3 arg8_r0), ∀ (k0_h1 : k0_cond1 i = 1#1), ∀ a, (k0_off74 arg8_r0) a + S1x1x160x128.size a ≤ S2x1x160x128.size a := fun i k0_t3 arg8_r0 k0_hw7 k0_h1 => k0_hw7.2 k0_h1

def k0_off75 (k0_t4 : Fin k0_t4_loop.trips) (c0_i32_438_r0 : BitVec 32) (c0_i32_439_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v630_r0 : BitVec 32 := Scalar.addi v232_r0 c0_i32_438_r0
  let v631_r0 : BitVec 32 := Scalar.addi v630_r0 c0_i32_439_r0
  let v636_r0 : Index := Scalar.indexCast v631_r0
  let c16_r0 : Index := 16#32
  ![v636_r0.toNat, 16]
def k0_off76 (arg9_r0 : BitVec 32) : Fin 4 → Nat :=
  let c2_i32_103_r0 : BitVec 32 := 2#32
  let v162_r0 : BitVec 32 := Scalar.remui arg9_r0 c2_i32_103_r0
  let c0_i32_571_r0 : BitVec 32 := 0#32
  let c0_i32_572_r0 : BitVec 32 := 0#32
  let c0_i32_573_r0 : BitVec 32 := 0#32
  ![v162_r0.toNat, 0, 0, 0]

def k0_chk8 (i : grid0.Coords) (k0_t3 : Fin (k0_t3_loop i).trips) (arg9_r0 : BitVec 32) : Prop :=
  (∀ (k0_h1 : k0_cond1 i = 1#1), ∀ a, (k0_off68 arg9_r0) a + S1x1x160x128.size a ≤ S2x1x160x128.size a) ∧
  (∀ (k0_h1 : k0_cond1 i = 1#1), ∀ a, (k0_off76 arg9_r0) a + S1x1x160x128.size a ≤ S2x1x160x128.size a)
theorem k0_off68_inb : ∀ (i : grid0.Coords) (k0_t3 : Fin (k0_t3_loop i).trips) (arg9_r0 : BitVec 32) (k0_hw8 : k0_chk8 i k0_t3 arg9_r0), ∀ (k0_h1 : k0_cond1 i = 1#1), ∀ a, (k0_off68 arg9_r0) a + S1x1x160x128.size a ≤ S2x1x160x128.size a := fun i k0_t3 arg9_r0 k0_hw8 k0_h1 => k0_hw8.1 k0_h1
theorem k0_off76_inb : ∀ (i : grid0.Coords) (k0_t3 : Fin (k0_t3_loop i).trips) (arg9_r0 : BitVec 32) (k0_hw8 : k0_chk8 i k0_t3 arg9_r0), ∀ (k0_h1 : k0_cond1 i = 1#1), ∀ a, (k0_off76 arg9_r0) a + S1x1x160x128.size a ≤ S2x1x160x128.size a := fun i k0_t3 arg9_r0 k0_hw8 k0_h1 => k0_hw8.2 k0_h1

def k0_off77 (arg11_r0 : BitVec 32) : Fin 4 → Nat :=
  let c2_i32_104_r0 : BitVec 32 := 2#32
  let v163_r0 : BitVec 32 := Scalar.remui arg11_r0 c2_i32_104_r0
  let c0_i32_700_r0 : BitVec 32 := 0#32
  let c0_i32_701_r0 : BitVec 32 := 0#32
  let c0_i32_702_r0 : BitVec 32 := 0#32
  ![v163_r0.toNat, 0, 0, 0]

def k0_chk9 (i : grid0.Coords) (k0_t3 : Fin (k0_t3_loop i).trips) (arg11_r0 : BitVec 32) : Prop :=
  (∀ (k0_h1 : k0_cond1 i = 1#1), ∀ a, (k0_off70 arg11_r0) a + S1x1x40x128.size a ≤ S2x1x40x128.size a) ∧
  (∀ (k0_h1 : k0_cond1 i = 1#1), ∀ a, (k0_off77 arg11_r0) a + S1x1x40x128.size a ≤ S2x1x40x128.size a)
theorem k0_off70_inb : ∀ (i : grid0.Coords) (k0_t3 : Fin (k0_t3_loop i).trips) (arg11_r0 : BitVec 32) (k0_hw9 : k0_chk9 i k0_t3 arg11_r0), ∀ (k0_h1 : k0_cond1 i = 1#1), ∀ a, (k0_off70 arg11_r0) a + S1x1x40x128.size a ≤ S2x1x40x128.size a := fun i k0_t3 arg11_r0 k0_hw9 k0_h1 => k0_hw9.1 k0_h1
theorem k0_off77_inb : ∀ (i : grid0.Coords) (k0_t3 : Fin (k0_t3_loop i).trips) (arg11_r0 : BitVec 32) (k0_hw9 : k0_chk9 i k0_t3 arg11_r0), ∀ (k0_h1 : k0_cond1 i = 1#1), ∀ a, (k0_off77 arg11_r0) a + S1x1x40x128.size a ≤ S2x1x40x128.size a := fun i k0_t3 arg11_r0 k0_hw9 k0_h1 => k0_hw9.2 k0_h1

def k0_off78 (k0_t4 : Fin k0_t4_loop.trips) (c0_i32_699_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_698_r0 : BitVec 32 := 4#32
  let v976_r0 : BitVec 32 := Scalar.muli v231_r0 c4_i32_698_r0
  let v977_r0 : BitVec 32 := Scalar.addi v976_r0 c0_i32_699_r0
  let v982_r0 : Index := Scalar.indexCast v977_r0
  let c16_705_r0 : Index := 16#32
  ![v982_r0.toNat, 16]
def k0_off79 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v1023_r0 : Index := Scalar.indexCast v231_r0
  let c16_735_r0 : Index := 16#32
  ![v1023_r0.toNat, 16]
def k0_off80 (k0_t4 : Fin k0_t4_loop.trips) (c0_i32_736_r0 : BitVec 32) (c0_i32_737_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1027_r0 : BitVec 32 := Scalar.addi v232_r0 c0_i32_736_r0
  let v1028_r0 : BitVec 32 := Scalar.addi v1027_r0 c0_i32_737_r0
  let v1033_r0 : Index := Scalar.indexCast v1028_r0
  let c32_r0 : Index := 32#32
  ![v1033_r0.toNat, 32]
def k0_off81 (k0_t4 : Fin k0_t4_loop.trips) (c0_i32_997_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_996_r0 : BitVec 32 := 4#32
  let v1373_r0 : BitVec 32 := Scalar.muli v231_r0 c4_i32_996_r0
  let v1374_r0 : BitVec 32 := Scalar.addi v1373_r0 c0_i32_997_r0
  let v1379_r0 : Index := Scalar.indexCast v1374_r0
  let c32_1003_r0 : Index := 32#32
  ![v1379_r0.toNat, 32]
def k0_off82 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v1420_r0 : Index := Scalar.indexCast v231_r0
  let c32_1033_r0 : Index := 32#32
  ![v1420_r0.toNat, 32]
def k0_off83 (k0_t4 : Fin k0_t4_loop.trips) (c0_i32_1034_r0 : BitVec 32) (c0_i32_1035_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1424_r0 : BitVec 32 := Scalar.addi v232_r0 c0_i32_1034_r0
  let v1425_r0 : BitVec 32 := Scalar.addi v1424_r0 c0_i32_1035_r0
  let v1430_r0 : Index := Scalar.indexCast v1425_r0
  let c48_r0 : Index := 48#32
  ![v1430_r0.toNat, 48]
def k0_off84 (k0_t4 : Fin k0_t4_loop.trips) (c0_i32_1295_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_1294_r0 : BitVec 32 := 4#32
  let v1770_r0 : BitVec 32 := Scalar.muli v231_r0 c4_i32_1294_r0
  let v1771_r0 : BitVec 32 := Scalar.addi v1770_r0 c0_i32_1295_r0
  let v1776_r0 : Index := Scalar.indexCast v1771_r0
  let c48_1301_r0 : Index := 48#32
  ![v1776_r0.toNat, 48]
def k0_off85 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v1817_r0 : Index := Scalar.indexCast v231_r0
  let c48_1331_r0 : Index := 48#32
  ![v1817_r0.toNat, 48]
def k0_off86 (k0_t4 : Fin k0_t4_loop.trips) (c0_i32_1332_r0 : BitVec 32) (c0_i32_1333_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v1821_r0 : BitVec 32 := Scalar.addi v232_r0 c0_i32_1332_r0
  let v1822_r0 : BitVec 32 := Scalar.addi v1821_r0 c0_i32_1333_r0
  let v1827_r0 : Index := Scalar.indexCast v1822_r0
  let c64_r0 : Index := 64#32
  ![v1827_r0.toNat, 64]
def k0_off87 (k0_t4 : Fin k0_t4_loop.trips) (c0_i32_1593_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_1592_r0 : BitVec 32 := 4#32
  let v2167_r0 : BitVec 32 := Scalar.muli v231_r0 c4_i32_1592_r0
  let v2168_r0 : BitVec 32 := Scalar.addi v2167_r0 c0_i32_1593_r0
  let v2173_r0 : Index := Scalar.indexCast v2168_r0
  let c64_1599_r0 : Index := 64#32
  ![v2173_r0.toNat, 64]
def k0_off88 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v2214_r0 : Index := Scalar.indexCast v231_r0
  let c64_1629_r0 : Index := 64#32
  ![v2214_r0.toNat, 64]
def k0_off89 (k0_t4 : Fin k0_t4_loop.trips) (c0_i32_1630_r0 : BitVec 32) (c0_i32_1631_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v2218_r0 : BitVec 32 := Scalar.addi v232_r0 c0_i32_1630_r0
  let v2219_r0 : BitVec 32 := Scalar.addi v2218_r0 c0_i32_1631_r0
  let v2224_r0 : Index := Scalar.indexCast v2219_r0
  let c80_r0 : Index := 80#32
  ![v2224_r0.toNat, 80]
def k0_off90 (k0_t4 : Fin k0_t4_loop.trips) (c0_i32_1891_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_1890_r0 : BitVec 32 := 4#32
  let v2564_r0 : BitVec 32 := Scalar.muli v231_r0 c4_i32_1890_r0
  let v2565_r0 : BitVec 32 := Scalar.addi v2564_r0 c0_i32_1891_r0
  let v2570_r0 : Index := Scalar.indexCast v2565_r0
  let c80_1897_r0 : Index := 80#32
  ![v2570_r0.toNat, 80]
def k0_off91 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v2611_r0 : Index := Scalar.indexCast v231_r0
  let c80_1927_r0 : Index := 80#32
  ![v2611_r0.toNat, 80]
def k0_off92 (k0_t4 : Fin k0_t4_loop.trips) (c0_i32_1928_r0 : BitVec 32) (c0_i32_1929_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v2615_r0 : BitVec 32 := Scalar.addi v232_r0 c0_i32_1928_r0
  let v2616_r0 : BitVec 32 := Scalar.addi v2615_r0 c0_i32_1929_r0
  let v2621_r0 : Index := Scalar.indexCast v2616_r0
  let c96_r0 : Index := 96#32
  ![v2621_r0.toNat, 96]
def k0_off93 (k0_t4 : Fin k0_t4_loop.trips) (c0_i32_2189_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_2188_r0 : BitVec 32 := 4#32
  let v2961_r0 : BitVec 32 := Scalar.muli v231_r0 c4_i32_2188_r0
  let v2962_r0 : BitVec 32 := Scalar.addi v2961_r0 c0_i32_2189_r0
  let v2967_r0 : Index := Scalar.indexCast v2962_r0
  let c96_2195_r0 : Index := 96#32
  ![v2967_r0.toNat, 96]
def k0_off94 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v3008_r0 : Index := Scalar.indexCast v231_r0
  let c96_2225_r0 : Index := 96#32
  ![v3008_r0.toNat, 96]
def k0_off95 (k0_t4 : Fin k0_t4_loop.trips) (c0_i32_2226_r0 : BitVec 32) (c0_i32_2227_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c16_i32_144_r0 : BitVec 32 := 16#32
  let v232_r0 : BitVec 32 := Scalar.muli v231_r0 c16_i32_144_r0
  let v3012_r0 : BitVec 32 := Scalar.addi v232_r0 c0_i32_2226_r0
  let v3013_r0 : BitVec 32 := Scalar.addi v3012_r0 c0_i32_2227_r0
  let v3018_r0 : Index := Scalar.indexCast v3013_r0
  let c112_r0 : Index := 112#32
  ![v3018_r0.toNat, 112]
def k0_off96 (k0_t4 : Fin k0_t4_loop.trips) (c0_i32_2487_r0 : BitVec 32) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let c4_i32_2486_r0 : BitVec 32 := 4#32
  let v3358_r0 : BitVec 32 := Scalar.muli v231_r0 c4_i32_2486_r0
  let v3359_r0 : BitVec 32 := Scalar.addi v3358_r0 c0_i32_2487_r0
  let v3364_r0 : Index := Scalar.indexCast v3359_r0
  let c112_2493_r0 : Index := 112#32
  ![v3364_r0.toNat, 112]
def k0_off97 (k0_t4 : Fin k0_t4_loop.trips) : Fin 2 → Nat :=
  let c0_i32_143_r0 : BitVec 32 := 0#32
  let c0_i32_110_r0 : BitVec 32 := 0#32
  let c1_i32_111_r0 : BitVec 32 := 1#32
  let arg16_r0 : BitVec 32 := Scf.iv c0_i32_110_r0 c1_i32_111_r0 k0_t4
  let c1_i32_142_r0 : BitVec 32 := 1#32
  let v230_r0 : BitVec 32 := Scalar.muli arg16_r0 c1_i32_142_r0
  let v231_r0 : BitVec 32 := Scalar.addi c0_i32_143_r0 v230_r0
  let v3405_r0 : Index := Scalar.indexCast v231_r0
  let c112_2523_r0 : Index := 112#32
  ![v3405_r0.toNat, 112]
def k0_off98 (arg9_r0 : BitVec 32) : Fin 4 → Nat :=
  let c2_i32_142_r0 : BitVec 32 := 2#32
  let v230_r0 : BitVec 32 := Scalar.remui arg9_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond22 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v171_r0 : BitVec 1 := Scalar.cmpi .ne v90_r0 v101_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v172_r0 : BitVec 1 := Scalar.ori v171_r0 v89_r0
  let v173_r0 : BitVec 32 := Scalar.extui v172_r0
  let c0_i32_114_r0 : BitVec 32 := 0#32
  let v174_r0 : BitVec 1 := Scalar.cmpi .ne v173_r0 c0_i32_114_r0
  v174_r0

def k0_off99 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off100 (arg9_r0 : BitVec 32) : Fin 1 → Nat :=
  let c2_i32_142_r0 : BitVec 32 := 2#32
  let v230_r0 : BitVec 32 := Scalar.remui arg9_r0 c2_i32_142_r0
  ![v230_r0.toNat]
def k0_off101 (arg11_r0 : BitVec 32) : Fin 4 → Nat :=
  let c2_i32_142_r0 : BitVec 32 := 2#32
  let v230_r0 : BitVec 32 := Scalar.remui arg11_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond23 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v178_r0 : BitVec 1 := Scalar.cmpi .ne v90_r0 v101_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v179_r0 : BitVec 1 := Scalar.ori v178_r0 v89_r0
  let v180_r0 : BitVec 32 := Scalar.extui v179_r0
  let c0_i32_117_r0 : BitVec 32 := 0#32
  let v181_r0 : BitVec 1 := Scalar.cmpi .ne v180_r0 c0_i32_117_r0
  v181_r0

def k0_off102 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off103 (arg11_r0 : BitVec 32) : Fin 1 → Nat :=
  let c2_i32_142_r0 : BitVec 32 := 2#32
  let v230_r0 : BitVec 32 := Scalar.remui arg11_r0 c2_i32_142_r0
  ![v230_r0.toNat]
def k0_off104 (arg13_r0 : BitVec 32) : Fin 4 → Nat :=
  let c2_i32_142_r0 : BitVec 32 := 2#32
  let v230_r0 : BitVec 32 := Scalar.remui arg13_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond24 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_73_r0 : BitVec 1 := 1#1
  let c1_i32_72_r0 : BitVec 32 := 1#32
  let v97_r0 : BitVec 32 := Scalar.addi arg15_r0 c1_i32_72_r0
  let v98_r0 : BitVec 32 := Scalar.select true_73_r0 v97_r0 arg15_r0
  let v99_r0 : BitVec 1 := Scalar.cmpi .eq v98_r0 v5
  let c0_i32_74_r0 : BitVec 32 := 0#32
  let v100_r0 : BitVec 32 := Scalar.select v99_r0 c0_i32_74_r0 v98_r0
  let v101_r0 : BitVec 32 := Scalar.addi v100_r0 v10
  let v185_r0 : BitVec 1 := Scalar.cmpi .ne v90_r0 v101_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c1_i32_65_r0 : BitVec 32 := 1#32
  let v86_r0 : BitVec 32 := Scalar.muli c1_i32_65_r0 v5
  let c1_i32_67_r0 : BitVec 32 := 1#32
  let v88_r0 : BitVec 32 := Scalar.subi v86_r0 c1_i32_67_r0
  let v89_r0 : BitVec 1 := Scalar.cmpi .eq arg6_r0 v88_r0
  let v186_r0 : BitVec 1 := Scalar.ori v185_r0 v89_r0
  let v187_r0 : BitVec 32 := Scalar.extui v186_r0
  let c0_i32_120_r0 : BitVec 32 := 0#32
  let v188_r0 : BitVec 1 := Scalar.cmpi .ne v187_r0 c0_i32_120_r0
  v188_r0

def k0_off105 (i : grid0.Coords) (arg15_r0 : BitVec 32) : Fin 3 → Nat :=
  let c1_i32_143_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let v231_r0 : BitVec 32 := Scalar.muli c1_i32_143_r0 v90_r0
  let c0_i32_147_r0 : BitVec 32 := 0#32
  let c0_i32_148_r0 : BitVec 32 := 0#32
  ![v231_r0.toNat, 0, 0]
def k0_off106 (arg13_r0 : BitVec 32) : Fin 1 → Nat :=
  let c2_i32_142_r0 : BitVec 32 := 2#32
  let v230_r0 : BitVec 32 := Scalar.remui arg13_r0 c2_i32_142_r0
  ![v230_r0.toNat]
def k0_off107 (arg10_r0 : BitVec 32) : Fin 4 → Nat :=
  let c2_i32_142_r0 : BitVec 32 := 2#32
  let v230_r0 : BitVec 32 := Scalar.remui arg10_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond26 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v198_r0 : BitVec 1 := Scalar.cmpi .ne v90_r0 v96_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c0_i32_66_r0 : BitVec 32 := 0#32
  let v87_r0 : BitVec 1 := Scalar.cmpi .eq arg6_r0 c0_i32_66_r0
  let true_126_r0 : BitVec 1 := 1#1
  let v199_r0 : BitVec 1 := Scalar.xori v87_r0 true_126_r0
  let v200_r0 : BitVec 1 := Scalar.andi v198_r0 v199_r0
  let v201_r0 : BitVec 32 := Scalar.extui v200_r0
  let c0_i32_127_r0 : BitVec 32 := 0#32
  let v202_r0 : BitVec 1 := Scalar.cmpi .ne v201_r0 c0_i32_127_r0
  v202_r0

def k0_off108 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off109 (arg10_r0 : BitVec 32) : Fin 1 → Nat :=
  let c2_i32_142_r0 : BitVec 32 := 2#32
  let v230_r0 : BitVec 32 := Scalar.remui arg10_r0 c2_i32_142_r0
  ![v230_r0.toNat]
def k0_off110 (arg12_r0 : BitVec 32) : Fin 4 → Nat :=
  let c2_i32_142_r0 : BitVec 32 := 2#32
  let v230_r0 : BitVec 32 := Scalar.remui arg12_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond27 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v206_r0 : BitVec 1 := Scalar.cmpi .ne v90_r0 v96_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c0_i32_66_r0 : BitVec 32 := 0#32
  let v87_r0 : BitVec 1 := Scalar.cmpi .eq arg6_r0 c0_i32_66_r0
  let true_130_r0 : BitVec 1 := 1#1
  let v207_r0 : BitVec 1 := Scalar.xori v87_r0 true_130_r0
  let v208_r0 : BitVec 1 := Scalar.andi v206_r0 v207_r0
  let v209_r0 : BitVec 32 := Scalar.extui v208_r0
  let c0_i32_131_r0 : BitVec 32 := 0#32
  let v210_r0 : BitVec 1 := Scalar.cmpi .ne v209_r0 c0_i32_131_r0
  v210_r0

def k0_off111 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off112 (arg12_r0 : BitVec 32) : Fin 1 → Nat :=
  let c2_i32_142_r0 : BitVec 32 := 2#32
  let v230_r0 : BitVec 32 := Scalar.remui arg12_r0 c2_i32_142_r0
  ![v230_r0.toNat]
def k0_off113 (arg14_r0 : BitVec 32) : Fin 4 → Nat :=
  let c2_i32_142_r0 : BitVec 32 := 2#32
  let v230_r0 : BitVec 32 := Scalar.remui arg14_r0 c2_i32_142_r0
  let c0_i32_144_r0 : BitVec 32 := 0#32
  let c0_i32_145_r0 : BitVec 32 := 0#32
  let c0_i32_146_r0 : BitVec 32 := 0#32
  ![v230_r0.toNat, 0, 0, 0]
def k0_cond28 (i : grid0.Coords) (k0_t3 : Fin (k0_t3_loop i).trips) (arg15_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi arg15_r0 v10
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c1_i32_71_r0 : BitVec 32 := 1#32
  let v94_r0 : BitVec 32 := Scalar.subi v5 c1_i32_71_r0
  let v95_r0 : BitVec 32 := Scalar.select v93_r0 v94_r0 v92_r0
  let v96_r0 : BitVec 32 := Scalar.addi v95_r0 v10
  let v214_r0 : BitVec 1 := Scalar.cmpi .ne v90_r0 v96_r0
  let c0_i32_31_r0 : BitVec 32 := 0#32
  let c1_i32_3 : BitVec 32 := 1#32
  let v11 : BitVec 32 := Scalar.muli c1_i32_3 v5
  let v44_r0 : BitVec 32 := Scalar.subi v11 c0_i32_31_r0
  let c1_i32_40_r0 : BitVec 32 := 1#32
  let v46_r0 : BitVec 32 := Scalar.divsi v44_r0 c1_i32_40_r0
  let v47_r0 : BitVec 32 := Scalar.muli v46_r0 c1_i32_40_r0
  let v48_r0 : BitVec 32 := Scalar.addi c0_i32_31_r0 v47_r0
  let c1_i32_42_r0 : BitVec 32 := 1#32
  let arg6_r0 : BitVec 32 := Scf.iv v48_r0 c1_i32_42_r0 k0_t3
  let c0_i32_66_r0 : BitVec 32 := 0#32
  let v87_r0 : BitVec 1 := Scalar.cmpi .eq arg6_r0 c0_i32_66_r0
  let true_134_r0 : BitVec 1 := 1#1
  let v215_r0 : BitVec 1 := Scalar.xori v87_r0 true_134_r0
  let v216_r0 : BitVec 1 := Scalar.andi v214_r0 v215_r0
  let v217_r0 : BitVec 32 := Scalar.extui v216_r0
  let c0_i32_135_r0 : BitVec 32 := 0#32
  let v218_r0 : BitVec 1 := Scalar.cmpi .ne v217_r0 c0_i32_135_r0
  v218_r0

def k0_off114 (i : grid0.Coords) (arg15_r0 : BitVec 32) : Fin 3 → Nat :=
  let c1_i32_143_r0 : BitVec 32 := 1#32
  let true_69_r0 : BitVec 1 := 1#1
  let c1_i32_68_r0 : BitVec 32 := 1#32
  let v91_r0 : BitVec 32 := Scalar.subi arg15_r0 c1_i32_68_r0
  let v92_r0 : BitVec 32 := Scalar.select true_69_r0 v91_r0 arg15_r0
  let c_m1_i32_70_r0 : BitVec 32 := 4294967295#32
  let v93_r0 : BitVec 1 := Scalar.cmpi .eq v92_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_71_r0 : BitVec 32 := 1#32
  let v94_r0 : BitVec 32 := Scalar.subi v5 c1_i32_71_r0
  let v95_r0 : BitVec 32 := Scalar.select v93_r0 v94_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v96_r0 : BitVec 32 := Scalar.addi v95_r0 v10
  let v231_r0 : BitVec 32 := Scalar.muli c1_i32_143_r0 v96_r0
  let c0_i32_147_r0 : BitVec 32 := 0#32
  let c0_i32_148_r0 : BitVec 32 := 0#32
  ![v231_r0.toNat, 0, 0]
def k0_off115 (arg14_r0 : BitVec 32) : Fin 1 → Nat :=
  let c2_i32_142_r0 : BitVec 32 := 2#32
  let v230_r0 : BitVec 32 := Scalar.remui arg14_r0 c2_i32_142_r0
  ![v230_r0.toNat]

def k0_chk6 (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h1 : k0_cond1 i = 1#1), ∀ (k0_h16 : k0_cond16 i k0_t3 arg15_r0 = 1#1), ∀ a, (k0_off60 arg7_r0) a + S1x1x160x128.size a ≤ S2x1x160x128.size a) ∧
  (∀ (k0_h1 : k0_cond1 i = 1#1), ∀ (k0_h16 : k0_cond16 i k0_t3 arg15_r0 = 1#1), ∀ a, (k0_off61 i arg15_r0) a + S1x160x128.size a ≤ S1250x160x128.size a) ∧
  (∀ (k0_h1 : k0_cond1 i = 1#1), ∀ (k0_h16 : k0_cond16 i k0_t3 arg15_r0 = 1#1), ∀ a, (k0_off62 arg7_r0) a + S1.size a ≤ S2.size a) ∧
  (∀ (k0_h1 : k0_cond1 i = 1#1), ∀ (k0_h17 : k0_cond17 i k0_t3 arg15_r0 = 1#1), ∀ a, (k0_off63 arg8_r0) a + S1x1x160x128.size a ≤ S2x1x160x128.size a) ∧
  (∀ (k0_h1 : k0_cond1 i = 1#1), ∀ (k0_h17 : k0_cond17 i k0_t3 arg15_r0 = 1#1), ∀ a, (k0_off64 i arg15_r0) a + S1x160x128.size a ≤ S1250x160x128.size a) ∧
  (∀ (k0_h1 : k0_cond1 i = 1#1), ∀ (k0_h17 : k0_cond17 i k0_t3 arg15_r0 = 1#1), ∀ a, (k0_off65 arg8_r0) a + S1.size a ≤ S2.size a) ∧
  (∀ (k0_h1 : k0_cond1 i = 1#1), ∀ (k0_h22 : k0_cond22 i k0_t3 arg15_r0 = 1#1), ∀ a, (k0_off98 arg9_r0) a + S1x1x160x128.size a ≤ S2x1x160x128.size a) ∧
  (∀ (k0_h1 : k0_cond1 i = 1#1), ∀ (k0_h22 : k0_cond22 i k0_t3 arg15_r0 = 1#1), ∀ a, (k0_off99 i arg15_r0) a + S1x160x128.size a ≤ S1250x160x128.size a) ∧
  (∀ (k0_h1 : k0_cond1 i = 1#1), ∀ (k0_h22 : k0_cond22 i k0_t3 arg15_r0 = 1#1), ∀ a, (k0_off100 arg9_r0) a + S1.size a ≤ S2.size a) ∧
  (∀ (k0_h1 : k0_cond1 i = 1#1), ∀ (k0_h23 : k0_cond23 i k0_t3 arg15_r0 = 1#1), ∀ a, (k0_off101 arg11_r0) a + S1x1x40x128.size a ≤ S2x1x40x128.size a) ∧
  (∀ (k0_h1 : k0_cond1 i = 1#1), ∀ (k0_h23 : k0_cond23 i k0_t3 arg15_r0 = 1#1), ∀ a, (k0_off102 i arg15_r0) a + S1x40x128.size a ≤ S1250x40x128.size a) ∧
  (∀ (k0_h1 : k0_cond1 i = 1#1), ∀ (k0_h23 : k0_cond23 i k0_t3 arg15_r0 = 1#1), ∀ a, (k0_off103 arg11_r0) a + S1.size a ≤ S2.size a) ∧
  (∀ (k0_h1 : k0_cond1 i = 1#1), ∀ (k0_h24 : k0_cond24 i k0_t3 arg15_r0 = 1#1), ∀ a, (k0_off104 arg13_r0) a + S1x1x10x128.size a ≤ S2x1x10x128.size a) ∧
  (∀ (k0_h1 : k0_cond1 i = 1#1), ∀ (k0_h24 : k0_cond24 i k0_t3 arg15_r0 = 1#1), ∀ a, (k0_off105 i arg15_r0) a + S1x10x128.size a ≤ S1250x10x128.size a) ∧
  (∀ (k0_h1 : k0_cond1 i = 1#1), ∀ (k0_h24 : k0_cond24 i k0_t3 arg15_r0 = 1#1), ∀ a, (k0_off106 arg13_r0) a + S1.size a ≤ S2.size a) ∧
  (∀ (k0_h1 : k0_cond1 i = 1#1), ∀ (k0_h26 : k0_cond26 i k0_t3 arg15_r0 = 1#1), ∀ a, (k0_off107 arg10_r0) a + S1x1x160x128.size a ≤ S2x1x160x128.size a) ∧
  (∀ (k0_h1 : k0_cond1 i = 1#1), ∀ (k0_h26 : k0_cond26 i k0_t3 arg15_r0 = 1#1), ∀ a, (k0_off108 i arg15_r0) a + S1x160x128.size a ≤ S1250x160x128.size a) ∧
  (∀ (k0_h1 : k0_cond1 i = 1#1), ∀ (k0_h26 : k0_cond26 i k0_t3 arg15_r0 = 1#1), ∀ a, (k0_off109 arg10_r0) a + S1.size a ≤ S2.size a) ∧
  (∀ (k0_h1 : k0_cond1 i = 1#1), ∀ (k0_h27 : k0_cond27 i k0_t3 arg15_r0 = 1#1), ∀ a, (k0_off110 arg12_r0) a + S1x1x40x128.size a ≤ S2x1x40x128.size a) ∧
  (∀ (k0_h1 : k0_cond1 i = 1#1), ∀ (k0_h27 : k0_cond27 i k0_t3 arg15_r0 = 1#1), ∀ a, (k0_off111 i arg15_r0) a + S1x40x128.size a ≤ S1250x40x128.size a) ∧
  (∀ (k0_h1 : k0_cond1 i = 1#1), ∀ (k0_h27 : k0_cond27 i k0_t3 arg15_r0 = 1#1), ∀ a, (k0_off112 arg12_r0) a + S1.size a ≤ S2.size a) ∧
  (∀ (k0_h1 : k0_cond1 i = 1#1), ∀ (k0_h28 : k0_cond28 i k0_t3 arg15_r0 = 1#1), ∀ a, (k0_off113 arg14_r0) a + S1x1x10x128.size a ≤ S2x1x10x128.size a) ∧
  (∀ (k0_h1 : k0_cond1 i = 1#1), ∀ (k0_h28 : k0_cond28 i k0_t3 arg15_r0 = 1#1), ∀ a, (k0_off114 i arg15_r0) a + S1x10x128.size a ≤ S1250x10x128.size a) ∧
  (∀ (k0_h1 : k0_cond1 i = 1#1), ∀ (k0_h28 : k0_cond28 i k0_t3 arg15_r0 = 1#1), ∀ a, (k0_off115 arg14_r0) a + S1.size a ≤ S2.size a)
theorem k0_off60_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h16 : k0_cond16 i k0_t3 arg15_r0 = 1#1), ∀ a, (k0_off60 arg7_r0) a + S1x1x160x128.size a ≤ S2x1x160x128.size a := fun i k0_t3 arg7_r0 arg8_r0 arg9_r0 arg10_r0 arg11_r0 arg12_r0 arg13_r0 arg14_r0 arg15_r0 k0_hw6 k0_h1 k0_h16 => k0_hw6.1 k0_h1 k0_h16
theorem k0_off61_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h16 : k0_cond16 i k0_t3 arg15_r0 = 1#1), ∀ a, (k0_off61 i arg15_r0) a + S1x160x128.size a ≤ S1250x160x128.size a := fun i k0_t3 arg7_r0 arg8_r0 arg9_r0 arg10_r0 arg11_r0 arg12_r0 arg13_r0 arg14_r0 arg15_r0 k0_hw6 k0_h1 k0_h16 => k0_hw6.2.1 k0_h1 k0_h16
theorem k0_off62_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h16 : k0_cond16 i k0_t3 arg15_r0 = 1#1), ∀ a, (k0_off62 arg7_r0) a + S1.size a ≤ S2.size a := fun i k0_t3 arg7_r0 arg8_r0 arg9_r0 arg10_r0 arg11_r0 arg12_r0 arg13_r0 arg14_r0 arg15_r0 k0_hw6 k0_h1 k0_h16 => k0_hw6.2.2.1 k0_h1 k0_h16
theorem k0_off63_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h17 : k0_cond17 i k0_t3 arg15_r0 = 1#1), ∀ a, (k0_off63 arg8_r0) a + S1x1x160x128.size a ≤ S2x1x160x128.size a := fun i k0_t3 arg7_r0 arg8_r0 arg9_r0 arg10_r0 arg11_r0 arg12_r0 arg13_r0 arg14_r0 arg15_r0 k0_hw6 k0_h1 k0_h17 => k0_hw6.2.2.2.1 k0_h1 k0_h17
theorem k0_off64_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h17 : k0_cond17 i k0_t3 arg15_r0 = 1#1), ∀ a, (k0_off64 i arg15_r0) a + S1x160x128.size a ≤ S1250x160x128.size a := fun i k0_t3 arg7_r0 arg8_r0 arg9_r0 arg10_r0 arg11_r0 arg12_r0 arg13_r0 arg14_r0 arg15_r0 k0_hw6 k0_h1 k0_h17 => k0_hw6.2.2.2.2.1 k0_h1 k0_h17
theorem k0_off65_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h17 : k0_cond17 i k0_t3 arg15_r0 = 1#1), ∀ a, (k0_off65 arg8_r0) a + S1.size a ≤ S2.size a := fun i k0_t3 arg7_r0 arg8_r0 arg9_r0 arg10_r0 arg11_r0 arg12_r0 arg13_r0 arg14_r0 arg15_r0 k0_hw6 k0_h1 k0_h17 => k0_hw6.2.2.2.2.2.1 k0_h1 k0_h17
theorem k0_off98_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h22 : k0_cond22 i k0_t3 arg15_r0 = 1#1), ∀ a, (k0_off98 arg9_r0) a + S1x1x160x128.size a ≤ S2x1x160x128.size a := fun i k0_t3 arg7_r0 arg8_r0 arg9_r0 arg10_r0 arg11_r0 arg12_r0 arg13_r0 arg14_r0 arg15_r0 k0_hw6 k0_h1 k0_h22 => k0_hw6.2.2.2.2.2.2.1 k0_h1 k0_h22
theorem k0_off99_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h22 : k0_cond22 i k0_t3 arg15_r0 = 1#1), ∀ a, (k0_off99 i arg15_r0) a + S1x160x128.size a ≤ S1250x160x128.size a := fun i k0_t3 arg7_r0 arg8_r0 arg9_r0 arg10_r0 arg11_r0 arg12_r0 arg13_r0 arg14_r0 arg15_r0 k0_hw6 k0_h1 k0_h22 => k0_hw6.2.2.2.2.2.2.2.1 k0_h1 k0_h22
theorem k0_off100_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h22 : k0_cond22 i k0_t3 arg15_r0 = 1#1), ∀ a, (k0_off100 arg9_r0) a + S1.size a ≤ S2.size a := fun i k0_t3 arg7_r0 arg8_r0 arg9_r0 arg10_r0 arg11_r0 arg12_r0 arg13_r0 arg14_r0 arg15_r0 k0_hw6 k0_h1 k0_h22 => k0_hw6.2.2.2.2.2.2.2.2.1 k0_h1 k0_h22
theorem k0_off101_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h23 : k0_cond23 i k0_t3 arg15_r0 = 1#1), ∀ a, (k0_off101 arg11_r0) a + S1x1x40x128.size a ≤ S2x1x40x128.size a := fun i k0_t3 arg7_r0 arg8_r0 arg9_r0 arg10_r0 arg11_r0 arg12_r0 arg13_r0 arg14_r0 arg15_r0 k0_hw6 k0_h1 k0_h23 => k0_hw6.2.2.2.2.2.2.2.2.2.1 k0_h1 k0_h23
theorem k0_off102_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h23 : k0_cond23 i k0_t3 arg15_r0 = 1#1), ∀ a, (k0_off102 i arg15_r0) a + S1x40x128.size a ≤ S1250x40x128.size a := fun i k0_t3 arg7_r0 arg8_r0 arg9_r0 arg10_r0 arg11_r0 arg12_r0 arg13_r0 arg14_r0 arg15_r0 k0_hw6 k0_h1 k0_h23 => k0_hw6.2.2.2.2.2.2.2.2.2.2.1 k0_h1 k0_h23
theorem k0_off103_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h23 : k0_cond23 i k0_t3 arg15_r0 = 1#1), ∀ a, (k0_off103 arg11_r0) a + S1.size a ≤ S2.size a := fun i k0_t3 arg7_r0 arg8_r0 arg9_r0 arg10_r0 arg11_r0 arg12_r0 arg13_r0 arg14_r0 arg15_r0 k0_hw6 k0_h1 k0_h23 => k0_hw6.2.2.2.2.2.2.2.2.2.2.2.1 k0_h1 k0_h23
theorem k0_off104_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h24 : k0_cond24 i k0_t3 arg15_r0 = 1#1), ∀ a, (k0_off104 arg13_r0) a + S1x1x10x128.size a ≤ S2x1x10x128.size a := fun i k0_t3 arg7_r0 arg8_r0 arg9_r0 arg10_r0 arg11_r0 arg12_r0 arg13_r0 arg14_r0 arg15_r0 k0_hw6 k0_h1 k0_h24 => k0_hw6.2.2.2.2.2.2.2.2.2.2.2.2.1 k0_h1 k0_h24
theorem k0_off105_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h24 : k0_cond24 i k0_t3 arg15_r0 = 1#1), ∀ a, (k0_off105 i arg15_r0) a + S1x10x128.size a ≤ S1250x10x128.size a := fun i k0_t3 arg7_r0 arg8_r0 arg9_r0 arg10_r0 arg11_r0 arg12_r0 arg13_r0 arg14_r0 arg15_r0 k0_hw6 k0_h1 k0_h24 => k0_hw6.2.2.2.2.2.2.2.2.2.2.2.2.2.1 k0_h1 k0_h24
theorem k0_off106_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h24 : k0_cond24 i k0_t3 arg15_r0 = 1#1), ∀ a, (k0_off106 arg13_r0) a + S1.size a ≤ S2.size a := fun i k0_t3 arg7_r0 arg8_r0 arg9_r0 arg10_r0 arg11_r0 arg12_r0 arg13_r0 arg14_r0 arg15_r0 k0_hw6 k0_h1 k0_h24 => k0_hw6.2.2.2.2.2.2.2.2.2.2.2.2.2.2.1 k0_h1 k0_h24
theorem k0_off107_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h26 : k0_cond26 i k0_t3 arg15_r0 = 1#1), ∀ a, (k0_off107 arg10_r0) a + S1x1x160x128.size a ≤ S2x1x160x128.size a := fun i k0_t3 arg7_r0 arg8_r0 arg9_r0 arg10_r0 arg11_r0 arg12_r0 arg13_r0 arg14_r0 arg15_r0 k0_hw6 k0_h1 k0_h26 => k0_hw6.2.2.2.2.2.2.2.2.2.2.2.2.2.2.2.1 k0_h1 k0_h26
theorem k0_off108_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h26 : k0_cond26 i k0_t3 arg15_r0 = 1#1), ∀ a, (k0_off108 i arg15_r0) a + S1x160x128.size a ≤ S1250x160x128.size a := fun i k0_t3 arg7_r0 arg8_r0 arg9_r0 arg10_r0 arg11_r0 arg12_r0 arg13_r0 arg14_r0 arg15_r0 k0_hw6 k0_h1 k0_h26 => k0_hw6.2.2.2.2.2.2.2.2.2.2.2.2.2.2.2.2.1 k0_h1 k0_h26
theorem k0_off109_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h26 : k0_cond26 i k0_t3 arg15_r0 = 1#1), ∀ a, (k0_off109 arg10_r0) a + S1.size a ≤ S2.size a := fun i k0_t3 arg7_r0 arg8_r0 arg9_r0 arg10_r0 arg11_r0 arg12_r0 arg13_r0 arg14_r0 arg15_r0 k0_hw6 k0_h1 k0_h26 => k0_hw6.2.2.2.2.2.2.2.2.2.2.2.2.2.2.2.2.2.1 k0_h1 k0_h26
theorem k0_off110_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h27 : k0_cond27 i k0_t3 arg15_r0 = 1#1), ∀ a, (k0_off110 arg12_r0) a + S1x1x40x128.size a ≤ S2x1x40x128.size a := fun i k0_t3 arg7_r0 arg8_r0 arg9_r0 arg10_r0 arg11_r0 arg12_r0 arg13_r0 arg14_r0 arg15_r0 k0_hw6 k0_h1 k0_h27 => k0_hw6.2.2.2.2.2.2.2.2.2.2.2.2.2.2.2.2.2.2.1 k0_h1 k0_h27
theorem k0_off111_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h27 : k0_cond27 i k0_t3 arg15_r0 = 1#1), ∀ a, (k0_off111 i arg15_r0) a + S1x40x128.size a ≤ S1250x40x128.size a := fun i k0_t3 arg7_r0 arg8_r0 arg9_r0 arg10_r0 arg11_r0 arg12_r0 arg13_r0 arg14_r0 arg15_r0 k0_hw6 k0_h1 k0_h27 => k0_hw6.2.2.2.2.2.2.2.2.2.2.2.2.2.2.2.2.2.2.2.1 k0_h1 k0_h27
theorem k0_off112_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h27 : k0_cond27 i k0_t3 arg15_r0 = 1#1), ∀ a, (k0_off112 arg12_r0) a + S1.size a ≤ S2.size a := fun i k0_t3 arg7_r0 arg8_r0 arg9_r0 arg10_r0 arg11_r0 arg12_r0 arg13_r0 arg14_r0 arg15_r0 k0_hw6 k0_h1 k0_h27 => k0_hw6.2.2.2.2.2.2.2.2.2.2.2.2.2.2.2.2.2.2.2.2.1 k0_h1 k0_h27
theorem k0_off113_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h28 : k0_cond28 i k0_t3 arg15_r0 = 1#1), ∀ a, (k0_off113 arg14_r0) a + S1x1x10x128.size a ≤ S2x1x10x128.size a := fun i k0_t3 arg7_r0 arg8_r0 arg9_r0 arg10_r0 arg11_r0 arg12_r0 arg13_r0 arg14_r0 arg15_r0 k0_hw6 k0_h1 k0_h28 => k0_hw6.2.2.2.2.2.2.2.2.2.2.2.2.2.2.2.2.2.2.2.2.2.1 k0_h1 k0_h28
theorem k0_off114_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h28 : k0_cond28 i k0_t3 arg15_r0 = 1#1), ∀ a, (k0_off114 i arg15_r0) a + S1x10x128.size a ≤ S1250x10x128.size a := fun i k0_t3 arg7_r0 arg8_r0 arg9_r0 arg10_r0 arg11_r0 arg12_r0 arg13_r0 arg14_r0 arg15_r0 k0_hw6 k0_h1 k0_h28 => k0_hw6.2.2.2.2.2.2.2.2.2.2.2.2.2.2.2.2.2.2.2.2.2.2.1 k0_h1 k0_h28
theorem k0_off115_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw6 : k0_chk6 i k0_t3 arg7_r0 arg8_r0 arg9_r0 arg10_r0 arg11_r0 arg12_r0 arg13_r0 arg14_r0 arg15_r0), ∀ (k0_h1 : k0_cond1 i = 1#1), ∀ (k0_h28 : k0_cond28 i k0_t3 arg15_r0 = 1#1), ∀ a, (k0_off115 arg14_r0) a + S1.size a ≤ S2.size a := fun i k0_t3 arg7_r0 arg8_r0 arg9_r0 arg10_r0 arg11_r0 arg12_r0 arg13_r0 arg14_r0 arg15_r0 k0_hw6 k0_h1 k0_h28 => k0_hw6.2.2.2.2.2.2.2.2.2.2.2.2.2.2.2.2.2.2.2.2.2.2.2 k0_h1 k0_h28

def k0_cond30 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_47_r0 : BitVec 32 := 1#32
  let v56_r0 : BitVec 32 := Scalar.subi v11 c1_i32_47_r0
  let c1_i32_48_r0 : BitVec 32 := 1#32
  let v57_r0 : BitVec 32 := Scalar.muli c1_i32_48_r0 v5
  let c1_i32_50_r0 : BitVec 32 := 1#32
  let v59_r0 : BitVec 32 := Scalar.subi v57_r0 c1_i32_50_r0
  let v60_r0 : BitVec 1 := Scalar.cmpi .eq v56_r0 v59_r0
  let v80_r0 : BitVec 32 := Scalar.extui v60_r0
  let c0_i32_62_r0 : BitVec 32 := 0#32
  let v81_r0 : BitVec 1 := Scalar.cmpi .ne v80_r0 c0_i32_62_r0
  v81_r0

def k0_off116 (v50_3_r0 : BitVec 32) : Fin 4 → Nat :=
  let c2_i32_65_r0 : BitVec 32 := 2#32
  let v86_r0 : BitVec 32 := Scalar.remui v50_3_r0 c2_i32_65_r0
  let c0_i32_67_r0 : BitVec 32 := 0#32
  let c0_i32_68_r0 : BitVec 32 := 0#32
  let c0_i32_69_r0 : BitVec 32 := 0#32
  ![v86_r0.toNat, 0, 0, 0]

def k0_off117 (i : grid0.Coords) (v50_8_r0 : BitVec 32) : Fin 3 → Nat :=
  let c1_i32_66_r0 : BitVec 32 := 1#32
  let true_44_r0 : BitVec 1 := 1#1
  let c1_i32_43_r0 : BitVec 32 := 1#32
  let v51_r0 : BitVec 32 := Scalar.subi v50_8_r0 c1_i32_43_r0
  let v52_r0 : BitVec 32 := Scalar.select true_44_r0 v51_r0 v50_8_r0
  let c_m1_i32_45_r0 : BitVec 32 := 4294967295#32
  let v53_r0 : BitVec 1 := Scalar.cmpi .eq v52_r0 c_m1_i32_45_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_46_r0 : BitVec 32 := 1#32
  let v54_r0 : BitVec 32 := Scalar.subi v5 c1_i32_46_r0
  let v55_r0 : BitVec 32 := Scalar.select v53_r0 v54_r0 v52_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v61_r0 : BitVec 32 := Scalar.addi v55_r0 v10
  let v87_r0 : BitVec 32 := Scalar.muli c1_i32_66_r0 v61_r0
  let c0_i32_70_r0 : BitVec 32 := 0#32
  let c0_i32_71_r0 : BitVec 32 := 0#32
  ![v87_r0.toNat, 0, 0]

def k0_off118 (v50_3_r0 : BitVec 32) : Fin 1 → Nat :=
  let c2_i32_65_r0 : BitVec 32 := 2#32
  let v86_r0 : BitVec 32 := Scalar.remui v50_3_r0 c2_i32_65_r0
  ![v86_r0.toNat]
def k0_off119 (v50_3_r0 : BitVec 32) : Fin 4 → Nat :=
  let c2_i32_65_r0 : BitVec 32 := 2#32
  let v86_r0 : BitVec 32 := Scalar.remui v50_3_r0 c2_i32_65_r0
  let c0_i32_74_r0 : BitVec 32 := 0#32
  let c0_i32_75_r0 : BitVec 32 := 0#32
  let c0_i32_76_r0 : BitVec 32 := 0#32
  ![v86_r0.toNat, 0, 0, 0]

def k0_chk11 (i : grid0.Coords) (v50_3_r0 : BitVec 32) : Prop :=
  (∀ (k0_h1 : k0_cond1 i = 1#1), ∀ (k0_h30 : k0_cond30 i = 1#1), ∀ a, (k0_off116 v50_3_r0) a + S1x1x160x128.size a ≤ S2x1x160x128.size a) ∧
  (∀ (k0_h1 : k0_cond1 i = 1#1), ∀ (k0_h30 : k0_cond30 i = 1#1), ∀ a, (k0_off118 v50_3_r0) a + S1.size a ≤ S2.size a) ∧
  (∀ (k0_h1 : k0_cond1 i = 1#1), ∀ (k0_h30 : k0_cond30 i = 1#1), ∀ a, (k0_off119 v50_3_r0) a + S1x1x160x128.size a ≤ S2x1x160x128.size a)
theorem k0_off116_inb : ∀ (i : grid0.Coords) (v50_3_r0 : BitVec 32) (k0_hw11 : k0_chk11 i v50_3_r0), ∀ (k0_h1 : k0_cond1 i = 1#1), ∀ (k0_h30 : k0_cond30 i = 1#1), ∀ a, (k0_off116 v50_3_r0) a + S1x1x160x128.size a ≤ S2x1x160x128.size a := fun i v50_3_r0 k0_hw11 k0_h1 k0_h30 => k0_hw11.1 k0_h1 k0_h30
theorem k0_off118_inb : ∀ (i : grid0.Coords) (v50_3_r0 : BitVec 32) (k0_hw11 : k0_chk11 i v50_3_r0), ∀ (k0_h1 : k0_cond1 i = 1#1), ∀ (k0_h30 : k0_cond30 i = 1#1), ∀ a, (k0_off118 v50_3_r0) a + S1.size a ≤ S2.size a := fun i v50_3_r0 k0_hw11 k0_h1 k0_h30 => k0_hw11.2.1 k0_h1 k0_h30
theorem k0_off119_inb : ∀ (i : grid0.Coords) (v50_3_r0 : BitVec 32) (k0_hw11 : k0_chk11 i v50_3_r0), ∀ (k0_h1 : k0_cond1 i = 1#1), ∀ (k0_h30 : k0_cond30 i = 1#1), ∀ a, (k0_off119 v50_3_r0) a + S1x1x160x128.size a ≤ S2x1x160x128.size a := fun i v50_3_r0 k0_hw11 k0_h1 k0_h30 => k0_hw11.2.2 k0_h1 k0_h30

def k0_cond31 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_47_r0 : BitVec 32 := 1#32
  let v56_r0 : BitVec 32 := Scalar.subi v11 c1_i32_47_r0
  let c1_i32_48_r0 : BitVec 32 := 1#32
  let v57_r0 : BitVec 32 := Scalar.muli c1_i32_48_r0 v5
  let c1_i32_50_r0 : BitVec 32 := 1#32
  let v59_r0 : BitVec 32 := Scalar.subi v57_r0 c1_i32_50_r0
  let v60_r0 : BitVec 1 := Scalar.cmpi .eq v56_r0 v59_r0
  let v82_r0 : BitVec 32 := Scalar.extui v60_r0
  let c0_i32_63_r0 : BitVec 32 := 0#32
  let v83_r0 : BitVec 1 := Scalar.cmpi .ne v82_r0 c0_i32_63_r0
  v83_r0

def k0_off120 (v50_5_r0 : BitVec 32) : Fin 4 → Nat :=
  let c2_i32_65_r0 : BitVec 32 := 2#32
  let v86_r0 : BitVec 32 := Scalar.remui v50_5_r0 c2_i32_65_r0
  let c0_i32_67_r0 : BitVec 32 := 0#32
  let c0_i32_68_r0 : BitVec 32 := 0#32
  let c0_i32_69_r0 : BitVec 32 := 0#32
  ![v86_r0.toNat, 0, 0, 0]

def k0_off121 (i : grid0.Coords) (v50_8_r0 : BitVec 32) : Fin 3 → Nat :=
  let c1_i32_66_r0 : BitVec 32 := 1#32
  let true_44_r0 : BitVec 1 := 1#1
  let c1_i32_43_r0 : BitVec 32 := 1#32
  let v51_r0 : BitVec 32 := Scalar.subi v50_8_r0 c1_i32_43_r0
  let v52_r0 : BitVec 32 := Scalar.select true_44_r0 v51_r0 v50_8_r0
  let c_m1_i32_45_r0 : BitVec 32 := 4294967295#32
  let v53_r0 : BitVec 1 := Scalar.cmpi .eq v52_r0 c_m1_i32_45_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_46_r0 : BitVec 32 := 1#32
  let v54_r0 : BitVec 32 := Scalar.subi v5 c1_i32_46_r0
  let v55_r0 : BitVec 32 := Scalar.select v53_r0 v54_r0 v52_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v61_r0 : BitVec 32 := Scalar.addi v55_r0 v10
  let v87_r0 : BitVec 32 := Scalar.muli c1_i32_66_r0 v61_r0
  let c0_i32_70_r0 : BitVec 32 := 0#32
  let c0_i32_71_r0 : BitVec 32 := 0#32
  ![v87_r0.toNat, 0, 0]
def k0_off122 (v50_5_r0 : BitVec 32) : Fin 1 → Nat :=
  let c2_i32_65_r0 : BitVec 32 := 2#32
  let v86_r0 : BitVec 32 := Scalar.remui v50_5_r0 c2_i32_65_r0
  ![v86_r0.toNat]

def k0_chk13 (i : grid0.Coords) (v50_5_r0 : BitVec 32) : Prop :=
  (∀ (k0_h1 : k0_cond1 i = 1#1), ∀ (k0_h31 : k0_cond31 i = 1#1), ∀ a, (k0_off120 v50_5_r0) a + S1x1x40x128.size a ≤ S2x1x40x128.size a) ∧
  (∀ (k0_h1 : k0_cond1 i = 1#1), ∀ (k0_h31 : k0_cond31 i = 1#1), ∀ a, (k0_off122 v50_5_r0) a + S1.size a ≤ S2.size a)
theorem k0_off120_inb : ∀ (i : grid0.Coords) (v50_5_r0 : BitVec 32) (k0_hw13 : k0_chk13 i v50_5_r0), ∀ (k0_h1 : k0_cond1 i = 1#1), ∀ (k0_h31 : k0_cond31 i = 1#1), ∀ a, (k0_off120 v50_5_r0) a + S1x1x40x128.size a ≤ S2x1x40x128.size a := fun i v50_5_r0 k0_hw13 k0_h1 k0_h31 => k0_hw13.1 k0_h1 k0_h31
theorem k0_off122_inb : ∀ (i : grid0.Coords) (v50_5_r0 : BitVec 32) (k0_hw13 : k0_chk13 i v50_5_r0), ∀ (k0_h1 : k0_cond1 i = 1#1), ∀ (k0_h31 : k0_cond31 i = 1#1), ∀ a, (k0_off122 v50_5_r0) a + S1.size a ≤ S2.size a := fun i v50_5_r0 k0_hw13 k0_h1 k0_h31 => k0_hw13.2 k0_h1 k0_h31

def k0_cond32 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_47_r0 : BitVec 32 := 1#32
  let v56_r0 : BitVec 32 := Scalar.subi v11 c1_i32_47_r0
  let c1_i32_48_r0 : BitVec 32 := 1#32
  let v57_r0 : BitVec 32 := Scalar.muli c1_i32_48_r0 v5
  let c1_i32_50_r0 : BitVec 32 := 1#32
  let v59_r0 : BitVec 32 := Scalar.subi v57_r0 c1_i32_50_r0
  let v60_r0 : BitVec 1 := Scalar.cmpi .eq v56_r0 v59_r0
  let v84_r0 : BitVec 32 := Scalar.extui v60_r0
  let c0_i32_64_r0 : BitVec 32 := 0#32
  let v85_r0 : BitVec 1 := Scalar.cmpi .ne v84_r0 c0_i32_64_r0
  v85_r0

def k0_off123 (v50_7_r0 : BitVec 32) : Fin 4 → Nat :=
  let c2_i32_65_r0 : BitVec 32 := 2#32
  let v86_r0 : BitVec 32 := Scalar.remui v50_7_r0 c2_i32_65_r0
  let c0_i32_67_r0 : BitVec 32 := 0#32
  let c0_i32_68_r0 : BitVec 32 := 0#32
  let c0_i32_69_r0 : BitVec 32 := 0#32
  ![v86_r0.toNat, 0, 0, 0]

def k0_off124 (i : grid0.Coords) (v50_8_r0 : BitVec 32) : Fin 3 → Nat :=
  let c1_i32_66_r0 : BitVec 32 := 1#32
  let true_44_r0 : BitVec 1 := 1#1
  let c1_i32_43_r0 : BitVec 32 := 1#32
  let v51_r0 : BitVec 32 := Scalar.subi v50_8_r0 c1_i32_43_r0
  let v52_r0 : BitVec 32 := Scalar.select true_44_r0 v51_r0 v50_8_r0
  let c_m1_i32_45_r0 : BitVec 32 := 4294967295#32
  let v53_r0 : BitVec 1 := Scalar.cmpi .eq v52_r0 c_m1_i32_45_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_46_r0 : BitVec 32 := 1#32
  let v54_r0 : BitVec 32 := Scalar.subi v5 c1_i32_46_r0
  let v55_r0 : BitVec 32 := Scalar.select v53_r0 v54_r0 v52_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v61_r0 : BitVec 32 := Scalar.addi v55_r0 v10
  let v87_r0 : BitVec 32 := Scalar.muli c1_i32_66_r0 v61_r0
  let c0_i32_70_r0 : BitVec 32 := 0#32
  let c0_i32_71_r0 : BitVec 32 := 0#32
  ![v87_r0.toNat, 0, 0]

def k0_chk12 (i : grid0.Coords) (v50_8_r0 : BitVec 32) : Prop :=
  (∀ (k0_h1 : k0_cond1 i = 1#1), ∀ (k0_h30 : k0_cond30 i = 1#1), ∀ a, (k0_off117 i v50_8_r0) a + S1x160x128.size a ≤ S1250x160x128.size a) ∧
  (∀ (k0_h1 : k0_cond1 i = 1#1), ∀ (k0_h31 : k0_cond31 i = 1#1), ∀ a, (k0_off121 i v50_8_r0) a + S1x40x128.size a ≤ S1250x40x128.size a) ∧
  (∀ (k0_h1 : k0_cond1 i = 1#1), ∀ (k0_h32 : k0_cond32 i = 1#1), ∀ a, (k0_off124 i v50_8_r0) a + S1x10x128.size a ≤ S1250x10x128.size a)
theorem k0_off117_inb : ∀ (i : grid0.Coords) (v50_8_r0 : BitVec 32) (k0_hw12 : k0_chk12 i v50_8_r0), ∀ (k0_h1 : k0_cond1 i = 1#1), ∀ (k0_h30 : k0_cond30 i = 1#1), ∀ a, (k0_off117 i v50_8_r0) a + S1x160x128.size a ≤ S1250x160x128.size a := fun i v50_8_r0 k0_hw12 k0_h1 k0_h30 => k0_hw12.1 k0_h1 k0_h30
theorem k0_off121_inb : ∀ (i : grid0.Coords) (v50_8_r0 : BitVec 32) (k0_hw12 : k0_chk12 i v50_8_r0), ∀ (k0_h1 : k0_cond1 i = 1#1), ∀ (k0_h31 : k0_cond31 i = 1#1), ∀ a, (k0_off121 i v50_8_r0) a + S1x40x128.size a ≤ S1250x40x128.size a := fun i v50_8_r0 k0_hw12 k0_h1 k0_h31 => k0_hw12.2.1 k0_h1 k0_h31
theorem k0_off124_inb : ∀ (i : grid0.Coords) (v50_8_r0 : BitVec 32) (k0_hw12 : k0_chk12 i v50_8_r0), ∀ (k0_h1 : k0_cond1 i = 1#1), ∀ (k0_h32 : k0_cond32 i = 1#1), ∀ a, (k0_off124 i v50_8_r0) a + S1x10x128.size a ≤ S1250x10x128.size a := fun i v50_8_r0 k0_hw12 k0_h1 k0_h32 => k0_hw12.2.2 k0_h1 k0_h32

def k0_off125 (v50_7_r0 : BitVec 32) : Fin 1 → Nat :=
  let c2_i32_65_r0 : BitVec 32 := 2#32
  let v86_r0 : BitVec 32 := Scalar.remui v50_7_r0 c2_i32_65_r0
  ![v86_r0.toNat]

def k0_chk14 (i : grid0.Coords) (v50_7_r0 : BitVec 32) : Prop :=
  (∀ (k0_h1 : k0_cond1 i = 1#1), ∀ (k0_h32 : k0_cond32 i = 1#1), ∀ a, (k0_off123 v50_7_r0) a + S1x1x10x128.size a ≤ S2x1x10x128.size a) ∧
  (∀ (k0_h1 : k0_cond1 i = 1#1), ∀ (k0_h32 : k0_cond32 i = 1#1), ∀ a, (k0_off125 v50_7_r0) a + S1.size a ≤ S2.size a)
theorem k0_off123_inb : ∀ (i : grid0.Coords) (v50_7_r0 : BitVec 32) (k0_hw14 : k0_chk14 i v50_7_r0), ∀ (k0_h1 : k0_cond1 i = 1#1), ∀ (k0_h32 : k0_cond32 i = 1#1), ∀ a, (k0_off123 v50_7_r0) a + S1x1x10x128.size a ≤ S2x1x10x128.size a := fun i v50_7_r0 k0_hw14 k0_h1 k0_h32 => k0_hw14.1 k0_h1 k0_h32
theorem k0_off125_inb : ∀ (i : grid0.Coords) (v50_7_r0 : BitVec 32) (k0_hw14 : k0_chk14 i v50_7_r0), ∀ (k0_h1 : k0_cond1 i = 1#1), ∀ (k0_h32 : k0_cond32 i = 1#1), ∀ a, (k0_off125 v50_7_r0) a + S1.size a ≤ S2.size a := fun i v50_7_r0 k0_hw14 k0_h1 k0_h32 => k0_hw14.2 k0_h1 k0_h32

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x100000x128 : Shape := ⟨3, ![2, 100000, 128]⟩
abbrev S25000x4 : Shape := ⟨2, ![25000, 4]⟩
abbrev S6250x4 : Shape := ⟨2, ![6250, 4]⟩
abbrev S_ : Shape := ⟨0, ![]⟩
abbrev S25000x4x1 : Shape := ⟨3, ![25000, 4, 1]⟩
abbrev S2x25000x4x128 : Shape := ⟨4, ![2, 25000, 4, 128]⟩
abbrev S2x25000x128 : Shape := ⟨3, ![2, 25000, 128]⟩
abbrev S2x25000x1x128 : Shape := ⟨4, ![2, 25000, 1, 128]⟩
abbrev S6250x4x1 : Shape := ⟨3, ![6250, 4, 1]⟩
abbrev S2x6250x4x128 : Shape := ⟨4, ![2, 6250, 4, 128]⟩
abbrev S2x6250x128 : Shape := ⟨3, ![2, 6250, 128]⟩
abbrev S2x6250x1x128 : Shape := ⟨4, ![2, 6250, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x100000x128, .f32⟩
  | .hbm, ⟨1, _⟩ => ⟨S25000x4, .i32⟩
  | .hbm, ⟨2, _⟩ => ⟨S6250x4, .i32⟩
  | .hbm, ⟨3, _⟩ => ⟨S_, .i32⟩
  | .hbm, ⟨4, _⟩ => ⟨S_, .i32⟩
  | .hbm, ⟨5, _⟩ => ⟨S25000x4, .i32⟩
  | .hbm, ⟨6, _⟩ => ⟨S25000x4, .i1⟩
  | .hbm, ⟨7, _⟩ => ⟨S_, .i32⟩
  | .hbm, ⟨8, _⟩ => ⟨S25000x4, .i32⟩
  | .hbm, ⟨9, _⟩ => ⟨S25000x4, .i32⟩
  | .hbm, ⟨10, _⟩ => ⟨S25000x4, .i32⟩
  | .hbm, ⟨11, _⟩ => ⟨S25000x4x1, .i32⟩
  | .hbm, ⟨12, _⟩ => ⟨S2x25000x4x128, .f32⟩
  | .hbm, ⟨13, _⟩ => ⟨S_, .f32⟩
  | .hbm, ⟨14, _⟩ => ⟨S2x25000x128, .f32⟩
  | .hbm, ⟨15, _⟩ => ⟨S2x25000x1x128, .f32⟩
  | .hbm, ⟨16, _⟩ => ⟨S_, .f32⟩
  | .hbm, ⟨17, _⟩ => ⟨S2x25000x1x128, .f32⟩
  | .hbm, ⟨18, _⟩ => ⟨S2x25000x1x128, .f32⟩
  | .hbm, ⟨19, _⟩ => ⟨S2x25000x4x128, .f32⟩
  | .hbm, ⟨20, _⟩ => ⟨S2x25000x4x128, .f32⟩
  | .hbm, ⟨21, _⟩ => ⟨S2x100000x128, .f32⟩
  | .hbm, ⟨22, _⟩ => ⟨S2x25000x128, .f32⟩
  | .hbm, ⟨23, _⟩ => ⟨S_, .i32⟩
  | .hbm, ⟨24, _⟩ => ⟨S6250x4, .i32⟩
  | .hbm, ⟨25, _⟩ => ⟨S6250x4, .i1⟩
  | .hbm, ⟨26, _⟩ => ⟨S_, .i32⟩
  | .hbm, ⟨27, _⟩ => ⟨S6250x4, .i32⟩
  | .hbm, ⟨28, _⟩ => ⟨S6250x4, .i32⟩
  | .hbm, ⟨29, _⟩ => ⟨S6250x4, .i32⟩
  | .hbm, ⟨30, _⟩ => ⟨S6250x4x1, .i32⟩
  | .hbm, ⟨31, _⟩ => ⟨S2x6250x4x128, .f32⟩
  | .hbm, ⟨32, _⟩ => ⟨S_, .f32⟩
  | .hbm, ⟨33, _⟩ => ⟨S2x6250x128, .f32⟩
  | .hbm, ⟨34, _⟩ => ⟨S2x6250x1x128, .f32⟩
  | .hbm, ⟨35, _⟩ => ⟨S_, .f32⟩
  | .hbm, ⟨36, _⟩ => ⟨S2x6250x1x128, .f32⟩
  | .hbm, ⟨37, _⟩ => ⟨S2x6250x1x128, .f32⟩
  | .hbm, ⟨38, _⟩ => ⟨S2x6250x4x128, .f32⟩
  | .hbm, ⟨39, _⟩ => ⟨S2x6250x4x128, .f32⟩
  | .hbm, ⟨40, _⟩ => ⟨S2x25000x128, .f32⟩
  | .hbm, ⟨41, _⟩ => ⟨S2x6250x128, .f32⟩
  | _, _ => ⟨S2x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Setup.lean ====
/-
  What every module of the tile's run shares: the resource algebra, the launch configuration, a tile's thread.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

/-- The heap of the whole development. -/
abbrev MM (F : FTy → Type) : Type := MT nD τ sig (HIx 1) (Elt F) ℕ UU ℕ

/-- The tile a grid point names. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

/-- The stretch of the program that runs on the tile. -/
abbrev ProgV (F : FTy → Type) (i : grid0.Coords) : Type → Type 1 :=
  Prog (TpuEff nD τ sig (Elt F) Λ₀ (.scVector ((i 0).castLE hcore0) ((i 1).castLE hsub0)))

end Cert.Proof.Pyramid

end
-- ==== Proof.Column.lean ====
/-
  One pass of the innermost loop, as eight copies of one column's program.

  The loop over a chunk's ten groups of sixteen rows is printed as one long straight line: for each of the eight blocks
  of sixteen columns it loads the group's sixteen row pieces, averages them four by four and then once more, and stores
  sixteen, four and one pieces. `column` is that text for one block of columns, over any four windows and any offsets;
  `t2_body_eq` says the printed body is eight of them.
-/
module

public import proofs.«01_k».proof.Defs
public import proofs.«01_k».proof.Proof.Setup
public import proofs.«01_k».proof.Proof.Gen.KernelIdeal.Skeleton

@[expose] public section

noncomputable section

namespace Cert.Proof.Pyramid

open Cert.KernelIdeal Cert.KernelIdeal.Gen
open Idealize.ShloMosaic Idealize.SL.Sem

variable {F : FTy → Type} [FloatOps F]

/-! ## The payloads of one column -/

/-- A loaded piece of a row as sixteen lanes. -/
def flat (v : Vec F S1x16 .f32) : FVec F S16 .f32 := shapeCast S16 v shapeCasts_S1x16_S16

/-- The mean of four, in the program's order. -/
def quad (a b c d : FVec F S16 .f32) : FVec F S16 .f32 :=
  mulf (addf (addf a b) (addf c d)) (broadcast S16 (Scalar.ofBits .f32 0x3E800000#32 : F .f32))

/-- Sixteen lanes as a piece of a row. -/
def row (v : FVec F S16 .f32) : FVec F S1x16 .f32 := shapeCast S1x16 v shapeCasts_S16_S1x16

/-- The piece stored for a member: the member less its mean. -/
def diff (a b : FVec F S16 .f32) : FVec F S1x16 .f32 := row (subf a b)

/-! ## The program of one column -/

section
variable (xm om₀ : Memref sig .scVector .vmem S160x128 .f32) (om₁ : Memref sig .scVector .vmem S40x128 .f32)
  (om₂ : Memref sig .scVector .vmem S10x128 .f32)
  (ox oo : BitVec 32 → BitVec 32 → Fin 2 → ℕ) (o₁ : BitVec 32 → Fin 2 → ℕ) (o₂ : Fin 2 → ℕ)
  (hx : ∀ (r₁ : Fin 4) (r₂ : Fin 4), ∀ a, (ox (BitVec.ofNat 32 (4 * r₁.val)) (BitVec.ofNat 32 r₂.val)) a + S1x16.size a ≤ S160x128.size a)
  (ho : ∀ (r₁ : Fin 4) (r₂ : Fin 4), ∀ a, (oo (BitVec.ofNat 32 (4 * r₁.val)) (BitVec.ofNat 32 r₂.val)) a + S1x16.size a ≤ S160x128.size a)
  (h₁ : ∀ (r : Fin 4), ∀ a, (o₁ (BitVec.ofNat 32 r.val)) a + S1x16.size a ≤ S40x128.size a)
  (h₂ : ∀ a, o₂ a + S1x16.size a ≤ S10x128.size a)

variable (i : grid0.Coords)

def column : ProgV F i Unit := do
  let a0 ← Prog.lift (.load xm (Rect.unit (s := S160x128) (ox 0#32 0#32) S1x16.size (hx 0 0)).toLoadRect (View.loadsAt_vmem h_S1x16))
  let a1 ← Prog.lift (.load xm (Rect.unit (s := S160x128) (ox 0#32 1#32) S1x16.size (hx 0 1)).toLoadRect (View.loadsAt_vmem h_S1x16))
  let a2 ← Prog.lift (.load xm (Rect.unit (s := S160x128) (ox 0#32 2#32) S1x16.size (hx 0 2)).toLoadRect (View.loadsAt_vmem h_S1x16))
  let a3 ← Prog.lift (.load xm (Rect.unit (s := S160x128) (ox 0#32 3#32) S1x16.size (hx 0 3)).toLoadRect (View.loadsAt_vmem h_S1x16))
  let b0 ← Prog.lift (.load xm (Rect.unit (s := S160x128) (ox 4#32 0#32) S1x16.size (hx 1 0)).toLoadRect (View.loadsAt_vmem h_S1x16))
  let b1 ← Prog.lift (.load xm (Rect.unit (s := S160x128) (ox 4#32 1#32) S1x16.size (hx 1 1)).toLoadRect (View.loadsAt_vmem h_S1x16))
  let b2 ← Prog.lift (.load xm (Rect.unit (s := S160x128) (ox 4#32 2#32) S1x16.size (hx 1 2)).toLoadRect (View.loadsAt_vmem h_S1x16))
  let b3 ← Prog.lift (.load xm (Rect.unit (s := S160x128) (ox 4#32 3#32) S1x16.size (hx 1 3)).toLoadRect (View.loadsAt_vmem h_S1x16))
  let c0 ← Prog.lift (.load xm (Rect.unit (s := S160x128) (ox 8#32 0#32) S1x16.size (hx 2 0)).toLoadRect (View.loadsAt_vmem h_S1x16))
  let c1 ← Prog.lift (.load xm (Rect.unit (s := S160x128) (ox 8#32 1#32) S1x16.size (hx 2 1)).toLoadRect (View.loadsAt_vmem h_S1x16))
  let c2 ← Prog.lift (.load xm (Rect.unit (s := S160x128) (ox 8#32 2#32) S1x16.size (hx 2 2)).toLoadRect (View.loadsAt_vmem h_S1x16))
  let c3 ← Prog.lift (.load xm (Rect.unit (s := S160x128) (ox 8#32 3#32) S1x16.size (hx 2 3)).toLoadRect (View.loadsAt_vmem h_S1x16))
  let d0 ← Prog.lift (.load xm (Rect.unit (s := S160x128) (ox 12#32 0#32) S1x16.size (hx 3 0)).toLoadRect (View.loadsAt_vmem h_S1x16))
  let d1 ← Prog.lift (.load xm (Rect.unit (s := S160x128) (ox 12#32 1#32) S1x16.size (hx 3 1)).toLoadRect (View.loadsAt_vmem h_S1x16))
  let d2 ← Prog.lift (.load xm (Rect.unit (s := S160x128) (ox 12#32 2#32) S1x16.size (hx 3 2)).toLoadRect (View.loadsAt_vmem h_S1x16))
  let d3 ← Prog.lift (.load xm (Rect.unit (s := S160x128) (ox 12#32 3#32) S1x16.size (hx 3 3)).toLoadRect (View.loadsAt_vmem h_S1x16))
  let put (w₁ w₂ : BitVec 32) (h : ∀ a, oo w₁ w₂ a + S1x16.size a ≤ S160x128.size a) (v : FVec F S1x16 .f32) : ProgV F i Unit := do
    let _ ← Prog.lift (.load om₀ (Rect.unit (s := S160x128) (oo w₁ w₂) S1x16.size h).toLoadRect (View.loadsAt_vmem h_S1x16))
    Prog.lift (.store om₀ (Rect.unit (s := S160x128) (oo w₁ w₂) S1x16.size h) v Finset.univ (View.stores_vmem_bits_univ h_S1x16 rfl) (.inl rfl))
  let put₁ (w : BitVec 32) (h : ∀ a, o₁ w a + S1x16.size a ≤ S40x128.size a) (v : FVec F S1x16 .f32) : ProgV F i Unit := do
    let _ ← Prog.lift (.load om₁ (Rect.unit (s := S40x128) (o₁ w) S1x16.size h).toLoadRect (View.loadsAt_vmem h_S1x16))
    Prog.lift (.store om₁ (Rect.unit (s := S40x128) (o₁ w) S1x16.size h) v Finset.univ (View.stores_vmem_bits_univ h_S1x16 rfl) (.inl rfl))
  put 0#32 0#32 (ho 0 0) (diff (flat a0) (quad (flat a0) (flat a1) (flat a2) (flat a3)))
  put 0#32 1#32 (ho 0 1) (diff (flat a1) (quad (flat a0) (flat a1) (flat a2) (flat a3)))
  put 0#32 2#32 (ho 0 2) (diff (flat a2) (quad (flat a0) (flat a1) (flat a2) (flat a3)))
  put 0#32 3#32 (ho 0 3) (diff (flat a3) (quad (flat a0) (flat a1) (flat a2) (flat a3)))
  put 4#32 0#32 (ho 1 0) (diff (flat b0) (quad (flat b0) (flat b1) (flat b2) (flat b3)))
  put 4#32 1#32 (ho 1 1) (diff (flat b1) (quad (flat b0) (flat b1) (flat b2) (flat b3)))
  put 4#32 2#32 (ho 1 2) (diff (flat b2) (quad (flat b0) (flat b1) (flat b2) (flat b3)))
  put 4#32 3#32 (ho 1 3) (diff (flat b3) (quad (flat b0) (flat b1) (flat b2) (flat b3)))
  put 8#32 0#32 (ho 2 0) (diff (flat c0) (quad (flat c0) (flat c1) (flat c2) (flat c3)))
  put 8#32 1#32 (ho 2 1) (diff (flat c1) (quad (flat c0) (flat c1) (flat c2) (flat c3)))
  put 8#32 2#32 (ho 2 2) (diff (flat c2) (quad (flat c0) (flat c1) (flat c2) (flat c3)))
  put 8#32 3#32 (ho 2 3) (diff (flat c3) (quad (flat c0) (flat c1) (flat c2) (flat c3)))
  put 12#32 0#32 (ho 3 0) (diff (flat d0) (quad (flat d0) (flat d1) (flat d2) (flat d3)))
  put 12#32 1#32 (ho 3 1) (diff (flat d1) (quad (flat d0) (flat d1) (flat d2) (flat d3)))
  put 12#32 2#32 (ho 3 2) (diff (flat d2) (quad (flat d0) (flat d1) (flat d2) (flat d3)))
  put 12#32 3#32 (ho 3 3) (diff (flat d3) (quad (flat d0) (flat d1) (flat d2) (flat d3)))
  let m (a b c d : Vec F S1x16 .f32) : FVec F S16 .f32 := quad (flat a) (flat b) (flat c) (flat d)
  let e := quad (m a0 a1 a2 a3) (m b0 b1 b2 b3) (m c0 c1 c2 c3) (m d0 d1 d2 d3)
  put₁ 0#32 (h₁ 0) (diff (m a0 a1 a2 a3) e)
  put₁ 1#32 (h₁ 1) (diff (m b0 b1 b2 b3) e)
  put₁ 2#32 (h₁ 2) (diff (m c0 c1 c2 c3) e)
  put₁ 3#32 (h₁ 3) (diff (m d0 d1 d2 d3) e)
  let _ ← Prog.lift (.load om₂ (Rect.unit (s := S10x128) o₂ S1x16.size h₂).toLoadRect (View.loadsAt_vmem h_S1x16))
  Prog.lift (.store om₂ (Rect.unit (s := S10x128) o₂ S1x16.size h₂) (row e) Finset.univ (View.stores_vmem_bits_univ h_S1x16 rfl) (.inl rfl))

end

/-! ## The windows the program computes through -/

section
variable (i : grid0.Coords)
  (alloca_r0 alloca_4_r0 : Memref sig .scVector .vmem S2x1x160x128 .f32) (alloca_5_r0 : Memref sig .scVector .vmem S2x1x40x128 .f32)
  (alloca_6_r0 : Memref sig .scVector .vmem S2x1x10x128 .f32)

def win160 (m : Memref sig .scVector .vmem S2x1x160x128 .f32) (off : Fin 4 → ℕ) (h : ∀ a, off a + S1x1x160x128.size a ≤ S2x1x160x128.size a) :
    Memref sig .scVector .vmem S160x128 .f32 :=
  (((m.slice (Rect.unit (s := S2x1x160x128) off S1x1x160x128.size h) (fun _ => rfl)).squeeze S1x160x128
    squeezes_S1x1x160x128_S1x160x128).slice (Rect.unit (s := S1x160x128) ![0, 0, 0] S1x160x128.size inb_S1x160x128_S1x160x128_0_0_0)
    (fun _ => rfl)).squeeze S160x128 squeezes_S1x160x128_S160x128
def win40 (m : Memref sig .scVector .vmem S2x1x40x128 .f32) (off : Fin 4 → ℕ) (h : ∀ a, off a + S1x1x40x128.size a ≤ S2x1x40x128.size a) :
    Memref sig .scVector .vmem S40x128 .f32 :=
  (((m.slice (Rect.unit (s := S2x1x40x128) off S1x1x40x128.size h) (fun _ => rfl)).squeeze S1x40x128
    squeezes_S1x1x40x128_S1x40x128).slice (Rect.unit (s := S1x40x128) ![0, 0, 0] S1x40x128.size inb_S1x40x128_S1x40x128_0_0_0)
    (fun _ => rfl)).squeeze S40x128 squeezes_S1x40x128_S40x128
def win10 (m : Memref sig .scVector .vmem S2x1x10x128 .f32) (off : Fin 4 → ℕ) (h : ∀ a, off a + S1x1x10x128.size a ≤ S2x1x10x128.size a) :
    Memref sig .scVector .vmem S10x128 .f32 :=
  (((m.slice (Rect.unit (s := S2x1x10x128) off S1x1x10x128.size h) (fun _ => rfl)).squeeze S1x10x128
    squeezes_S1x1x10x128_S1x10x128).slice (Rect.unit (s := S1x10x128) ![0, 0, 0] S1x10x128.size inb_S1x10x128_S1x10x128_0_0_0)
    (fun _ => rfl)).squeeze S10x128 squeezes_S1x10x128_S10x128
end

section
variable (i : grid0.Coords) (arg2 : Memref sig .scVector .hbm S1250x160x128 .f32) (harg2 : arg2.IsWhole) (arg3 : Memref sig .scVector .hbm S1250x160x128 .f32) (harg3 : arg3.IsWhole) (arg4 : Memref sig .scVector .hbm S1250x40x128 .f32) (harg4 : arg4.IsWhole) (arg5 : Memref sig .scVector .hbm S1250x10x128 .f32) (harg5 : arg5.IsWhole) (alloca_r0 : Memref sig .scVector .vmem S2x1x160x128 .f32) (halloca_r0 : alloca_r0.IsWhole) (v12_r0 : DmaSems sig S2) (alloca_4_r0 : Memref sig .scVector .vmem S2x1x160x128 .f32) (halloca_4_r0 : alloca_4_r0.IsWhole) (v13_r0 : DmaSems sig S2) (alloca_5_r0 : Memref sig .scVector .vmem S2x1x40x128 .f32) (halloca_5_r0 : alloca_5_r0.IsWhole) (v14_r0 : DmaSems sig S2) (alloca_6_r0 : Memref sig .scVector .vmem S2x1x10x128 .f32) (halloca_6_r0 : alloca_6_r0.IsWhole) (v15_r0 : DmaSems sig S2) (k0_h1 : k0_cond1 i = 1#1) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw5 : k0_chk5 i arg13_r0) (k0_hw4 : k0_chk4 i arg11_r0) (k0_hw3 : k0_chk3 i arg9_r0) (k0_hw2 : k0_chk2 i arg8_r0) (k0_hw1 : k0_chk1 i k0_t1 arg7_r0 arg8_r0 arg9_r0 arg10_r0 arg11_r0 arg12_r0 arg13_r0 arg14_r0 arg15_r0) (v89_r0 : BitVec 1) (v90_r0 : BitVec 32) (v101_r0 : BitVec 32) (v159_r0 : BitVec 32)

/-- A column of the pass, over the four windows the pass computes through. -/
abbrev columnAt (ox oo : BitVec 32 → BitVec 32 → Fin 2 → ℕ) (o₁ : BitVec 32 → Fin 2 → ℕ) (o₂ : Fin 2 → ℕ)
    (hx : ∀ (r₁ : Fin 4) (r₂ : Fin 4), ∀ a, (ox (BitVec.ofNat 32 (4 * r₁.val)) (BitVec.ofNat 32 r₂.val)) a + S1x16.size a ≤ S160x128.size a)
    (ho : ∀ (r₁ : Fin 4) (r₂ : Fin 4), ∀ a, (oo (BitVec.ofNat 32 (4 * r₁.val)) (BitVec.ofNat 32 r₂.val)) a + S1x16.size a ≤ S160x128.size a)
    (h₁ : ∀ (r : Fin 4), ∀ a, (o₁ (BitVec.ofNat 32 r.val)) a + S1x16.size a ≤ S40x128.size a)
    (h₂ : ∀ a, o₂ a + S1x16.size a ≤ S10x128.size a) : ProgV F i Unit :=
  column (win160 alloca_r0 (k0_off10 arg8_r0) (k0_off10_inb i arg8_r0 k0_hw2 k0_h1))
    (win160 alloca_4_r0 (k0_off12 arg9_r0) (k0_off12_inb i arg9_r0 k0_hw3 k0_h1))
    (win40 alloca_5_r0 (k0_off14 arg11_r0) (k0_off14_inb i arg11_r0 k0_hw4 k0_h1))
    (win10 alloca_6_r0 (k0_off16 arg13_r0) (k0_off16_inb i arg13_r0 k0_hw5 k0_h1)) ox oo o₁ o₂ hx ho h₁ h₂ i

set_option maxRecDepth 20000 in
set_option maxHeartbeats 4000000 in
/-- The printed pass is eight columns one after another. -/
theorem t2_body_eq (k0_t2 : Fin k0_t2_loop.trips) (u : Unit) :
    k0_t2_body (F := F) i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 k0_h1 k0_t1 arg7_r0 arg8_r0 arg9_r0 arg10_r0 arg11_r0 arg12_r0 arg13_r0 arg14_r0 arg15_r0 k0_hw5 k0_hw4 k0_hw3 k0_hw2 k0_hw1 v89_r0 v90_r0 v101_r0 v159_r0 k0_t2 u = (do
      columnAt i alloca_r0 alloca_4_r0 alloca_5_r0 alloca_6_r0 k0_h1 arg8_r0 arg9_r0 arg11_r0 arg13_r0 k0_hw5 k0_hw4 k0_hw3 k0_hw2
        (k0_off11 k0_t2) (k0_off13 k0_t2) (k0_off15 k0_t2) (k0_off17 k0_t2)
        (k0_off11_inb i k0_t2 k0_h1) (k0_off13_inb i k0_t2 k0_h1) (k0_off15_inb i k0_t2 k0_h1) (k0_off17_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off19 k0_t2) (k0_off19 k0_t2) (k0_off22 k0_t2) (k0_off23 k0_t2)
        (k0_off19_inb i k0_t2 k0_h1) (k0_off19_inb i k0_t2 k0_h1) (k0_off22_inb i k0_t2 k0_h1) (k0_off23_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off24 k0_t2) (k0_off24 k0_t2) (k0_off25 k0_t2) (k0_off26 k0_t2)
        (k0_off24_inb i k0_t2 k0_h1) (k0_off24_inb i k0_t2 k0_h1) (k0_off25_inb i k0_t2 k0_h1) (k0_off26_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off27 k0_t2) (k0_off27 k0_t2) (k0_off28 k0_t2) (k0_off29 k0_t2)
        (k0_off27_inb i k0_t2 k0_h1) (k0_off27_inb i k0_t2 k0_h1) (k0_off28_inb i k0_t2 k0_h1) (k0_off29_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off30 k0_t2) (k0_off30 k0_t2) (k0_off31 k0_t2) (k0_off32 k0_t2)
        (k0_off30_inb i k0_t2 k0_h1) (k0_off30_inb i k0_t2 k0_h1) (k0_off31_inb i k0_t2 k0_h1) (k0_off32_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off33 k0_t2) (k0_off33 k0_t2) (k0_off34 k0_t2) (k0_off35 k0_t2)
        (k0_off33_inb i k0_t2 k0_h1) (k0_off33_inb i k0_t2 k0_h1) (k0_off34_inb i k0_t2 k0_h1) (k0_off35_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off36 k0_t2) (k0_off36 k0_t2) (k0_off37 k0_t2) (k0_off38 k0_t2)
        (k0_off36_inb i k0_t2 k0_h1) (k0_off36_inb i k0_t2 k0_h1) (k0_off37_inb i k0_t2 k0_h1) (k0_off38_inb i k0_t2 k0_h1)
      columnAt i alloca_r0 alloca_4_r0 alloca_5_r0 alloca_6_r0 k0_h1 arg8_r0 arg9_r0 arg11_r0 arg13_r0 k0_hw5 k0_hw4 k0_hw3 k0_hw2
        (k0_off39 k0_t2) (k0_off39 k0_t2) (k0_off40 k0_t2) (k0_off41 k0_t2)
        (k0_off39_inb i k0_t2 k0_h1) (k0_off39_inb i k0_t2 k0_h1) (k0_off40_inb i k0_t2 k0_h1) (k0_off41_inb i k0_t2 k0_h1)
      pure ⟨⟩) := by
  rfl

end

end Cert.Proof.Pyramid

end
-- ==== Proof.Chunk.lean ====
/-
  What one chunk's three outputs hold, over any arithmetic of the floats: a chunk is 160 rows of 128 columns, its rows
  averaged by fours (forty rows) and those again by fours (ten rows); the outputs are the rows less their mean, the
  means less their mean, and the ten last means.
-/
module

public import proofs.«01_k».proof.Proof.Setup
public import proofs.«01_k».proof.Proof.Column
public import Idealize.ShloMosaic.Lib.Pipeline.Value

@[expose] public section

noncomputable section

namespace Cert.Proof.Pyramid

open Cert.KernelIdeal Cert.KernelIdeal.Gen
open Idealize.ShloMosaic

variable {F : FTy → Type}

/-- The element of a table of 128 columns at a row and a column. -/
def pick {R : ℕ} (hR : 0 < R) (X : (⟨2, ![R, 128]⟩ : Shape).Idx → F .f32) (r c : ℕ) : F .f32 :=
  X (fun | 0 => ⟨r % R, Nat.mod_lt _ hR⟩ | 1 => ⟨c % 128, Nat.mod_lt _ (by decide)⟩ | ⟨_ + 2, h⟩ => absurd h (by simp))

theorem pick_eq {R : ℕ} (hR : 0 < R) (X : (⟨2, ![R, 128]⟩ : Shape).Idx → F .f32) (y : (⟨2, ![R, 128]⟩ : Shape).Idx) {r c : ℕ}
    (h0 : (y 0).val = r) (h1 : (y 1).val = c) : pick hR X r c = X y := by
  unfold pick
  congr 1
  funext a
  apply Fin.ext
  match a with
  | 0 => show r % R = (y 0).val; rw [← h0]; exact Nat.mod_eq_of_lt (y 0).isLt
  | 1 => show c % 128 = (y 1).val; rw [← h1]; exact Nat.mod_eq_of_lt (y 1).isLt

variable [FloatOps F]

/-- The mean of four as the program forms it. -/
def avg (a b c d : F .f32) : F .f32 :=
  FloatOps.mulf (FloatOps.addf (FloatOps.addf a b) (FloatOps.addf c d)) (Scalar.ofBits .f32 0x3E800000#32 : F .f32)

def mean4 (X : S160x128.Idx → F .f32) (q c : ℕ) : F .f32 :=
  avg (pick (by decide) X (4 * q) c) (pick (by decide) X (4 * q + 1) c) (pick (by decide) X (4 * q + 2) c) (pick (by decide) X (4 * q + 3) c)

def mean16 (X : S160x128.Idx → F .f32) (g c : ℕ) : F .f32 :=
  avg (mean4 X (4 * g) c) (mean4 X (4 * g + 1) c) (mean4 X (4 * g + 2) c) (mean4 X (4 * g + 3) c)

/-- The chunk's three outputs. -/
def G₀ (X : S160x128.Idx → F .f32) (y : S160x128.Idx) : F .f32 :=
  FloatOps.subf (pick (by decide) X (y 0).val (y 1).val) (mean4 X ((y 0).val / 4) (y 1).val)
def G₁ (X : S160x128.Idx → F .f32) (y : S40x128.Idx) : F .f32 :=
  FloatOps.subf (mean4 X (y 0).val (y 1).val) (mean16 X ((y 0).val / 4) (y 1).val)
def G₂ (X : S160x128.Idx → F .f32) (y : S10x128.Idx) : F .f32 := mean16 X (y 0).val (y 1).val

/-- `Y` agrees with `G` on the first `n` of the blocks of `w` rows by sixteen columns, eight blocks to a row of blocks. -/
def Done {R : ℕ} (w : ℕ) (G Y : (⟨2, ![R, 128]⟩ : Shape).Idx → F .f32) (n : ℕ) : Prop :=
  ∀ y : (⟨2, ![R, 128]⟩ : Shape).Idx, 8 * ((y 0).val / w) + (y 1).val / 16 < n → Y y = G y

theorem done_zero {R : ℕ} (w : ℕ) (G Y : (⟨2, ![R, 128]⟩ : Shape).Idx → F .f32) : Done w G Y 0 := fun _ h => absurd h (Nat.not_lt_zero _)

theorem done_all {R w : ℕ} (hw : 0 < w) {n : ℕ} (hn : R = w * n) {G Y : (⟨2, ![R, 128]⟩ : Shape).Idx → F .f32} (h : Done w G Y (8 * n)) : Y = G := by
  funext y
  apply h
  have h0 : (y 0).val < R := (y 0).isLt
  have h1 : (y 1).val < 128 := (y 1).isLt
  have : (y 0).val / w < n := (Nat.div_lt_iff_lt_mul hw).mpr (by rw [Nat.mul_comm, ← hn]; exact h0)
  omega

/-- Storing the block numbered `8 * g + j` piece by piece. -/
theorem done_writes {R w : ℕ} {κ : Kind} {sp : Space} (v : View sig κ sp (⟨2, ![R, 128]⟩ : Shape) .f32) (f : v.ty.Contents (Elt F))
    (G : (⟨2, ![R, 128]⟩ : Shape).Idx → F .f32) (L : List (View.Piece (Elt F) (⟨2, ![R, 128]⟩ : Shape) .f32)) (g j : ℕ) (hj : j < 8)
    (hp : ∀ p ∈ L, ∀ x, p.2 x = G (p.1.emb x))
    (hc : ∀ y : (⟨2, ![R, 128]⟩ : Shape).Idx, (y 0).val / w = g → (y 1).val / 16 = j → ∃ p ∈ L, y ∈ p.1.set)
    (hD : Done w G (v.read (Elt F) f) (8 * g + j)) : Done w G (v.read (Elt F) (v.writes (Elt F) f L)) (8 * g + j + 1) := by
  intro y hy
  by_cases h : ∃ p ∈ L, y ∈ p.1.set
  · exact View.read_writes_apply_of_pieces v f G L hp y h
  · rw [View.read_writes_apply_of_forall_not_mem v f y L (fun p hp hm => h ⟨p, hp, hm⟩)]
    apply hD
    have h1 : (y 1).val < 128 := (y 1).isLt
    by_contra hn
    exact h (hc y (by omega) (by omega))

/-! ## The payloads, read at an element -/

/-- The lane of a place in a piece of a row. -/
def lane (x : S1x16.Idx) : S16.Idx := fun a => x a.succ

theorem row_apply (v : FVec F S16 .f32) (x : S1x16.Idx) : row v x = v (lane x) :=
  shapeCast_addUnit_apply ![16] v _ x

theorem flat_apply (v : Vec F S1x16 .f32) (x : S1x16.Idx) : flat v (lane x) = v x := by
  have h := shapeCast_dropUnit_apply ![16] v shapeCasts_S1x16_S16 (lane x)
  refine h.trans (congrArg v ?_)
  funext a
  match a with
  | 0 => exact Fin.ext (by have := (x 0).isLt; show 0 = (x 0).val; change (x 0).val < 1 at this; omega)
  | 1 => rfl

theorem quad_apply (a b c d : FVec F S16 .f32) (l : S16.Idx) : quad a b c d l = avg (a l) (b l) (c l) (d l) := rfl

section
variable {κ : Kind} {sp : Space} (v : View sig κ sp S160x128 .f32) (fx : v.ty.Contents (Elt F))

/-- A loaded piece of a row, at its lane. -/
theorem flat_load {off : Fin 2 → ℕ} (h : ∀ a, off a + S1x16.size a ≤ S160x128.size a) {r c : ℕ} (ho : off = ![r, c]) (x : S1x16.Idx) :
    flat (v.readAt (Elt F) (Rect.unit (s := S160x128) off S1x16.size h).toLoadRect fx : Vec F S1x16 .f32) (lane x)
      = pick (by decide) (v.read (Elt F) fx) r (c + (x 1).val) := by
  rw [flat_apply]
  refine (pick_eq (by decide) (v.read (Elt F) fx) ((Rect.unit (s := S160x128) off S1x16.size h).emb x) ?_ ?_).symm
  · have e : off 0 = r := by rw [ho]; rfl
    have := (x 0).isLt; change (x 0).val < 1 at this
    show off 0 + 1 * (x 0).val = r
    omega
  · have e : off 1 = c := by rw [ho]; rfl
    show off 1 + 1 * (x 1).val = c + (x 1).val
    omega

/-- The place of a lane of a stored piece. -/
theorem emb_piece {R : ℕ} {off : Fin 2 → ℕ} (h : ∀ a, off a + S1x16.size a ≤ (⟨2, ![R, 128]⟩ : Shape).size a) {r c : ℕ} (ho : off = ![r, c]) (x : S1x16.Idx) :
    (((Rect.unit (s := ⟨2, ![R, 128]⟩) off S1x16.size h).emb x) 0).val = r
      ∧ (((Rect.unit (s := ⟨2, ![R, 128]⟩) off S1x16.size h).emb x) 1).val = c + (x 1).val := by
  constructor
  · have e : off 0 = r := by rw [ho]; rfl
    have := (x 0).isLt; change (x 0).val < 1 at this
    show off 0 + 1 * (x 0).val = r
    omega
  · have e : off 1 = c := by rw [ho]; rfl
    show off 1 + 1 * (x 1).val = c + (x 1).val
    omega

/-- A place lies in the piece of its row and of its sixteen columns. -/
theorem mem_piece {R : ℕ} {off : Fin 2 → ℕ} (h : ∀ a, off a + S1x16.size a ≤ (⟨2, ![R, 128]⟩ : Shape).size a) {r c : ℕ} (ho : off = ![r, c])
    (y : (⟨2, ![R, 128]⟩ : Shape).Idx) (h0 : (y 0).val = r) (h1 : c ≤ (y 1).val) (h2 : (y 1).val < c + 16) :
    y ∈ (Rect.unit (s := ⟨2, ![R, 128]⟩) off S1x16.size h).set := by
  rw [Rect.mem_set_unit]
  have e0 : off 0 = r := by rw [ho]; rfl
  have e1 : off 1 = c := by rw [ho]; rfl
  intro a
  match a with
  | 0 => exact ⟨by show off 0 ≤ (y 0).val; omega, by show (y 0).val < off 0 + 1; omega⟩
  | 1 => exact ⟨by show off 1 ≤ (y 1).val; omega, by show (y 1).val < off 1 + 16; omega⟩

/-! ## Sixteen and four pieces as families -/

theorem forall16 {α : Type*} {Q : α → Prop} (p : Fin 4 → Fin 4 → α) (h : ∀ r s, Q (p r s)) :
    ∀ z ∈ [p 3 3, p 3 2, p 3 1, p 3 0, p 2 3, p 2 2, p 2 1, p 2 0, p 1 3, p 1 2, p 1 1, p 1 0, p 0 3, p 0 2, p 0 1, p 0 0], Q z := by
  simp only [List.forall_mem_cons, h, true_and, List.not_mem_nil, false_implies, implies_true]

theorem mem16 {α : Type*} (p : Fin 4 → Fin 4 → α) (r s : Fin 4) :
    p r s ∈ [p 3 3, p 3 2, p 3 1, p 3 0, p 2 3, p 2 2, p 2 1, p 2 0, p 1 3, p 1 2, p 1 1, p 1 0, p 0 3, p 0 2, p 0 1, p 0 0] := by
  fin_cases r <;> fin_cases s <;> simp

theorem forall4 {α : Type*} {Q : α → Prop} (p : Fin 4 → α) (h : ∀ r, Q (p r)) : ∀ z ∈ [p 3, p 2, p 1, p 0], Q z := by
  simp only [List.forall_mem_cons, h, true_and, List.not_mem_nil, false_implies, implies_true]

theorem mem4 {α : Type*} (p : Fin 4 → α) (r : Fin 4) : p r ∈ [p 3, p 2, p 1, p 0] := by
  fin_cases r <;> simp

/-! ## The pieces a column stores -/

variable (g j : ℕ) {ox oo : BitVec 32 → BitVec 32 → Fin 2 → ℕ} {o₁ : BitVec 32 → Fin 2 → ℕ} {o₂ : Fin 2 → ℕ}
  (hx : ∀ (r₁ : Fin 4) (r₂ : Fin 4), ∀ a, (ox (BitVec.ofNat 32 (4 * r₁.val)) (BitVec.ofNat 32 r₂.val)) a + S1x16.size a ≤ S160x128.size a)
  (ho : ∀ (r₁ : Fin 4) (r₂ : Fin 4), ∀ a, (oo (BitVec.ofNat 32 (4 * r₁.val)) (BitVec.ofNat 32 r₂.val)) a + S1x16.size a ≤ S160x128.size a)
  (h₁ : ∀ (r : Fin 4), ∀ a, (o₁ (BitVec.ofNat 32 r.val)) a + S1x16.size a ≤ S40x128.size a)
  (h₂ : ∀ a, o₂ a + S1x16.size a ≤ S10x128.size a)
  (vx : ∀ r₁ r₂ : Fin 4, ox (BitVec.ofNat 32 (4 * r₁.val)) (BitVec.ofNat 32 r₂.val) = ![16 * g + 4 * r₁.val + r₂.val, 16 * j])
  (vo : ∀ r₁ r₂ : Fin 4, oo (BitVec.ofNat 32 (4 * r₁.val)) (BitVec.ofNat 32 r₂.val) = ![16 * g + 4 * r₁.val + r₂.val, 16 * j])
  (v₁ : ∀ r : Fin 4, o₁ (BitVec.ofNat 32 r.val) = ![4 * g + r.val, 16 * j])
  (v₂ : o₂ = ![g, 16 * j])

/-- The piece of a row that the column loads. -/
def got (r₁ r₂ : Fin 4) : Vec F S1x16 .f32 :=
  v.readAt (Elt F) (Rect.unit (s := S160x128) (ox (BitVec.ofNat 32 (4 * r₁.val)) (BitVec.ofNat 32 r₂.val)) S1x16.size (hx r₁ r₂)).toLoadRect fx
/-- The four rows' mean. -/
def fourth (r₁ : Fin 4) : FVec F S16 .f32 :=
  quad (flat (got v fx hx r₁ 0)) (flat (got v fx hx r₁ 1)) (flat (got v fx hx r₁ 2)) (flat (got v fx hx r₁ 3))
/-- The mean of the four means. -/
def sixteenth : FVec F S16 .f32 := quad (fourth v fx hx 0) (fourth v fx hx 1) (fourth v fx hx 2) (fourth v fx hx 3)

def piece₀ (r₁ r₂ : Fin 4) : View.Piece (Elt F) S160x128 .f32 :=
  ⟨Rect.unit (s := S160x128) (oo (BitVec.ofNat 32 (4 * r₁.val)) (BitVec.ofNat 32 r₂.val)) S1x16.size (ho r₁ r₂),
    diff (flat (got v fx hx r₁ r₂)) (fourth v fx hx r₁)⟩
def piece₁ (r : Fin 4) : View.Piece (Elt F) S40x128 .f32 :=
  ⟨Rect.unit (s := S40x128) (o₁ (BitVec.ofNat 32 r.val)) S1x16.size (h₁ r), diff (fourth v fx hx r) (sixteenth v fx hx)⟩
def piece₂ : View.Piece (Elt F) S10x128 .f32 := ⟨Rect.unit (s := S10x128) o₂ S1x16.size h₂, row (sixteenth v fx hx)⟩

include vx in
theorem fourth_apply (r₁ : Fin 4) (x : S1x16.Idx) :
    fourth v fx hx r₁ (lane x) = mean4 (v.read (Elt F) fx) (4 * g + r₁.val) (16 * j + (x 1).val) := by
  have h (r₂ : Fin 4) := flat_load v fx (hx r₁ r₂) (vx r₁ r₂) x
  unfold fourth mean4
  rw [quad_apply]
  unfold got
  rw [h, h, h, h]
  have e : 16 * g + 4 * r₁.val = 4 * (4 * g + r₁.val) := by omega
  rw [e]
  rfl

include vx in
theorem sixteenth_apply (x : S1x16.Idx) :
    sixteenth v fx hx (lane x) = mean16 (v.read (Elt F) fx) g (16 * j + (x 1).val) := by
  unfold sixteenth mean16
  rw [quad_apply]
  simp only [fourth_apply v fx g j hx vx]
  rfl

include vx vo in
theorem piece₀_val (r₁ r₂ : Fin 4) (x : S1x16.Idx) :
    (piece₀ v fx hx ho r₁ r₂).2 x = G₀ (v.read (Elt F) fx) ((piece₀ v fx hx ho r₁ r₂).1.emb x) := by
  obtain ⟨e0, e1⟩ := emb_piece (R := 160) (ho r₁ r₂) (vo r₁ r₂) x
  have e0' : (((piece₀ v fx hx ho r₁ r₂).1.emb x) 0).val = 16 * g + 4 * r₁.val + r₂.val := e0
  have e1' : (((piece₀ v fx hx ho r₁ r₂).1.emb x) 1).val = 16 * j + (x 1).val := e1
  unfold G₀
  rw [e0', e1']
  refine (row_apply (subf (flat (got v fx hx r₁ r₂)) (fourth v fx hx r₁)) x).trans ?_
  show FloatOps.subf (flat (got v fx hx r₁ r₂) (lane x)) (fourth v fx hx r₁ (lane x)) = _
  rw [fourth_apply v fx g j hx vx]
  unfold got
  rw [flat_load v fx (hx r₁ r₂) (vx r₁ r₂) x]
  have : (16 * g + 4 * r₁.val + r₂.val) / 4 = 4 * g + r₁.val := by omega
  rw [this]

include vx v₁ in
theorem piece₁_val (r : Fin 4) (x : S1x16.Idx) :
    (piece₁ v fx hx h₁ r).2 x = G₁ (v.read (Elt F) fx) ((piece₁ v fx hx h₁ r).1.emb x) := by
  obtain ⟨e0, e1⟩ := emb_piece (R := 40) (h₁ r) (v₁ r) x
  have e0' : (((piece₁ v fx hx h₁ r).1.emb x) 0).val = 4 * g + r.val := e0
  have e1' : (((piece₁ v fx hx h₁ r).1.emb x) 1).val = 16 * j + (x 1).val := e1
  unfold G₁
  rw [e0', e1']
  refine (row_apply (subf (fourth v fx hx r) (sixteenth v fx hx)) x).trans ?_
  show FloatOps.subf (fourth v fx hx r (lane x)) (sixteenth v fx hx (lane x)) = _
  rw [fourth_apply v fx g j hx vx, sixteenth_apply v fx g j hx vx]
  have : (4 * g + r.val) / 4 = g := by omega
  rw [this]

include vx v₂ in
theorem piece₂_val (x : S1x16.Idx) :
    (piece₂ v fx hx h₂).2 x = G₂ (v.read (Elt F) fx) ((piece₂ v fx hx h₂).1.emb x) := by
  obtain ⟨e0, e1⟩ := emb_piece (R := 10) h₂ v₂ x
  have e0' : (((piece₂ v fx hx h₂).1.emb x) 0).val = g := e0
  have e1' : (((piece₂ v fx hx h₂).1.emb x) 1).val = 16 * j + (x 1).val := e1
  unfold G₂
  rw [e0', e1']
  show row (sixteenth v fx hx) x = _
  rw [row_apply, sixteenth_apply v fx g j hx vx]

/-! ## What a column leaves done -/

section
variable {κ' : Kind} {sp' : Space} (hj : j < 8)

include vx vo hj in
theorem done₀_column (w : View sig κ' sp' S160x128 .f32) (f : w.ty.Contents (Elt F)) (L : List (View.Piece (Elt F) S160x128 .f32))
    (hL : L = [piece₀ v fx hx ho 3 3, piece₀ v fx hx ho 3 2, piece₀ v fx hx ho 3 1, piece₀ v fx hx ho 3 0,
      piece₀ v fx hx ho 2 3, piece₀ v fx hx ho 2 2, piece₀ v fx hx ho 2 1, piece₀ v fx hx ho 2 0,
      piece₀ v fx hx ho 1 3, piece₀ v fx hx ho 1 2, piece₀ v fx hx ho 1 1, piece₀ v fx hx ho 1 0,
      piece₀ v fx hx ho 0 3, piece₀ v fx hx ho 0 2, piece₀ v fx hx ho 0 1, piece₀ v fx hx ho 0 0])
    (hD : Done (R := 160) 16 (G₀ (v.read (Elt F) fx)) (w.read (Elt F) f) (8 * g + j)) :
    Done (R := 160) 16 (G₀ (v.read (Elt F) fx)) (w.read (Elt F) (w.writes (Elt F) f L)) (8 * g + j + 1) := by
  subst hL
  refine done_writes w f _ _ g j hj (forall16 _ fun r s => piece₀_val v fx g j hx ho vx vo r s) (fun y h0 h1 => ?_) hD
  refine ⟨piece₀ v fx hx ho ⟨(y 0).val % 16 / 4, by omega⟩ ⟨(y 0).val % 4, by omega⟩, mem16 _ _ _, ?_⟩
  refine mem_piece (R := 160) (ho _ _) (vo _ _) y ?_ (by omega) (by omega)
  show (y 0).val = 16 * g + 4 * ((y 0).val % 16 / 4) + (y 0).val % 4
  omega

include vx v₁ hj in
theorem done₁_column (w : View sig κ' sp' S40x128 .f32) (f : w.ty.Contents (Elt F)) (L : List (View.Piece (Elt F) S40x128 .f32))
    (hL : L = [piece₁ v fx hx h₁ 3, piece₁ v fx hx h₁ 2, piece₁ v fx hx h₁ 1, piece₁ v fx hx h₁ 0])
    (hD : Done (R := 40) 4 (G₁ (v.read (Elt F) fx)) (w.read (Elt F) f) (8 * g + j)) :
    Done (R := 40) 4 (G₁ (v.read (Elt F) fx)) (w.read (Elt F) (w.writes (Elt F) f L)) (8 * g + j + 1) := by
  subst hL
  refine done_writes w f _ _ g j hj (forall4 _ fun r => piece₁_val v fx g j hx h₁ vx v₁ r) (fun y h0 h1 => ?_) hD
  refine ⟨piece₁ v fx hx h₁ ⟨(y 0).val % 4, by omega⟩, mem4 _ _, ?_⟩
  refine mem_piece (R := 40) (h₁ _) (v₁ _) y ?_ (by omega) (by omega)
  show (y 0).val = 4 * g + (y 0).val % 4
  omega

include vx v₂ hj in
theorem done₂_column (w : View sig κ' sp' S10x128 .f32) (f : w.ty.Contents (Elt F)) (L : List (View.Piece (Elt F) S10x128 .f32))
    (hL : L = [piece₂ v fx hx h₂]) (hD : Done (R := 10) 1 (G₂ (v.read (Elt F) fx)) (w.read (Elt F) f) (8 * g + j)) :
    Done (R := 10) 1 (G₂ (v.read (Elt F) fx)) (w.read (Elt F) (w.writes (Elt F) f L)) (8 * g + j + 1) := by
  subst hL
  refine done_writes w f _ _ g j hj (fun p hp x => by
    obtain rfl := List.mem_singleton.mp hp
    exact piece₂_val v fx g j hx h₂ vx v₂ x) (fun y h0 h1 => ?_) hD
  refine ⟨piece₂ v fx hx h₂, List.mem_singleton.mpr rfl, ?_⟩
  refine mem_piece (R := 10) h₂ v₂ y ?_ (by omega) (by omega)
  rw [Nat.div_one] at h0
  exact h0
end

end

end Cert.Proof.Pyramid

end
-- ==== Proof.ColumnRun.lean ====
/-
  The innermost loop, run: one block of columns, then the eight of a group, then the ten groups of a chunk.
-/
module

public import proofs.«01_k».proof.Proof.Chunk

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

section
variable (xm om₀ : Memref sig .scVector .vmem S160x128 .f32) (om₁ : Memref sig .scVector .vmem S40x128 .f32)
  (om₂ : Memref sig .scVector .vmem S10x128 .f32) (i : grid0.Coords) (d : Dev nD)

/-- The chunk in one window, unchanged, and its outputs' first `n` blocks done in the three others. -/
def progress (q : PosShare TreeShare) (fx : xm.view.ty.Contents (Elt F)) (n : ℕ) : sProp 𝕄 :=
  iprop((xm.view.loc (tile d i) ↦[xm.view.set]{q} fx)
    ∗ (∃ f₀, ⌜Done (R := 160) 16 (G₀ (xm.view.read (Elt F) fx)) (om₀.view.read (Elt F) f₀) n⌝ ∗ (om₀.view.loc (tile d i) ↦[om₀.view.set]{fullShare} f₀))
    ∗ (∃ f₁, ⌜Done (R := 40) 4 (G₁ (xm.view.read (Elt F) fx)) (om₁.view.read (Elt F) f₁) n⌝ ∗ (om₁.view.loc (tile d i) ↦[om₁.view.set]{fullShare} f₁))
    ∗ (∃ f₂, ⌜Done (R := 10) 1 (G₂ (xm.view.read (Elt F) fx)) (om₂.view.read (Elt F) f₂) n⌝ ∗ (om₂.view.loc (tile d i) ↦[om₂.view.set]{fullShare} f₂)))

variable {ox oo : BitVec 32 → BitVec 32 → Fin 2 → ℕ} {o₁ : BitVec 32 → Fin 2 → ℕ} {o₂ : Fin 2 → ℕ}
  (hx : ∀ (r₁ : Fin 4) (r₂ : Fin 4), ∀ a, (ox (BitVec.ofNat 32 (4 * r₁.val)) (BitVec.ofNat 32 r₂.val)) a + S1x16.size a ≤ S160x128.size a)
  (ho : ∀ (r₁ : Fin 4) (r₂ : Fin 4), ∀ a, (oo (BitVec.ofNat 32 (4 * r₁.val)) (BitVec.ofNat 32 r₂.val)) a + S1x16.size a ≤ S160x128.size a)
  (h₁ : ∀ (r : Fin 4), ∀ a, (o₁ (BitVec.ofNat 32 r.val)) a + S1x16.size a ≤ S40x128.size a)
  (h₂ : ∀ a, o₂ a + S1x16.size a ≤ S10x128.size a)

theorem wp_column (g j : ℕ) (hj : j < 8)
    (vx : ∀ r₁ r₂ : Fin 4, ox (BitVec.ofNat 32 (4 * r₁.val)) (BitVec.ofNat 32 r₂.val) = ![16 * g + 4 * r₁.val + r₂.val, 16 * j])
    (vo : ∀ r₁ r₂ : Fin 4, oo (BitVec.ofNat 32 (4 * r₁.val)) (BitVec.ofNat 32 r₂.val) = ![16 * g + 4 * r₁.val + r₂.val, 16 * j])
    (v₁ : ∀ r : Fin 4, o₁ (BitVec.ofNat 32 r.val) = ![4 * g + r.val, 16 * j]) (v₂ : o₂ = ![g, 16 * j])
    (q : PosShare TreeShare) (fx : xm.view.ty.Contents (Elt F)) :
    progress xm om₀ om₁ om₂ i d q fx (8 * g + j)
      ⊢ wp frame (wpE (defs₀ (F := F)) 𝒱₀ (tile d i) none) Set.univ (column xm om₀ om₁ om₂ ox oo o₁ o₂ hx ho h₁ h₂ i)
          fun _ => progress xm om₀ om₁ om₂ i d q fx (8 * g + j + 1) := by
  unfold column progress
  iintro ⟨Hx, ⟨%f₀, %d₀, H0⟩, ⟨%f₁, %d₁, H1⟩, ⟨%f₂, %d₂, H2⟩⟩
  sl_exec
  sl_step
  isplitl [Hx]; · iexact Hx
  isplitl [H0]
  · iexists _; isplitr [H0]
    · ipureintro
      exact done₀_column xm.view fx g j hx ho vx vo hj om₀.view f₀ _ rfl d₀
    · iexact H0
  isplitl [H1]
  · iexists _; isplitr [H1]
    · ipureintro
      exact done₁_column xm.view fx g j hx h₁ vx v₁ hj om₁.view f₁ _ rfl d₁
    · iexact H1
  · iexists _; isplitr [H2]
    · ipureintro
      exact done₂_column xm.view fx g j hx h₂ vx v₂ hj om₂.view f₂ _ rfl d₂
    · iexact H2

end

/-! ## The words of a pass's offsets -/

theorem trips_ten : k0_t2_loop.trips = 10 := by decide

theorem row₀_word (t : Fin k0_t2_loop.trips) (r s : Fin 4) :
    (Scalar.indexCast (Scalar.addi (Scalar.addi (Scalar.muli (Scalar.addi 0#32 (Scalar.muli (Scf.iv 0#32 1#32 t) 1#32)) 16#32)
      (BitVec.ofNat 32 (4 * r.val))) (BitVec.ofNat 32 s.val)) : Index).toNat = 16 * t.val + 4 * r.val + s.val := by
  revert t r s; decide

theorem row₁_word (t : Fin k0_t2_loop.trips) (r : Fin 4) :
    (Scalar.indexCast (Scalar.addi (Scalar.muli (Scalar.addi 0#32 (Scalar.muli (Scf.iv 0#32 1#32 t) 1#32)) 4#32)
      (BitVec.ofNat 32 r.val)) : Index).toNat = 4 * t.val + r.val := by
  revert t r; decide

theorem row₂_word (t : Fin k0_t2_loop.trips) :
    (Scalar.indexCast (Scalar.addi 0#32 (Scalar.muli (Scf.iv 0#32 1#32 t) 1#32)) : Index).toNat = t.val := by
  revert t; decide

/-! ## A pass, and the ten of them -/

section
variable (i : grid0.Coords) (arg2 : Memref sig .scVector .hbm S1250x160x128 .f32) (harg2 : arg2.IsWhole) (arg3 : Memref sig .scVector .hbm S1250x160x128 .f32) (harg3 : arg3.IsWhole) (arg4 : Memref sig .scVector .hbm S1250x40x128 .f32) (harg4 : arg4.IsWhole) (arg5 : Memref sig .scVector .hbm S1250x10x128 .f32) (harg5 : arg5.IsWhole) (alloca_r0 : Memref sig .scVector .vmem S2x1x160x128 .f32) (halloca_r0 : alloca_r0.IsWhole) (v12_r0 : DmaSems sig S2) (alloca_4_r0 : Memref sig .scVector .vmem S2x1x160x128 .f32) (halloca_4_r0 : alloca_4_r0.IsWhole) (v13_r0 : DmaSems sig S2) (alloca_5_r0 : Memref sig .scVector .vmem S2x1x40x128 .f32) (halloca_5_r0 : alloca_5_r0.IsWhole) (v14_r0 : DmaSems sig S2) (alloca_6_r0 : Memref sig .scVector .vmem S2x1x10x128 .f32) (halloca_6_r0 : alloca_6_r0.IsWhole) (v15_r0 : DmaSems sig S2) (k0_h1 : k0_cond1 i = 1#1) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw5 : k0_chk5 i arg13_r0) (k0_hw4 : k0_chk4 i arg11_r0) (k0_hw3 : k0_chk3 i arg9_r0) (k0_hw2 : k0_chk2 i arg8_r0) (k0_hw1 : k0_chk1 i k0_t1 arg7_r0 arg8_r0 arg9_r0 arg10_r0 arg11_r0 arg12_r0 arg13_r0 arg14_r0 arg15_r0) (v89_r0 : BitVec 1) (v90_r0 : BitVec 32) (v101_r0 : BitVec 32) (v159_r0 : BitVec 32)

/-- The window of the chunk the pass reads, and those of the outputs it writes. -/
abbrev xWin : Memref sig .scVector .vmem S160x128 .f32 := win160 alloca_r0 (k0_off10 arg8_r0) (k0_off10_inb i arg8_r0 k0_hw2 k0_h1)
abbrev oWin₀ : Memref sig .scVector .vmem S160x128 .f32 := win160 alloca_4_r0 (k0_off12 arg9_r0) (k0_off12_inb i arg9_r0 k0_hw3 k0_h1)
abbrev oWin₁ : Memref sig .scVector .vmem S40x128 .f32 := win40 alloca_5_r0 (k0_off14 arg11_r0) (k0_off14_inb i arg11_r0 k0_hw4 k0_h1)
abbrev oWin₂ : Memref sig .scVector .vmem S10x128 .f32 := win10 alloca_6_r0 (k0_off16 arg13_r0) (k0_off16_inb i arg13_r0 k0_hw5 k0_h1)

/-- `progress` over the windows of a chunk's pass. -/
abbrev passed (d : Dev nD) (q : PosShare TreeShare) (fx : (xWin i alloca_r0 k0_h1 arg8_r0 k0_hw2).view.ty.Contents (Elt F)) (n : ℕ) : sProp 𝕄 :=
  progress (xWin i alloca_r0 k0_h1 arg8_r0 k0_hw2) (oWin₀ i alloca_4_r0 k0_h1 arg9_r0 k0_hw3) (oWin₁ i alloca_5_r0 k0_h1 arg11_r0 k0_hw4)
    (oWin₂ i alloca_6_r0 k0_h1 arg13_r0 k0_hw5) i d q fx n

theorem wp_pass (d : Dev nD) (q : PosShare TreeShare) (fx : (xWin i alloca_r0 k0_h1 arg8_r0 k0_hw2).view.ty.Contents (Elt F))
    (k0_t2 : Fin k0_t2_loop.trips) (u : Unit) :
    passed i alloca_r0 alloca_4_r0 alloca_5_r0 alloca_6_r0 k0_h1 arg8_r0 arg9_r0 arg11_r0 arg13_r0 k0_hw5 k0_hw4 k0_hw3 k0_hw2 d q fx (8 * k0_t2.val)
      ⊢ wp frame (wpE (defs₀ (F := F)) 𝒱₀ (tile d i) none) Set.univ (k0_t2_body (F := F) i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 k0_h1 k0_t1 arg7_r0 arg8_r0 arg9_r0 arg10_r0 arg11_r0 arg12_r0 arg13_r0 arg14_r0 arg15_r0 k0_hw5 k0_hw4 k0_hw3 k0_hw2 k0_hw1 v89_r0 v90_r0 v101_r0 v159_r0 k0_t2 u)
          fun _ => passed i alloca_r0 alloca_4_r0 alloca_5_r0 alloca_6_r0 k0_h1 arg8_r0 arg9_r0 arg11_r0 arg13_r0 k0_hw5 k0_hw4 k0_hw3 k0_hw2 d q fx (8 * (k0_t2.val + 1)) := by
  rw [t2_body_eq, wp_bind]
  refine (wp_column _ _ _ _ i d (k0_off11_inb i k0_t2 k0_h1) (k0_off13_inb i k0_t2 k0_h1) (k0_off15_inb i k0_t2 k0_h1) (k0_off17_inb i k0_t2 k0_h1) k0_t2.val 0 (by decide) (fun r s => congrArg (fun r => ![r, 0]) (row₀_word k0_t2 r s))
    (fun r s => congrArg (fun r => ![r, 0]) (row₀_word k0_t2 r s)) (fun r => congrArg (fun r => ![r, 0]) (row₁_word k0_t2 r))
    (congrArg (fun r => ![r, 0]) (row₂_word k0_t2)) q fx).trans ?_
  refine wp_mono _ _ _ fun _ => ?_
  rw [wp_bind]
  refine (wp_column _ _ _ _ i d (k0_off19_inb i k0_t2 k0_h1) (k0_off19_inb i k0_t2 k0_h1) (k0_off22_inb i k0_t2 k0_h1) (k0_off23_inb i k0_t2 k0_h1) k0_t2.val 1 (by decide) (fun r s => congrArg (fun r => ![r, 16]) (row₀_word k0_t2 r s))
    (fun r s => congrArg (fun r => ![r, 16]) (row₀_word k0_t2 r s)) (fun r => congrArg (fun r => ![r, 16]) (row₁_word k0_t2 r))
    (congrArg (fun r => ![r, 16]) (row₂_word k0_t2)) q fx).trans ?_
  refine wp_mono _ _ _ fun _ => ?_
  rw [wp_bind]
  refine (wp_column _ _ _ _ i d (k0_off24_inb i k0_t2 k0_h1) (k0_off24_inb i k0_t2 k0_h1) (k0_off25_inb i k0_t2 k0_h1) (k0_off26_inb i k0_t2 k0_h1) k0_t2.val 2 (by decide) (fun r s => congrArg (fun r => ![r, 32]) (row₀_word k0_t2 r s))
    (fun r s => congrArg (fun r => ![r, 32]) (row₀_word k0_t2 r s)) (fun r => congrArg (fun r => ![r, 32]) (row₁_word k0_t2 r))
    (congrArg (fun r => ![r, 32]) (row₂_word k0_t2)) q fx).trans ?_
  refine wp_mono _ _ _ fun _ => ?_
  rw [wp_bind]
  refine (wp_column _ _ _ _ i d (k0_off27_inb i k0_t2 k0_h1) (k0_off27_inb i k0_t2 k0_h1) (k0_off28_inb i k0_t2 k0_h1) (k0_off29_inb i k0_t2 k0_h1) k0_t2.val 3 (by decide) (fun r s => congrArg (fun r => ![r, 48]) (row₀_word k0_t2 r s))
    (fun r s => congrArg (fun r => ![r, 48]) (row₀_word k0_t2 r s)) (fun r => congrArg (fun r => ![r, 48]) (row₁_word k0_t2 r))
    (congrArg (fun r => ![r, 48]) (row₂_word k0_t2)) q fx).trans ?_
  refine wp_mono _ _ _ fun _ => ?_
  rw [wp_bind]
  refine (wp_column _ _ _ _ i d (k0_off30_inb i k0_t2 k0_h1) (k0_off30_inb i k0_t2 k0_h1) (k0_off31_inb i k0_t2 k0_h1) (k0_off32_inb i k0_t2 k0_h1) k0_t2.val 4 (by decide) (fun r s => congrArg (fun r => ![r, 64]) (row₀_word k0_t2 r s))
    (fun r s => congrArg (fun r => ![r, 64]) (row₀_word k0_t2 r s)) (fun r => congrArg (fun r => ![r, 64]) (row₁_word k0_t2 r))
    (congrArg (fun r => ![r, 64]) (row₂_word k0_t2)) q fx).trans ?_
  refine wp_mono _ _ _ fun _ => ?_
  rw [wp_bind]
  refine (wp_column _ _ _ _ i d (k0_off33_inb i k0_t2 k0_h1) (k0_off33_inb i k0_t2 k0_h1) (k0_off34_inb i k0_t2 k0_h1) (k0_off35_inb i k0_t2 k0_h1) k0_t2.val 5 (by decide) (fun r s => congrArg (fun r => ![r, 80]) (row₀_word k0_t2 r s))
    (fun r s => congrArg (fun r => ![r, 80]) (row₀_word k0_t2 r s)) (fun r => congrArg (fun r => ![r, 80]) (row₁_word k0_t2 r))
    (congrArg (fun r => ![r, 80]) (row₂_word k0_t2)) q fx).trans ?_
  refine wp_mono _ _ _ fun _ => ?_
  rw [wp_bind]
  refine (wp_column _ _ _ _ i d (k0_off36_inb i k0_t2 k0_h1) (k0_off36_inb i k0_t2 k0_h1) (k0_off37_inb i k0_t2 k0_h1) (k0_off38_inb i k0_t2 k0_h1) k0_t2.val 6 (by decide) (fun r s => congrArg (fun r => ![r, 96]) (row₀_word k0_t2 r s))
    (fun r s => congrArg (fun r => ![r, 96]) (row₀_word k0_t2 r s)) (fun r => congrArg (fun r => ![r, 96]) (row₁_word k0_t2 r))
    (congrArg (fun r => ![r, 96]) (row₂_word k0_t2)) q fx).trans ?_
  refine wp_mono _ _ _ fun _ => ?_
  rw [wp_bind]
  refine (wp_column _ _ _ _ i d (k0_off39_inb i k0_t2 k0_h1) (k0_off39_inb i k0_t2 k0_h1) (k0_off40_inb i k0_t2 k0_h1) (k0_off41_inb i k0_t2 k0_h1) k0_t2.val 7 (by decide) (fun r s => congrArg (fun r => ![r, 112]) (row₀_word k0_t2 r s))
    (fun r s => congrArg (fun r => ![r, 112]) (row₀_word k0_t2 r s)) (fun r => congrArg (fun r => ![r, 112]) (row₁_word k0_t2 r))
    (congrArg (fun r => ![r, 112]) (row₂_word k0_t2)) q fx).trans ?_
  refine wp_mono _ _ _ fun _ => ?_
  rw [wp_pure]
  exact fupd_intro

end

end Cert.Proof.Pyramid

end
-- ==== Proof.Lane.lean ====
/-
  The two-slot rings a tile streams its chunks through, one semaphore a slot: what is held of an array's rows, of a slot
  and of a transfer in flight, and the four steps of a ring (a copy in or out is started, or waited for).
-/
module

public import proofs.«01_k».proof.Proof.ColumnRun
public import Idealize.ShloMosaic.Lib.Transfers
public import Idealize.ShloMosaic.Lib.Writes

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Shapes: `R` rows of 128 lanes a chunk -/

/-- An array of 1250 chunks, a chunk of it, a ring of two slots, a slot of it, a chunk's plain table. -/
abbrev ArrS (R : ℕ) : Shape := ⟨3, ![1250, R, 128]⟩
abbrev ChS (R : ℕ) : Shape := ⟨3, ![1, R, 128]⟩
abbrev RingS (R : ℕ) : Shape := ⟨4, ![2, 1, R, 128]⟩
abbrev SlotS (R : ℕ) : Shape := ⟨4, ![1, 1, R, 128]⟩

theorem inbC (R : ℕ) {c : ℕ} (hc : c < 1250) : ∀ x, (![c, 0, 0] : Fin 3 → ℕ) x + (ChS R).size x ≤ (ArrS R).size x := by
  intro x
  fin_cases x
  · show c + 1 ≤ 1250; omega
  · show 0 + R ≤ R; omega
  · show 0 + 128 ≤ 128; omega

theorem inbS (R : ℕ) {b : ℕ} (hb : b < 2) : ∀ x, (![b, 0, 0, 0] : Fin 4 → ℕ) x + (SlotS R).size x ≤ (RingS R).size x := by
  intro x
  fin_cases x
  · show b + 1 ≤ 2; omega
  · show 0 + 1 ≤ 1; omega
  · show 0 + R ≤ R; omega
  · show 0 + 128 ≤ 128; omega

theorem inbM {b : ℕ} (hb : b < 2) : ∀ x, (![b] : Fin 1 → ℕ) x + S1.size x ≤ S2.size x := by
  intro x
  fin_cases x
  show b + 1 ≤ 2; omega

abbrev EC : UEmb Counters (MM F) := countersEmb

section
variable {R : ℕ} (i : grid0.Coords) (d : Dev nD)
variable (a : Memref sig .scVector .hbm (ArrS R) .f32) (m : Memref sig .scVector .vmem (RingS R) .f32) (sm : DmaSems sig S2)
variable (sq : (SlotS R).Squeezes (ChS R))

/-- Chunk `c` of the array, slot `b` of the ring, and the slot's semaphore. -/
abbrev chunkM (c : ℕ) (hc : c < 1250) : Memref sig .scVector .hbm (ChS R) .f32 :=
  a.slice (Rect.unit (s := ArrS R) ![c, 0, 0] (ChS R).size (inbC R hc)) (fun _ => rfl)
abbrev slotM (b : ℕ) (hb : b < 2) : Memref sig .scVector .vmem (ChS R) .f32 :=
  (m.slice (Rect.unit (s := RingS R) ![b, 0, 0, 0] (SlotS R).size (inbS R hb)) (fun _ => rfl)).squeeze (ChS R) sq
abbrev cell (b : ℕ) (hb : b < 2) : SemLoc sig :=
  .dma ((sm.slice (Rect.unit (s := S2) ![b] S1.size (inbM hb))).squeeze S_ squeezes_S1_S_).sem

/-! ## Rows of an array -/

/-- The elements of chunks `lo ≤ c < hi`. -/
def rows (lo hi : ℕ) : Finset a.view.ty.Idx :=
  a.view.setOn (Finset.univ.filter fun y : (ArrS R).Idx => lo ≤ (y 0).val ∧ (y 0).val < hi)

theorem mem_rows (lo hi : ℕ) (y : (ArrS R).Idx) : a.view.emb y ∈ rows a lo hi ↔ lo ≤ (y 0).val ∧ (y 0).val < hi := by
  unfold rows; rw [View.mem_setOn]; simp

theorem rows_of_mem {lo hi : ℕ} {z : a.view.ty.Idx} (h : z ∈ rows a lo hi) : ∃ y, a.view.emb y = z := by
  unfold rows View.setOn at h
  obtain ⟨y, _, e⟩ := Finset.mem_map.mp h
  exact ⟨y, e⟩

theorem chunk_set (c : ℕ) (hc : c < 1250) : (chunkM a c hc).view.set = rows a c (c + 1) := by
  show (a.view.slice _).set = _
  rw [View.set_slice]
  unfold rows View.setOn
  congr 1
  ext y
  simp only [Rect.mem_set_unit, Finset.mem_filter, Finset.mem_univ, true_and]
  constructor
  · intro h
    have h0 : c ≤ (y 0).val ∧ (y 0).val < c + 1 := h 0
    exact h0
  · intro h x
    have h1 := (y 1).isLt
    have h2 := (y 2).isLt
    fin_cases x
    · show c ≤ (y 0).val ∧ (y 0).val < c + 1; exact h
    · exact ⟨Nat.zero_le _, by show (y 1).val < 0 + R; rw [Nat.zero_add]; exact h1⟩
    · exact ⟨Nat.zero_le _, by show (y 2).val < 0 + 128; rw [Nat.zero_add]; exact h2⟩

theorem rows_sdiff {lo hi : ℕ} (h : lo < hi) : rows a lo hi \ rows a lo (lo + 1) = rows a (lo + 1) hi := by
  ext z
  rw [Finset.mem_sdiff]
  constructor
  · rintro ⟨h1, h2⟩
    obtain ⟨y, rfl⟩ := rows_of_mem a h1
    rw [mem_rows] at h1 h2 ⊢
    omega
  · intro h1
    obtain ⟨y, rfl⟩ := rows_of_mem a h1
    rw [mem_rows] at h1
    rw [mem_rows, mem_rows]
    omega

theorem rows_subset {lo hi : ℕ} (h : lo < hi) : rows a lo (lo + 1) ⊆ rows a lo hi := by
  intro z h1
  obtain ⟨y, rfl⟩ := rows_of_mem a h1
  rw [mem_rows] at h1 ⊢
  omega

theorem rows_union {lo k : ℕ} (h : lo ≤ k) : rows a lo k ∪ rows a k (k + 1) = rows a lo (k + 1) := by
  ext z
  rw [Finset.mem_union]
  constructor
  · rintro (h1 | h1) <;>
    · obtain ⟨y, rfl⟩ := rows_of_mem a h1
      rw [mem_rows] at h1 ⊢
      omega
  · intro h1
    obtain ⟨y, rfl⟩ := rows_of_mem a h1
    rw [mem_rows] at h1
    rw [mem_rows, mem_rows]
    omega

theorem rows_disjoint {lo k hi : ℕ} : Disjoint (rows a lo k) (rows a k hi) := by
  rw [Finset.disjoint_left]
  intro z h1 h2
  obtain ⟨y, rfl⟩ := rows_of_mem a h1
  rw [mem_rows] at h1 h2
  omega

theorem rows_empty {lo hi : ℕ} (h : hi ≤ lo) : rows a lo hi = ∅ := by
  rw [Finset.eq_empty_iff_forall_notMem]
  intro z h1
  obtain ⟨y, rfl⟩ := rows_of_mem a h1
  rw [mem_rows] at h1
  omega

/-! ## What is held -/

/-- The array's rows `lo ≤ c < hi`. -/
def held (f : a.view.ty.Contents (Elt F)) (lo hi : ℕ) : sProp (MM F) := (a.view.loc (tile d i) ↦[rows a lo hi]{fullShare} f)

/-- A slot whose contents satisfy `φ`. -/
def slot (b : ℕ) (hb : b < 2) (φ : ((ChS R).Idx → Elt F .f32) → Prop) : sProp (MM F) :=
  iprop(∃ f : m.view.ty.Contents (Elt F), ⌜φ ((slotM m sq b hb).view.read (Elt F) f)⌝
    ∗ (m.view.loc (tile d i) ↦[(slotM m sq b hb).view.set]{fullShare} f))

/-- A slot at rest: its contents whatever they are, its semaphore at zero. -/
def rest (b : ℕ) (hb : b < 2) : sProp (MM F) := iprop(slot i d m sq b hb (fun _ => True) ∗ semVal (tile d i, cell sm b hb) 0)

/-- Chunk `c` on its way into the slot. -/
def coming (b : ℕ) (hb : b < 2) (f : a.view.ty.Contents (Elt F)) (c : ℕ) (hc : c < 1250) : sProp (MM F) :=
  Transfers.Flight EC (tile d i) (cell sm b hb) none ((slotM m sq b hb).view.amount (cell sm b hb))
    iprop(slot i d m sq b hb (fun w => w = (chunkM a c hc).view.read (Elt F) f) ∗ held i d a f c (c + 1))

/-- Chunk `c` on its way out of the slot. -/
def going (b : ℕ) (hb : b < 2) (f : a.view.ty.Contents (Elt F)) (c : ℕ) (hc : c < 1250) : sProp (MM F) :=
  Transfers.Flight EC (tile d i) (cell sm b hb) none ((chunkM a c hc).view.amount (cell sm b hb))
    iprop(held i d a f c (c + 1) ∗ slot i d m sq b hb (fun _ => True))

/-- What the tile owes, its waits so far recorded. -/
def owed (O : CellTallies nD τ sig (HIx 1)) (W : Waits sig (HIx 1)) : sProp (MM F) :=
  iprop(∃ W', ⌜∀ p ∈ W', p ∈ W ∨ p.2 = none⌝ ∗ owes (tile d i) O W')

theorem held_split {f : a.view.ty.Contents (Elt F)} {lo hi : ℕ} (h : lo < hi) :
    held i d a f lo hi ⊢ iprop(held i d a f lo (lo + 1) ∗ held i d a f (lo + 1) hi) := by
  unfold held
  have e := (pointsTo_split_subset (Ix := HIx 1) (Name := ℕ) (U := UU) (Lvl := ℕ) (ℓ := a.view.loc (tile d i)) (q := fullShare) (f := f) (rows_subset a h)).1
  rw [rows_sdiff a h] at e
  exact e

theorem held_join {f : a.view.ty.Contents (Elt F)} {lo k : ℕ} (h : lo ≤ k) :
    iprop(held i d a f lo k ∗ held i d a f k (k + 1)) ⊢ held i d a f lo (k + 1) := by
  unfold held
  have e := (pointsTo_union (Ix := HIx 1) (Name := ℕ) (U := UU) (Lvl := ℕ) (ℓ := a.view.loc (tile d i)) (q := fullShare) (f := f) (rows_disjoint a (lo := lo) (k := k) (hi := k + 1))).2
  rw [rows_union a h] at e
  exact e

theorem held_empty {f : a.view.ty.Contents (Elt F)} {lo hi : ℕ} (h : hi ≤ lo) : held i d a f lo hi = (iprop(emp) : sProp (MM F)) := by
  unfold held; rw [rows_empty a h]; exact pointsTo_empty

/-! ## The steps -/

variable {α : Type} {Q : α → sProp (MM F)}

/-- A copy of chunk `c` into slot `b` is started. -/
theorem wp_coming {f : a.view.ty.Contents (Elt F)} {c hi b : ℕ} (hc : c < 1250) (hb : b < 2) (hlt : c < hi)
    {offS : Fin 3 → ℕ} {offD : Fin 4 → ℕ} {offM : Fin 1 → ℕ} (eS : offS = ![c, 0, 0]) (eD : offD = ![b, 0, 0, 0]) (eM : offM = ![b])
    {hS : ∀ x, offS x + (ChS R).size x ≤ (ArrS R).size x} {hD : ∀ x, offD x + (SlotS R).size x ≤ (RingS R).size x}
    {hM : ∀ x, offM x + S1.size x ≤ S2.size x} {h1 h2 h3} {k : PUnit → ProgV F i α} (hN0 : 0 < (ChS R).numel) :
    iprop(held i d a f c hi ∗ rest i d m sm sq b hb)
      ⊢ iprop((iprop(coming i d a m sm sq b hb f c hc ∗ held i d a f (c + 1) hi) -∗ wp frame (wpE (defs₀ (F := F)) 𝒱₀ (tile d i) none) Set.univ (k ⟨⟩) Q)
        -∗ wp frame (wpE (defs₀ (F := F)) 𝒱₀ (tile d i) none) Set.univ
          (.op (.enqueueDmaAs (a.slice (Rect.unit (s := ArrS R) offS (ChS R).size hS) (fun _ => rfl))
            (.here ((m.slice (Rect.unit (s := RingS R) offD (SlotS R).size hD) (fun _ => rfl)).squeeze (ChS R) sq)) .same
            (.dma ((sm.slice (Rect.unit (s := S2) offM S1.size hM)).squeeze S_ squeezes_S1_S_).sem) h1 h2 h3) k) Q) := by
  subst eS eD eM
  iintro ⟨Hx, Hr⟩ Hk
  ihave Hx := (held_split i d a hlt) $$ Hx
  icases Hx with ⟨Hx, Hx'⟩
  unfold rest slot
  icases Hr with ⟨⟨%g, -, Hg⟩, Hv⟩
  iapply (Transfers.wp_dmaLocal EC 𝒱₀ (tile d i) none none ((slotM m sq b hb).view.amount (cell sm b hb)) rfl (View.amount_pos _ _ hN0) subset_rfl
    (src := chunkM a c hc) (fs := f) (fd := g) (q := fullShare)) $$ [Hx Hg Hv]
  · isplitl [Hx]
    · unfold held; rw [← chunk_set a c hc]; iexact Hx
    isplitl [Hg]
    · iexact Hg
    · iexact Hv
  iintro Hf
  iapply Hk
  isplitl [Hf]
  · unfold coming
    iapply (Transfers.Flight_mono EC (tile d i) ?_) $$ Hf
    iintro ⟨Hd, Hs⟩
    isplitl [Hd]
    · unfold slot
      iexists _
      isplitr [Hd]
      rotate_left
      · iexact Hd
      · ipureintro
        exact View.read_write_univ _ _
    · unfold held; rw [← chunk_set a c hc]; iexact Hs
  · iexact Hx'

/-- A copy of slot `b`, which holds chunk `c` of `T`, out to chunk `c` of the array is started. -/
theorem wp_going {f T : a.view.ty.Contents (Elt F)} {c hi b : ℕ} (hc : c < 1250) (hb : b < 2) (hlt : c < hi)
    {offS : Fin 3 → ℕ} {offD : Fin 4 → ℕ} {offM : Fin 1 → ℕ} (eS : offS = ![c, 0, 0]) (eD : offD = ![b, 0, 0, 0]) (eM : offM = ![b])
    {hS : ∀ x, offS x + (ChS R).size x ≤ (ArrS R).size x} {hD : ∀ x, offD x + (SlotS R).size x ≤ (RingS R).size x}
    {hM : ∀ x, offM x + S1.size x ≤ S2.size x} {h1 h2 h3} {k : PUnit → ProgV F i α} (hN0 : 0 < (ChS R).numel) :
    iprop(held i d a f c hi ∗ slot i d m sq b hb (fun w => w = (chunkM a c hc).view.read (Elt F) T) ∗ semVal (tile d i, cell sm b hb) 0)
      ⊢ iprop((iprop(going i d a m sm sq b hb T c hc ∗ held i d a f (c + 1) hi) -∗ wp frame (wpE (defs₀ (F := F)) 𝒱₀ (tile d i) none) Set.univ (k ⟨⟩) Q)
        -∗ wp frame (wpE (defs₀ (F := F)) 𝒱₀ (tile d i) none) Set.univ
          (.op (.enqueueDmaAs ((m.slice (Rect.unit (s := RingS R) offD (SlotS R).size hD) (fun _ => rfl)).squeeze (ChS R) sq)
            (.here (a.slice (Rect.unit (s := ArrS R) offS (ChS R).size hS) (fun _ => rfl))) .same
            (.dma ((sm.slice (Rect.unit (s := S2) offM S1.size hM)).squeeze S_ squeezes_S1_S_).sem) h1 h2 h3) k) Q) := by
  subst eS eD eM
  iintro ⟨Hx, Hr, Hv⟩ Hk
  ihave Hx := (held_split i d a hlt) $$ Hx
  icases Hx with ⟨Hx, Hx'⟩
  unfold slot
  icases Hr with ⟨%g, %hg, Hg⟩
  iapply (Transfers.wp_dmaLocal EC 𝒱₀ (tile d i) none none ((chunkM a c hc).view.amount (cell sm b hb)) rfl (View.amount_pos _ _ hN0) subset_rfl
    (dst := chunkM a c hc) (src := slotM m sq b hb) (fs := g) (fd := f) (q := fullShare)) $$ [Hx Hg Hv]
  · isplitl [Hg]
    · iexact Hg
    isplitl [Hx]
    · unfold held; rw [← chunk_set a c hc]; iexact Hx
    · iexact Hv
  iintro Hf
  iapply Hk
  isplitl [Hf]
  · unfold going
    iapply (Transfers.Flight_mono EC (tile d i) ?_) $$ Hf
    iintro ⟨Hd, Hs⟩
    isplitl [Hd]
    · unfold held; rw [← chunk_set a c hc]
      iapply (Entails.of_eq (pointsTo_congr ?_)) $$ Hd
      have e : (chunkM a c hc).view.write (Elt F) f (ReadAs.same.apply ((slotM m sq b hb).view.read (Elt F) g)) Finset.univ
          = (chunkM a c hc).view.write (Elt F) f ((chunkM a c hc).view.read (Elt F) T) Finset.univ := by
        rw [← hg]
      intro z hz
      rw [e]
      obtain ⟨y, _, rfl⟩ := Finset.mem_map.mp hz
      rw [View.write_emb_of_mem _ _ (Finset.mem_univ y), View.read_apply, cast_cast, cast_eq]
    · unfold slot
      iexists _
      isplitr [Hs]
      rotate_left
      · iexact Hs
      · ipureintro
        trivial
  · iexact Hx'

/-- The copy into slot `b` is waited for. -/
theorem wp_came {f : a.view.ty.Contents (Elt F)} {c b : ℕ} (hc : c < 1250) (hb : b < 2)
    {O : CellTallies nD τ sig (HIx 1)} {W : Waits sig (HIx 1)}
    {offS : Fin 3 → ℕ} {offD : Fin 4 → ℕ} {offM : Fin 1 → ℕ} (eD : offD = ![b, 0, 0, 0]) (eM : offM = ![b])
    {hS : ∀ x, offS x + (ChS R).size x ≤ (ArrS R).size x} {hD : ∀ x, offD x + (SlotS R).size x ≤ (RingS R).size x}
    {hM : ∀ x, offM x + S1.size x ≤ S2.size x} {h1 h2} {k : PUnit → ProgV F i α} :
    iprop(coming i d a m sm sq b hb f c hc ∗ owed i d O W ∗ Transfers.MayWaits (tile d i) none O)
      ⊢ iprop((iprop(slot i d m sq b hb (fun w => w = (chunkM a c hc).view.read (Elt F) f) ∗ held i d a f c (c + 1)
            ∗ semVal (tile d i, cell sm b hb) 0 ∗ owed i d O W) -∗ wp frame (wpE (defs₀ (F := F)) 𝒱₀ (tile d i) none) Set.univ (k ⟨⟩) Q)
        -∗ wp frame (wpE (defs₀ (F := F)) 𝒱₀ (tile d i) none) Set.univ
          (.op (.waitDma2 ((sm.slice (Rect.unit (s := S2) offM S1.size hM)).squeeze S_ squeezes_S1_S_).sem
            (a.slice (Rect.unit (s := ArrS R) offS (ChS R).size hS) (fun _ => rfl))
            ((m.slice (Rect.unit (s := RingS R) offD (SlotS R).size hD) (fun _ => rfl)).squeeze (ChS R) sq) h1 h2) k) Q) := by
  subst eD eM
  unfold owed coming
  iintro ⟨Hf, ⟨%W', %hW', Ho⟩, Hmw⟩ Hk
  ihave Hmw := (Transfers.MayWaits.elim (cell sm b hb)) $$ Hmw
  iapply (Transfers.wp_waitLocalO EC 𝒱₀ (tile d i) none none (N := (slotM m sq b hb).view.amount (cell sm b hb)) rfl) $$ [Hf Ho Hmw]
  · isplitl [Hf]; · iexact Hf
    isplitl [Ho]; · iexact Ho
    iexact Hmw
  iintro ⟨⟨Hs, Hh⟩, Hv, Ho⟩
  iapply Hk
  isplitl [Hs]; · iexact Hs
  isplitl [Hh]; · iexact Hh
  isplitl [Hv]; · iexact Hv
  iexists _
  isplitr [Ho]
  rotate_left
  · iexact Ho
  · ipureintro
    intro p hp
    rcases Finset.mem_insert.mp hp with rfl | hp
    · exact Or.inr rfl
    · exact hW' p hp

/-- The copy out of slot `b` is waited for. -/
theorem wp_went {f : a.view.ty.Contents (Elt F)} {c b : ℕ} (hc : c < 1250) (hb : b < 2)
    {O : CellTallies nD τ sig (HIx 1)} {W : Waits sig (HIx 1)}
    {offS : Fin 3 → ℕ} {offD : Fin 4 → ℕ} {offM : Fin 1 → ℕ} (eS : offS = ![c, 0, 0]) (eM : offM = ![b])
    {hS : ∀ x, offS x + (ChS R).size x ≤ (ArrS R).size x} {hD : ∀ x, offD x + (SlotS R).size x ≤ (RingS R).size x}
    {hM : ∀ x, offM x + S1.size x ≤ S2.size x} {h1 h2} {k : PUnit → ProgV F i α} :
    iprop(going i d a m sm sq b hb f c hc ∗ owed i d O W ∗ Transfers.MayWaits (tile d i) none O)
      ⊢ iprop((iprop(held i d a f c (c + 1) ∗ rest i d m sm sq b hb ∗ owed i d O W)
            -∗ wp frame (wpE (defs₀ (F := F)) 𝒱₀ (tile d i) none) Set.univ (k ⟨⟩) Q)
        -∗ wp frame (wpE (defs₀ (F := F)) 𝒱₀ (tile d i) none) Set.univ
          (.op (.waitDma2 ((sm.slice (Rect.unit (s := S2) offM S1.size hM)).squeeze S_ squeezes_S1_S_).sem
            ((m.slice (Rect.unit (s := RingS R) offD (SlotS R).size hD) (fun _ => rfl)).squeeze (ChS R) sq)
            (a.slice (Rect.unit (s := ArrS R) offS (ChS R).size hS) (fun _ => rfl)) h1 h2) k) Q) := by
  subst eS eM
  unfold owed going rest
  iintro ⟨Hf, ⟨%W', %hW', Ho⟩, Hmw⟩ Hk
  ihave Hmw := (Transfers.MayWaits.elim (cell sm b hb)) $$ Hmw
  iapply (Transfers.wp_waitLocalO EC 𝒱₀ (tile d i) none none (N := (chunkM a c hc).view.amount (cell sm b hb)) rfl) $$ [Hf Ho Hmw]
  · isplitl [Hf]; · iexact Hf
    isplitl [Ho]; · iexact Ho
    iexact Hmw
  iintro ⟨⟨Hh, Hs⟩, Hv, Ho⟩
  iapply Hk
  isplitl [Hh]; · iexact Hh
  isplitl [Hs Hv]
  · isplitl [Hs] <;> iassumption
  iexists _
  isplitr [Ho]
  rotate_left
  · iexact Ho
  · ipureintro
    intro p hp
    rcases Finset.mem_insert.mp hp with rfl | hp
    · exact Or.inr rfl
    · exact hW' p hp

end

end Cert.Proof.Pyramid

end
-- ==== Proof.Slots.lean ====
/-
  A slot of a ring as a plain table of rows: the passes over a chunk work on the table, the copies on the slot.
-/
module

public import proofs.«01_k».proof.Proof.Lane

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev TabS (R : ℕ) : Shape := ⟨2, ![R, 128]⟩

theorem inbW (R : ℕ) : ∀ x, (![0, 0, 0] : Fin 3 → ℕ) x + (ChS R).size x ≤ (ChS R).size x := by
  intro x
  fin_cases x
  · show 0 + 1 ≤ 1; omega
  · show 0 + R ≤ R; omega
  · show 0 + 128 ≤ 128; omega

section
variable {R : ℕ} (i : grid0.Coords) (d : Dev nD)
variable (a : Memref sig .scVector .hbm (ArrS R) .f32) (m : Memref sig .scVector .vmem (RingS R) .f32) (sm : DmaSems sig S2)
variable (sq : (SlotS R).Squeezes (ChS R)) (sqw : (ChS R).Squeezes (TabS R))

/-- Where in the chunk the entry of its table lies. -/
def seat (y : (TabS R).Idx) : (ChS R).Idx :=
  (Rect.unit (s := ChS R) ![0, 0, 0] (ChS R).size (inbW R)).emb (Shape.reshapeEquiv sqw.numel_eq y)

theorem seat_eq (y : (TabS R).Idx) : seat sqw y = Shape.reshapeEquiv sqw.numel_eq y := by
  funext x
  apply Fin.ext
  unfold seat
  rw [Rect.emb_apply]
  show (![0, 0, 0] : Fin 3 → ℕ) x + 1 * _ = _
  fin_cases x <;> exact (Nat.zero_add _).trans (Nat.one_mul _)

theorem seat_surj : Function.Surjective (seat sqw) := by
  intro z
  obtain ⟨y, e⟩ := (Shape.reshapeEquiv sqw.numel_eq).surjective z
  exact ⟨y, (seat_eq sqw y).trans e⟩

/-- The table of a slot. -/
abbrev winM (off : Fin 4 → ℕ) (h : ∀ x, off x + (SlotS R).size x ≤ (RingS R).size x) : Memref sig .scVector .vmem (TabS R) .f32 :=
  (((m.slice (Rect.unit (s := RingS R) off (SlotS R).size h) (fun _ => rfl)).squeeze (ChS R) sq).slice
    (Rect.unit (s := ChS R) ![0, 0, 0] (ChS R).size (inbW R)) (fun _ => rfl)).squeeze (TabS R) sqw

theorem win_set {off : Fin 4 → ℕ} {h : ∀ x, off x + (SlotS R).size x ≤ (RingS R).size x} {b : ℕ} (hb : b < 2) (e : off = ![b, 0, 0, 0]) :
    (winM m sq sqw off h).view.set = (slotM m sq b hb).view.set := by
  subst e
  show (((slotM m sq b hb).view.slice _).reshape _ _).set = _
  rw [View.set_reshape, View.set_slice]
  have : (Rect.unit (s := ChS R) ![0, 0, 0] (ChS R).size (inbW R)).set = Finset.univ := by
    ext y
    simp only [Rect.mem_set_unit, Finset.mem_univ, iff_true]
    intro x
    have h := (y x).isLt
    refine ⟨?_, ?_⟩
    · fin_cases x <;> exact Nat.zero_le _
    · fin_cases x <;> exact lt_of_lt_of_eq h (Nat.zero_add _).symm
  rw [this]; rfl

theorem win_read {off : Fin 4 → ℕ} {h : ∀ x, off x + (SlotS R).size x ≤ (RingS R).size x} {b : ℕ} (hb : b < 2) (e : off = ![b, 0, 0, 0])
    (f : m.view.ty.Contents (Elt F)) :
    (winM m sq sqw off h).view.read (Elt F) f = fun y => (slotM m sq b hb).view.read (Elt F) f (seat sqw y) := by
  subst e
  rfl

/-- The table of chunk `c` of an array. -/
def table (f : a.view.ty.Contents (Elt F)) (c : ℕ) (hc : c < 1250) (y : (TabS R).Idx) : F .f32 :=
  (chunkM a c hc).view.read (Elt F) f (seat sqw y)

/-- A slot as the table a pass works on, and back. -/
theorem slot_win {off : Fin 4 → ℕ} {h : ∀ x, off x + (SlotS R).size x ≤ (RingS R).size x} {b : ℕ} (hb : b < 2) (e : off = ![b, 0, 0, 0])
    (φ : ((ChS R).Idx → Elt F .f32) → Prop) :
    slot i d m sq b hb φ ⊢ iprop(∃ f : m.view.ty.Contents (Elt F), ⌜φ ((slotM m sq b hb).view.read (Elt F) f)⌝
      ∗ ((winM m sq sqw off h).view.loc (tile d i) ↦[(winM m sq sqw off h).view.set]{fullShare} f)) := by
  unfold slot
  rw [win_set m sq sqw hb e]

theorem win_slot {off : Fin 4 → ℕ} {h : ∀ x, off x + (SlotS R).size x ≤ (RingS R).size x} {b : ℕ} (hb : b < 2) (e : off = ![b, 0, 0, 0])
    (f : m.view.ty.Contents (Elt F)) (φ : ((ChS R).Idx → Elt F .f32) → Prop) (hφ : φ ((slotM m sq b hb).view.read (Elt F) f)) :
    ((winM m sq sqw off h).view.loc (tile d i) ↦[(winM m sq sqw off h).view.set]{fullShare} f) ⊢ slot i d m sq b hb φ := by
  unfold slot
  rw [win_set m sq sqw hb e]
  iintro H
  iexists f
  isplitr [H]
  rotate_left
  · iexact H
  · ipureintro
    exact hφ

/-- A slot whose table is that of chunk `c` holds that chunk. -/
theorem read_of_table {off : Fin 4 → ℕ} {h : ∀ x, off x + (SlotS R).size x ≤ (RingS R).size x} {b : ℕ} (hb : b < 2) (e : off = ![b, 0, 0, 0])
    (f : m.view.ty.Contents (Elt F)) (T : a.view.ty.Contents (Elt F)) (c : ℕ) (hc : c < 1250)
    (hf : (winM m sq sqw off h).view.read (Elt F) f = table a sqw T c hc) :
    (slotM m sq b hb).view.read (Elt F) f = (chunkM a c hc).view.read (Elt F) T := by
  rw [win_read m sq sqw hb e] at hf
  funext z
  obtain ⟨y, rfl⟩ := seat_surj sqw z
  exact congrFun hf y

end

end Cert.Proof.Pyramid

end
-- ==== Proof.Words.lean ====
/-
  The words a tile's run carries, in closed form: how many chunks the tile has and which is its first, the offsets and
  conditions of the trip `t` of its loop, and the words the trip hands to the next.
-/
module

public import proofs.«01_k».proof.Proof.Setup

@[expose] public section

noncomputable section

namespace Cert.Proof.Pyramid

open Cert.KernelIdeal Cert.KernelIdeal.Gen
open Idealize.ShloMosaic

/-- The grid point of a SparseCore and one of its subcores. -/
def gp (c : Fin 2) (s : Fin 16) : grid0.Coords := fun a => match a with | 0 => c | 1 => s

theorem gp_eta (i : grid0.Coords) : gp (i 0) (i 1) = i := by
  funext a
  match a with
  | 0 => rfl
  | 1 => rfl

theorem forall_gp {P : grid0.Coords → Prop} (h : ∀ c s, P (gp c s)) (i : grid0.Coords) : P i := by
  rw [← gp_eta i]; exact h _ _

/-- A tile's number, how many chunks it has, and its first. -/
def wid (i : grid0.Coords) : ℕ := (i 1).val + 16 * (i 0).val
def num (i : grid0.Coords) : ℕ := if wid i < 2 then 40 else 39
def base (i : grid0.Coords) : ℕ := if wid i < 2 then 40 * wid i else 39 * wid i + 2

theorem wid_lt (i : grid0.Coords) : wid i < 32 := by
  have h0 : (i 0).val < 2 := (i 0).isLt
  have h1 : (i 1).val < 16 := (i 1).isLt
  unfold wid; omega

theorem num_pos (i : grid0.Coords) : 0 < num i := by unfold num; split <;> omega
theorem num_le (i : grid0.Coords) : num i ≤ 40 := by unfold num; split <;> omega
theorem base_num (i : grid0.Coords) : base i + num i ≤ 1250 := by
  have h := wid_lt i
  unfold base num; split <;> omega

/-- The words of a tile's count and first chunk. -/
abbrev w5 (i : grid0.Coords) : BitVec 32 :=
  Scalar.select (Scalar.cmpi .slt (Scalar.addi (Scalar.addi 0#32 (Scalar.muli (BitVec.ofNat 32 (i 1).val) 1#32)) (Scalar.muli (BitVec.ofNat 32 (i 0).val) 16#32)) 2#32) 40#32 39#32
abbrev w10 (i : grid0.Coords) : BitVec 32 :=
  Scalar.select (Scalar.cmpi .slt (Scalar.addi (Scalar.addi 0#32 (Scalar.muli (BitVec.ofNat 32 (i 1).val) 1#32)) (Scalar.muli (BitVec.ofNat 32 (i 0).val) 16#32)) 2#32)
    (Scalar.muli (Scalar.addi (Scalar.addi 0#32 (Scalar.muli (BitVec.ofNat 32 (i 1).val) 1#32)) (Scalar.muli (BitVec.ofNat 32 (i 0).val) 16#32)) (w5 i))
    (Scalar.addi (Scalar.muli (Scalar.addi (Scalar.addi 0#32 (Scalar.muli (BitVec.ofNat 32 (i 1).val) 1#32)) (Scalar.muli (BitVec.ofNat 32 (i 0).val) 16#32)) 39#32) 2#32)

theorem trips₁ : ∀ i : grid0.Coords, (k0_t1_loop i).trips = num i := forall_gp (by decide +kernel)
theorem trips₃ : ∀ i : grid0.Coords, (k0_t3_loop i).trips = 0 := forall_gp (by decide +kernel)

theorem cond1_eq : ∀ i : grid0.Coords, k0_cond1 i = 1#1 := forall_gp (by decide +kernel)
theorem cond2_eq : ∀ i : grid0.Coords, k0_cond2 i = 1#1 := forall_gp (by decide +kernel)
theorem cond30_eq : ∀ i : grid0.Coords, k0_cond30 i = 1#1 := forall_gp (by decide +kernel)
theorem cond31_eq : ∀ i : grid0.Coords, k0_cond31 i = 1#1 := forall_gp (by decide +kernel)
theorem cond32_eq : ∀ i : grid0.Coords, k0_cond32 i = 1#1 := forall_gp (by decide +kernel)

/-! ## Offsets -/

/-- A ring's slot turns with the parity of the count that names it. -/
theorem parity : ∀ n < 42, (Scalar.remui (BitVec.ofNat 32 n) 2#32).toNat = n % 2 := by decide +kernel

theorem slot_off {n : ℕ} (h : n < 42) : (![(Scalar.remui (BitVec.ofNat 32 n) 2#32).toNat, 0, 0, 0] : Fin 4 → ℕ) = ![n % 2, 0, 0, 0] := by
  rw [parity n h]
theorem cell_off {n : ℕ} (h : n < 42) : (![(Scalar.remui (BitVec.ofNat 32 n) 2#32).toNat] : Fin 1 → ℕ) = ![n % 2] := by
  rw [parity n h]

theorem off2_eq : ∀ i : grid0.Coords, k0_off2 i = ![base i, 0, 0] := forall_gp (by decide +kernel)
theorem off8_eq : ∀ i : grid0.Coords, ∀ t < num i, k0_off8 i (BitVec.ofNat 32 t) = ![base i + t, 0, 0] := forall_gp (by decide +kernel)
theorem off5_eq : ∀ i : grid0.Coords, ∀ t < num i, t + 1 < num i → k0_off5 i (BitVec.ofNat 32 t) = ![base i + (t + 1), 0, 0] :=
  forall_gp (by decide +kernel)
theorem off52_eq : ∀ i : grid0.Coords, ∀ t < num i, 0 < t → k0_off52 i (BitVec.ofNat 32 t) = ![base i + (t - 1), 0, 0] :=
  forall_gp (by decide +kernel)
theorem off117_eq : ∀ i : grid0.Coords, k0_off117 i 0#32 = ![base i + (num i - 1), 0, 0] := forall_gp (by decide +kernel)

/-! ## Conditions of a trip -/

theorem cond3_iff : ∀ i : grid0.Coords, ∀ t : Fin (k0_t1_loop i).trips, k0_cond3 i t (BitVec.ofNat 32 t.val) = 1#1 ↔ t.val + 1 < num i :=
  forall_gp (by decide +kernel)
theorem cond4_eq : ∀ i : grid0.Coords, ∀ t : Fin (k0_t1_loop i).trips, k0_cond4 i t (BitVec.ofNat 32 t.val) = 1#1 := forall_gp (by decide +kernel)
theorem cond9_eq : ∀ i : grid0.Coords, ∀ t : Fin (k0_t1_loop i).trips, k0_cond9 i t (BitVec.ofNat 32 t.val) = 1#1 := forall_gp (by decide +kernel)
theorem cond10_eq : ∀ i : grid0.Coords, ∀ t : Fin (k0_t1_loop i).trips, k0_cond10 i t (BitVec.ofNat 32 t.val) = 1#1 := forall_gp (by decide +kernel)
theorem cond11_eq : ∀ i : grid0.Coords, ∀ t : Fin (k0_t1_loop i).trips, k0_cond11 i t (BitVec.ofNat 32 t.val) = 1#1 := forall_gp (by decide +kernel)
theorem cond13_iff : ∀ i : grid0.Coords, ∀ t : Fin (k0_t1_loop i).trips, k0_cond13 i t (BitVec.ofNat 32 t.val) = 1#1 ↔ 0 < t.val := forall_gp (by decide +kernel)
theorem cond14_iff : ∀ i : grid0.Coords, ∀ t : Fin (k0_t1_loop i).trips, k0_cond14 i t (BitVec.ofNat 32 t.val) = 1#1 ↔ 0 < t.val := forall_gp (by decide +kernel)
theorem cond15_iff : ∀ i : grid0.Coords, ∀ t : Fin (k0_t1_loop i).trips, k0_cond15 i t (BitVec.ofNat 32 t.val) = 1#1 ↔ 0 < t.val := forall_gp (by decide +kernel)

/-! ## The words handed on -/

/-- The next chunk's number, the previous one's, and this one's, as the trip computes them from the chunk word `x`. -/
abbrev wNext (v5 v10 x : BitVec 32) : BitVec 32 :=
  Scalar.addi (Scalar.select (Scalar.cmpi .eq (Scalar.select 1#1 (Scalar.addi x 1#32) x) v5) 0#32 (Scalar.select 1#1 (Scalar.addi x 1#32) x)) v10
abbrev wPrev (v5 v10 x : BitVec 32) : BitVec 32 :=
  Scalar.addi (Scalar.select (Scalar.cmpi .eq (Scalar.select 1#1 (Scalar.subi x 1#32) x) 4294967295#32) (Scalar.subi v5 1#32) (Scalar.select 1#1 (Scalar.subi x 1#32) x)) v10

theorem word₇ : ∀ i : grid0.Coords, ∀ t < num i,
    Scalar.select (Scalar.andi (Scalar.andi (Scalar.cmpi .ne (Scalar.addi (BitVec.ofNat 32 t) (w10 i)) (wNext (w5 i) (w10 i) (BitVec.ofNat 32 t)))
        (Scalar.xori (Scalar.cmpi .sge (Scalar.addi 0#32 (Scalar.muli (BitVec.ofNat 32 t) 1#32)) (Scalar.addi (Scalar.subi (Scalar.muli 1#32 (w5 i)) 2#32) 1#32)) 1#1)) 1#1)
      (Scalar.addi (BitVec.ofNat 32 (min (t + 1) (num i))) 1#32) (BitVec.ofNat 32 (min (t + 1) (num i)))
    = BitVec.ofNat 32 (min (t + 2) (num i)) := forall_gp (by decide +kernel)

theorem word₈ : ∀ i : grid0.Coords, ∀ t < num i,
    Scalar.ori (Scalar.cmpi .ne (Scalar.addi (BitVec.ofNat 32 t) (w10 i)) (wNext (w5 i) (w10 i) (BitVec.ofNat 32 t)))
        (Scalar.cmpi .eq (Scalar.addi 0#32 (Scalar.muli (BitVec.ofNat 32 t) 1#32)) (Scalar.subi (Scalar.muli 1#32 (w5 i)) 1#32)) = 1#1 :=
  forall_gp (by decide +kernel)

theorem word₁₀ : ∀ i : grid0.Coords, ∀ t < num i,
    Scalar.select (Scalar.andi (Scalar.andi (Scalar.cmpi .ne (Scalar.addi (BitVec.ofNat 32 t) (w10 i)) (wPrev (w5 i) (w10 i) (BitVec.ofNat 32 t)))
        (Scalar.xori (Scalar.cmpi .eq (Scalar.addi 0#32 (Scalar.muli (BitVec.ofNat 32 t) 1#32)) 0#32) 1#1)) 1#1)
      (Scalar.addi (BitVec.ofNat 32 (t - 1)) 1#32) (BitVec.ofNat 32 (t - 1)) = BitVec.ofNat 32 t := forall_gp (by decide +kernel)

theorem word₁₅ : ∀ i : grid0.Coords, ∀ t < num i,
    Scalar.select (Scalar.cmpi .eq (Scalar.select 1#1 (Scalar.addi (BitVec.ofNat 32 t) 1#32) (BitVec.ofNat 32 t)) (w5 i)) 0#32
      (Scalar.select 1#1 (Scalar.addi (BitVec.ofNat 32 t) 1#32) (BitVec.ofNat 32 t)) = BitVec.ofNat 32 (if t + 1 = num i then 0 else t + 1) :=
  forall_gp (by decide +kernel)

theorem succ_word : ∀ t < 41, Scalar.addi (BitVec.ofNat 32 t) 1#32 = BitVec.ofNat 32 (t + 1) := by decide +kernel

end Cert.Proof.Pyramid

end
-- ==== Proof.ChunkRun.lean ====
/-
  A chunk through the rings: its passes turn the slot it came into and three free slots into its outputs.
-/
module

public import proofs.«01_k».proof.Proof.Slots
public import proofs.«01_k».proof.Proof.Words

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev sqw160 : (ChS 160).Squeezes (TabS 160) := squeezes_S1x160x128_S160x128
abbrev sqw40 : (ChS 40).Squeezes (TabS 40) := squeezes_S1x40x128_S40x128
abbrev sqw10 : (ChS 10).Squeezes (TabS 10) := squeezes_S1x10x128_S10x128
abbrev sq160 : (SlotS 160).Squeezes (ChS 160) := squeezes_S1x1x160x128_S1x160x128
abbrev sq40 : (SlotS 40).Squeezes (ChS 40) := squeezes_S1x1x40x128_S1x40x128
abbrev sq10 : (SlotS 10).Squeezes (ChS 10) := squeezes_S1x1x10x128_S1x10x128

/-- The contents the outputs are to have: chunk by chunk the decomposition of the input's chunk. -/
def Made (x o₀ : Memref sig .scVector .hbm (ArrS 160) .f32) (o₁ : Memref sig .scVector .hbm (ArrS 40) .f32)
    (o₂ : Memref sig .scVector .hbm (ArrS 10) .f32) (fx : x.view.ty.Contents (Elt F)) (T₀ : o₀.view.ty.Contents (Elt F))
    (T₁ : o₁.view.ty.Contents (Elt F)) (T₂ : o₂.view.ty.Contents (Elt F)) : Prop :=
  ∀ c (hc : c < 1250), table o₀ sqw160 T₀ c hc = G₀ (table x sqw160 fx c hc) ∧ table o₁ sqw40 T₁ c hc = G₁ (table x sqw160 fx c hc)
    ∧ table o₂ sqw10 T₂ c hc = G₂ (table x sqw160 fx c hc)

section
variable (i : grid0.Coords) (arg2 : Memref sig .scVector .hbm S1250x160x128 .f32) (harg2 : arg2.IsWhole) (arg3 : Memref sig .scVector .hbm S1250x160x128 .f32) (harg3 : arg3.IsWhole) (arg4 : Memref sig .scVector .hbm S1250x40x128 .f32) (harg4 : arg4.IsWhole) (arg5 : Memref sig .scVector .hbm S1250x10x128 .f32) (harg5 : arg5.IsWhole) (alloca_r0 : Memref sig .scVector .vmem S2x1x160x128 .f32) (halloca_r0 : alloca_r0.IsWhole) (v12_r0 : DmaSems sig S2) (alloca_4_r0 : Memref sig .scVector .vmem S2x1x160x128 .f32) (halloca_4_r0 : alloca_4_r0.IsWhole) (v13_r0 : DmaSems sig S2) (alloca_5_r0 : Memref sig .scVector .vmem S2x1x40x128 .f32) (halloca_5_r0 : alloca_5_r0.IsWhole) (v14_r0 : DmaSems sig S2) (alloca_6_r0 : Memref sig .scVector .vmem S2x1x10x128 .f32) (halloca_6_r0 : alloca_6_r0.IsWhole) (v15_r0 : DmaSems sig S2) (k0_h1 : k0_cond1 i = 1#1) (k0_t1 : Fin (k0_t1_loop i).trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw5 : k0_chk5 i arg13_r0) (k0_hw4 : k0_chk4 i arg11_r0) (k0_hw3 : k0_chk3 i arg9_r0) (k0_hw2 : k0_chk2 i arg8_r0) (k0_hw1 : k0_chk1 i k0_t1 arg7_r0 arg8_r0 arg9_r0 arg10_r0 arg11_r0 arg12_r0 arg13_r0 arg14_r0 arg15_r0) (v89_r0 : BitVec 1) (v90_r0 : BitVec 32) (v101_r0 : BitVec 32) (v159_r0 : BitVec 32)

set_option maxRecDepth 20000 in
set_option maxHeartbeats 4000000 in
/-- The ten passes over chunk `c`. -/
theorem wp_chunk (d : Dev nD) {fx : arg2.view.ty.Contents (Elt F)} {T₀ : arg3.view.ty.Contents (Elt F)}
    {T₁ : arg4.view.ty.Contents (Elt F)} {T₂ : arg5.view.ty.Contents (Elt F)} (hT : Made arg2 arg3 arg4 arg5 fx T₀ T₁ T₂)
    {c b : ℕ} (hc : c < 1250) (hb : b < 2) (e2 : k0_off10 arg8_r0 = ![b, 0, 0, 0]) (e3 : k0_off12 arg9_r0 = ![b, 0, 0, 0])
    (e4 : k0_off14 arg11_r0 = ![b, 0, 0, 0]) (e5 : k0_off16 arg13_r0 = ![b, 0, 0, 0]) :
    iprop(slot i d alloca_r0 sq160 b hb (fun w => w = (chunkM arg2 c hc).view.read (Elt F) fx) ∗ slot i d alloca_4_r0 sq160 b hb (fun _ => True)
        ∗ slot i d alloca_5_r0 sq40 b hb (fun _ => True) ∗ slot i d alloca_6_r0 sq10 b hb (fun _ => True))
      ⊢ wp frame (wpE (defs₀ (F := F)) 𝒱₀ (tile d i) none) Set.univ (Scf.Loop.for k0_t2_loop (k0_t2_ok i k0_h1) (⟨⟩ : Unit) (k0_t2_body (F := F) i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 k0_h1 k0_t1 arg7_r0 arg8_r0 arg9_r0 arg10_r0 arg11_r0 arg12_r0 arg13_r0 arg14_r0 arg15_r0 k0_hw5 k0_hw4 k0_hw3 k0_hw2 k0_hw1 v89_r0 v90_r0 v101_r0 v159_r0))
          fun _ => iprop(slot i d alloca_r0 sq160 b hb (fun _ => True) ∗ slot i d alloca_4_r0 sq160 b hb (fun w => w = (chunkM arg3 c hc).view.read (Elt F) T₀)
        ∗ slot i d alloca_5_r0 sq40 b hb (fun w => w = (chunkM arg4 c hc).view.read (Elt F) T₁)
        ∗ slot i d alloca_6_r0 sq10 b hb (fun w => w = (chunkM arg5 c hc).view.read (Elt F) T₂)) := by
  obtain ⟨m₀, m₁, m₂⟩ := hT c hc
  iintro ⟨Hx, H0, H1, H2⟩
  ihave Hx := (slot_win i d alloca_r0 sq160 sqw160 (h := k0_off10_inb i arg8_r0 k0_hw2 k0_h1) hb e2 _) $$ Hx
  ihave H0 := (slot_win i d alloca_4_r0 sq160 sqw160 (h := k0_off12_inb i arg9_r0 k0_hw3 k0_h1) hb e3 _) $$ H0
  ihave H1 := (slot_win i d alloca_5_r0 sq40 sqw40 (h := k0_off14_inb i arg11_r0 k0_hw4 k0_h1) hb e4 _) $$ H1
  ihave H2 := (slot_win i d alloca_6_r0 sq10 sqw10 (h := k0_off16_inb i arg13_r0 k0_hw5 k0_h1) hb e5 _) $$ H2
  icases Hx with ⟨%g, %hg, Hx⟩
  icases H0 with ⟨%f₀, -, H0⟩
  icases H1 with ⟨%f₁, -, H1⟩
  icases H2 with ⟨%f₂, -, H2⟩
  have hX : (xWin i alloca_r0 k0_h1 arg8_r0 k0_hw2).view.read (Elt F) g = table arg2 sqw160 fx c hc :=
    (win_read alloca_r0 sq160 sqw160 (h := k0_off10_inb i arg8_r0 k0_hw2 k0_h1) hb e2 g).trans (funext fun y => congrFun hg _)
  iapply (Scf.wp_for _ _ _ _ _ _ _ _ _ (fun n (_ : Unit) => passed i alloca_r0 alloca_4_r0 alloca_5_r0 alloca_6_r0 k0_h1 arg8_r0 arg9_r0 arg11_r0 arg13_r0 k0_hw5 k0_hw4 k0_hw3 k0_hw2 d fullShare g (8 * n))
    (fun k u => wp_pass i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 k0_h1 k0_t1 arg7_r0 arg8_r0 arg9_r0 arg10_r0 arg11_r0 arg12_r0 arg13_r0 arg14_r0 arg15_r0 k0_hw5 k0_hw4 k0_hw3 k0_hw2 k0_hw1 v89_r0 v90_r0 v101_r0 v159_r0 d fullShare g k u))
  isplitl [Hx H0 H1 H2]
  · unfold passed progress
    isplitl [Hx]; · iexact Hx
    isplitl [H0]
    · iexists f₀
      isplitr [H0]
      rotate_left
      · iexact H0
      · ipureintro; exact done_zero _ _ _
    isplitl [H1]
    · iexists f₁
      isplitr [H1]
      rotate_left
      · iexact H1
      · ipureintro; exact done_zero _ _ _
    · iexists f₂
      isplitr [H2]
      rotate_left
      · iexact H2
      · ipureintro; exact done_zero _ _ _
  iintro %u Hp
  unfold passed progress
  icases Hp with ⟨Hx, ⟨%g₀, %d₀, H0⟩, ⟨%g₁, %d₁, H1⟩, ⟨%g₂, %d₂, H2⟩⟩
  rw [hX] at d₀ d₁ d₂
  have h₀ := (done_all (by decide) (n := 10) rfl d₀).trans m₀.symm
  have h₁ := (done_all (by decide) (n := 10) rfl d₁).trans m₁.symm
  have h₂ := (done_all (by decide) (n := 10) rfl d₂).trans m₂.symm
  isplitl [Hx]
  · iapply (win_slot i d alloca_r0 sq160 sqw160 (h := k0_off10_inb i arg8_r0 k0_hw2 k0_h1) hb e2 g (fun _ => True) trivial)
    iexact Hx
  isplitl [H0]
  · iapply (win_slot i d alloca_4_r0 sq160 sqw160 (h := k0_off12_inb i arg9_r0 k0_hw3 k0_h1) hb e3 g₀ (fun w => w = (chunkM arg3 c hc).view.read (Elt F) T₀)
      (read_of_table arg3 alloca_4_r0 sq160 sqw160 hb e3 g₀ T₀ c hc h₀))
    iexact H0
  isplitl [H1]
  · iapply (win_slot i d alloca_5_r0 sq40 sqw40 (h := k0_off14_inb i arg11_r0 k0_hw4 k0_h1) hb e4 g₁ (fun w => w = (chunkM arg4 c hc).view.read (Elt F) T₁)
      (read_of_table arg4 alloca_5_r0 sq40 sqw40 hb e4 g₁ T₁ c hc h₁))
    iexact H1
  · iapply (win_slot i d alloca_6_r0 sq10 sqw10 (h := k0_off16_inb i arg13_r0 k0_hw5 k0_h1) hb e5 g₂ (fun w => w = (chunkM arg5 c hc).view.read (Elt F) T₂)
      (read_of_table arg5 alloca_6_r0 sq10 sqw10 hb e5 g₂ T₂ c hc h₂))
    iexact H2

end

end Cert.Proof.Pyramid

end
-- ==== Proof.Checks.lean ====
/-
  The offsets of a trip are in bounds: what the program assumes before it uses them.
-/
module

public import proofs.«01_k».proof.Proof.Slots
public import proofs.«01_k».proof.Proof.Words

@[expose] public section

namespace Cert.Proof.Pyramid

open Cert.KernelIdeal Cert.KernelIdeal.Gen
open Idealize.ShloMosaic

theorem two (n : ℕ) : n % 2 < 2 := Nat.mod_lt _ (by decide)

theorem slotIn (R : ℕ) {n : ℕ} (h : n < 42) :
    ∀ x, (![(Scalar.remui (BitVec.ofNat 32 n) 2#32).toNat, 0, 0, 0] : Fin 4 → ℕ) x + (SlotS R).size x ≤ (RingS R).size x := by
  rw [slot_off h]; exact inbS R (two n)
theorem cellIn {n : ℕ} (h : n < 42) : ∀ x, (![(Scalar.remui (BitVec.ofNat 32 n) 2#32).toNat] : Fin 1 → ℕ) x + S1.size x ≤ S2.size x := by
  rw [cell_off h]; exact inbM (two n)
theorem chunkIn (R : ℕ) {off : Fin 3 → ℕ} {c : ℕ} (e : off = ![c, 0, 0]) (hc : c < 1250) : ∀ x, off x + (ChS R).size x ≤ (ArrS R).size x := by
  rw [e]; exact inbC R hc

section
variable (i : grid0.Coords)

theorem chunk_lt {t : ℕ} (h : t < num i) : base i + t < 1250 := by have := base_num i; omega

theorem chk2_of {n : ℕ} (h : n < 42) : k0_chk2 i (BitVec.ofNat 32 n) := ⟨fun _ => slotIn 160 h, fun _ => slotIn 160 h⟩
theorem chk3_of {n : ℕ} (h : n < 42) : k0_chk3 i (BitVec.ofNat 32 n) := ⟨fun _ => slotIn 160 h, fun _ => slotIn 160 h⟩
theorem chk4_of {n : ℕ} (h : n < 42) : k0_chk4 i (BitVec.ofNat 32 n) := ⟨fun _ => slotIn 40 h, fun _ => slotIn 40 h⟩
theorem chk5_of {n : ℕ} (h : n < 42) : k0_chk5 i (BitVec.ofNat 32 n) := fun _ => slotIn 10 h

theorem chk1_of (t : Fin (k0_t1_loop i).trips) :
    k0_chk1 i t (BitVec.ofNat 32 (min (t.val + 1) (num i))) (BitVec.ofNat 32 t.val) (BitVec.ofNat 32 t.val) (BitVec.ofNat 32 (t.val - 1))
      (BitVec.ofNat 32 t.val) (BitVec.ofNat 32 (t.val - 1)) (BitVec.ofNat 32 t.val) (BitVec.ofNat 32 (t.val - 1)) (BitVec.ofNat 32 t.val) := by
  have ht : t.val < num i := lt_of_lt_of_eq t.isLt (trips₁ i)
  have hn := num_le i
  have h0 : t.val < 42 := by omega
  have h1 : t.val - 1 < 42 := by omega
  have h2 : min (t.val + 1) (num i) < 42 := by omega
  have c0 := chunk_lt i ht
  have e0 := off8_eq i t.val ht
  have cn (h : k0_cond3 i t (BitVec.ofNat 32 t.val) = 1#1) := (cond3_iff i t).mp h
  have cp : base i + (t.val - 1) < 1250 := chunk_lt i (by omega)
  have e13 (h : k0_cond13 i t (BitVec.ofNat 32 t.val) = 1#1) := off52_eq i t.val ht ((cond13_iff i t).mp h)
  have e14 (h : k0_cond14 i t (BitVec.ofNat 32 t.val) = 1#1) := off52_eq i t.val ht ((cond14_iff i t).mp h)
  have e15 (h : k0_cond15 i t (BitVec.ofNat 32 t.val) = 1#1) := off52_eq i t.val ht ((cond15_iff i t).mp h)
  exact ⟨fun _ _ => slotIn 160 h2, fun _ h => chunkIn 160 (off5_eq i t.val ht (cn h)) (chunk_lt i (cn h)), fun _ _ => cellIn h2,
    fun _ _ => slotIn 160 h0, fun _ _ => chunkIn 160 e0 c0, fun _ _ => cellIn h0,
    fun _ _ => slotIn 160 h0, fun _ _ => chunkIn 160 e0 c0, fun _ _ => cellIn h0,
    fun _ _ => slotIn 40 h0, fun _ _ => chunkIn 40 e0 c0, fun _ _ => cellIn h0,
    fun _ _ => slotIn 10 h0, fun _ _ => chunkIn 10 e0 c0, fun _ _ => cellIn h0,
    fun _ _ => slotIn 160 h1, fun _ h => chunkIn 160 (e13 h) cp, fun _ _ => cellIn h1,
    fun _ _ => slotIn 40 h1, fun _ h => chunkIn 40 (e14 h) cp, fun _ _ => cellIn h1,
    fun _ _ => slotIn 10 h1, fun _ h => chunkIn 10 (e15 h) cp, fun _ _ => cellIn h1⟩

theorem chk11_of {n : ℕ} (h : n < 42) : k0_chk11 i (BitVec.ofNat 32 n) :=
  ⟨fun _ _ => slotIn 160 h, fun _ _ => cellIn h, fun _ _ => slotIn 160 h⟩
theorem chk12_of : k0_chk12 i 0#32 := by
  have e := off117_eq i
  have c : base i + (num i - 1) < 1250 := chunk_lt i (by have := num_pos i; omega)
  exact ⟨fun _ _ => chunkIn 160 e c, fun _ _ => chunkIn 40 e c, fun _ _ => chunkIn 10 e c⟩
theorem chk13_of {n : ℕ} (h : n < 42) : k0_chk13 i (BitVec.ofNat 32 n) := ⟨fun _ _ => slotIn 40 h, fun _ _ => cellIn h⟩
theorem chk14_of {n : ℕ} (h : n < 42) : k0_chk14 i (BitVec.ofNat 32 n) := ⟨fun _ _ => slotIn 10 h, fun _ _ => cellIn h⟩

end

end Cert.Proof.Pyramid
-- ==== Proof.Stream.lean ====
/-
  A tile's lane of an array: its chunks stream one by one through the two slots of a ring. What is held between the trips
  of the tile's loop and inside of one, and the steps a trip takes along the lane.
-/
module

public import proofs.«01_k».proof.Proof.Checks

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable {R : ℕ} (i : grid0.Coords) (d : Dev nD)
variable (a : Memref sig .scVector .hbm (ArrS R) .f32) (m : Memref sig .scVector .vmem (RingS R) .f32) (sm : DmaSems sig S2)
variable (sq : (SlotS R).Squeezes (ChS R))

theorem slot_congr {b b' : ℕ} (e : b = b') (hb : b < 2) (hb' : b' < 2) (φ : ((ChS R).Idx → Elt F .f32) → Prop) :
    (slot i d m sq b hb φ : sProp (MM F)) = slot i d m sq b' hb' φ := by subst e; rfl
theorem rest_congr {b b' : ℕ} (e : b = b') (hb : b < 2) (hb' : b' < 2) :
    (rest i d m sm sq b hb : sProp (MM F)) = rest i d m sm sq b' hb' := by subst e; rfl

/-- What the tile owes, and that it may wait on its copies all the same. -/
def owing (O : CellTallies nD τ sig (HIx 1)) (W : Waits sig (HIx 1)) : sProp (MM F) :=
  iprop(owed i d O W ∗ Transfers.MayWaits (tile d i) none O)

/-! ## The lane of the input -/

/-- The tile's `k`-th chunk on its way in, if the tile has that many. -/
def inFlight (f : a.view.ty.Contents (Elt F)) (k : ℕ) : sProp (MM F) :=
  if h : k < num i then coming i d a m sm sq (k % 2) (two k) f (base i + k) (chunk_lt i h) else rest i d m sm sq (k % 2) (two k)

/-- Between trips: the chunks before `k` back, `k` on its way, the others still to come. -/
def laneIn (f : a.view.ty.Contents (Elt F)) (k : ℕ) : sProp (MM F) :=
  iprop(held i d a f (base i) (base i + k) ∗ inFlight i d a m sm sq f k ∗ rest i d m sm sq ((k + 1) % 2) (two (k + 1))
    ∗ held i d a f (base i + (k + 1)) (base i + num i))

/-- The next chunk on its way too. -/
def ahead (f : a.view.ty.Contents (Elt F)) (k : ℕ) : sProp (MM F) :=
  iprop(held i d a f (base i) (base i + k) ∗ inFlight i d a m sm sq f k ∗ inFlight i d a m sm sq f (k + 1)
    ∗ held i d a f (base i + (k + 1 + 1)) (base i + num i))

/-- Chunk `k` in its slot, of whose contents `φ` is known. -/
def came (f : a.view.ty.Contents (Elt F)) (k : ℕ) (φ : ((ChS R).Idx → Elt F .f32) → Prop) : sProp (MM F) :=
  iprop(held i d a f (base i) (base i + (k + 1)) ∗ slot i d m sq (k % 2) (two k) φ ∗ semVal (tile d i, cell sm (k % 2) (two k)) 0
    ∗ inFlight i d a m sm sq f (k + 1) ∗ held i d a f (base i + (k + 1 + 1)) (base i + num i))

/-- The slot's contents used up, the lane is where the next trip finds it. -/
theorem came_done {f : a.view.ty.Contents (Elt F)} {k : ℕ} : came i d a m sm sq f k (fun _ => True) ⊢ laneIn i d a m sm sq f (k + 1) := by
  unfold came laneIn
  rw [rest_congr i d m sm sq (show (k + 1 + 1) % 2 = k % 2 by omega) _ (two k)]
  unfold rest
  iintro ⟨Hd, Hs, Hv, Hf, Hr⟩
  isplitl [Hd]; · iexact Hd
  isplitl [Hf]; · iexact Hf
  isplitl [Hs Hv]
  · isplitl [Hs] <;> iassumption
  · iexact Hr

/-- The slot is lent to the passes and given back. -/
theorem came_slot {f : a.view.ty.Contents (Elt F)} {k : ℕ} {φ ψ : ((ChS R).Idx → Elt F .f32) → Prop} :
    came i d a m sm sq f k φ ⊢ iprop(slot i d m sq (k % 2) (two k) φ ∗ (slot i d m sq (k % 2) (two k) ψ -∗ came i d a m sm sq f k ψ)) := by
  unfold came
  iintro ⟨Hd, Hs, Hv, Hf, Hr⟩
  isplitl [Hs]; · iexact Hs
  iintro Hs
  isplitl [Hd]; · iexact Hd
  isplitl [Hs]; · iexact Hs
  isplitl [Hv]; · iexact Hv
  isplitl [Hf]; · iexact Hf
  iexact Hr

theorem laneIn_skip {f : a.view.ty.Contents (Elt F)} {k : ℕ} (h : ¬ k + 1 < num i) : laneIn i d a m sm sq f k ⊢ ahead i d a m sm sq f k := by
  unfold laneIn ahead
  rw [held_empty i d a (f := f) (show base i + num i ≤ base i + (k + 1) by omega), held_empty i d a (f := f) (show base i + num i ≤ base i + (k + 1 + 1) by omega),
    show inFlight i d a m sm sq f (k + 1) = rest i d m sm sq ((k + 1) % 2) (two (k + 1)) from dif_neg h]

theorem laneIn_end {f : a.view.ty.Contents (Elt F)} : laneIn i d a m sm sq f (num i)
    ⊢ iprop(held i d a f (base i) (base i + num i) ∗ rest i d m sm sq (num i % 2) (two _) ∗ rest i d m sm sq ((num i + 1) % 2) (two _)) := by
  unfold laneIn
  rw [show inFlight i d a m sm sq f (num i) = rest i d m sm sq (num i % 2) (two _) from dif_neg (lt_irrefl _)]
  iintro ⟨Hd, Hf, Hs, -⟩
  isplitl [Hd]; · iexact Hd
  isplitl [Hf]; · iexact Hf
  iexact Hs

variable {α : Type} {Q : α → sProp (MM F)}

/-- The first chunk is sent for. -/
theorem wp_first {f : a.view.ty.Contents (Elt F)}
    {offS : Fin 3 → ℕ} {offD : Fin 4 → ℕ} {offM : Fin 1 → ℕ} (eS : offS = ![base i, 0, 0]) (eD : offD = ![0, 0, 0, 0]) (eM : offM = ![0])
    {hS : ∀ x, offS x + (ChS R).size x ≤ (ArrS R).size x} {hD : ∀ x, offD x + (SlotS R).size x ≤ (RingS R).size x}
    {hM : ∀ x, offM x + S1.size x ≤ S2.size x} {h1 h2 h3} {kk : PUnit → ProgV F i α} (hN0 : 0 < (ChS R).numel) :
    iprop(held i d a f (base i) (base i + num i) ∗ rest i d m sm sq 0 (by decide) ∗ rest i d m sm sq 1 (by decide))
      ⊢ iprop((laneIn i d a m sm sq f 0 -∗ wp frame (wpE (defs₀ (F := F)) 𝒱₀ (tile d i) none) Set.univ (kk ⟨⟩) Q)
        -∗ wp frame (wpE (defs₀ (F := F)) 𝒱₀ (tile d i) none) Set.univ
          (.op (.enqueueDmaAs (a.slice (Rect.unit (s := ArrS R) offS (ChS R).size hS) (fun _ => rfl))
            (.here ((m.slice (Rect.unit (s := RingS R) offD (SlotS R).size hD) (fun _ => rfl)).squeeze (ChS R) sq)) .same
            (.dma ((sm.slice (Rect.unit (s := S2) offM S1.size hM)).squeeze S_ squeezes_S1_S_).sem) h1 h2 h3) kk) Q) := by
  iintro ⟨Hh, H0, H1⟩ Hk
  iapply (wp_coming (f := f) (c := base i) (hi := base i + num i) i d a m sm sq (chunk_lt i (num_pos i)) (by decide) (by have := num_pos i; omega) eS eD eM hN0) $$ [Hh H0]
  · isplitl [Hh] <;> iassumption
  iintro ⟨Hf, Hh⟩
  iapply Hk
  unfold laneIn
  rw [show inFlight i d a m sm sq f 0 = coming i d a m sm sq 0 (by decide) f (base i + 0) (chunk_lt i (num_pos i)) from dif_pos (num_pos i),
    held_empty i d a (show base i + 0 ≤ base i by omega)]
  isplitr; · iempintro
  isplitl [Hf]; · iexact Hf
  isplitl [H1]; · iexact H1
  iexact Hh

/-- The next chunk is sent for. -/
theorem wp_next {f : a.view.ty.Contents (Elt F)} {k : ℕ} (hk : k + 1 < num i)
    {offS : Fin 3 → ℕ} {offD : Fin 4 → ℕ} {offM : Fin 1 → ℕ} (eS : offS = ![base i + (k + 1), 0, 0]) (eD : offD = ![(k + 1) % 2, 0, 0, 0]) (eM : offM = ![(k + 1) % 2])
    {hS : ∀ x, offS x + (ChS R).size x ≤ (ArrS R).size x} {hD : ∀ x, offD x + (SlotS R).size x ≤ (RingS R).size x}
    {hM : ∀ x, offM x + S1.size x ≤ S2.size x} {h1 h2 h3} {kk : PUnit → ProgV F i α} (hN0 : 0 < (ChS R).numel) :
    laneIn i d a m sm sq f k
      ⊢ iprop((ahead i d a m sm sq f k -∗ wp frame (wpE (defs₀ (F := F)) 𝒱₀ (tile d i) none) Set.univ (kk ⟨⟩) Q)
        -∗ wp frame (wpE (defs₀ (F := F)) 𝒱₀ (tile d i) none) Set.univ
          (.op (.enqueueDmaAs (a.slice (Rect.unit (s := ArrS R) offS (ChS R).size hS) (fun _ => rfl))
            (.here ((m.slice (Rect.unit (s := RingS R) offD (SlotS R).size hD) (fun _ => rfl)).squeeze (ChS R) sq)) .same
            (.dma ((sm.slice (Rect.unit (s := S2) offM S1.size hM)).squeeze S_ squeezes_S1_S_).sem) h1 h2 h3) kk) Q) := by
  unfold laneIn ahead
  rw [show inFlight i d a m sm sq f (k + 1) = coming i d a m sm sq ((k + 1) % 2) (two (k + 1)) f (base i + (k + 1)) (chunk_lt i hk) from dif_pos hk]
  iintro ⟨Hd, Hf, Hr, Hh⟩ Hk
  iapply (wp_coming (f := f) (hi := base i + num i) i d a m sm sq (chunk_lt i hk) (two (k + 1)) (by omega) eS eD eM hN0) $$ [Hh Hr]
  · isplitl [Hh] <;> iassumption
  iintro ⟨Hg, Hh⟩
  iapply Hk
  isplitl [Hd]; · iexact Hd
  isplitl [Hf]; · iexact Hf
  isplitl [Hg]; · iexact Hg
  iexact Hh

/-- This chunk is waited for. -/
theorem wp_take {f : a.view.ty.Contents (Elt F)} {k : ℕ} (hk : k < num i) {O : CellTallies nD τ sig (HIx 1)} {W : Waits sig (HIx 1)}
    {offS : Fin 3 → ℕ} {offD : Fin 4 → ℕ} {offM : Fin 1 → ℕ} (eD : offD = ![k % 2, 0, 0, 0]) (eM : offM = ![k % 2])
    {hS : ∀ x, offS x + (ChS R).size x ≤ (ArrS R).size x} {hD : ∀ x, offD x + (SlotS R).size x ≤ (RingS R).size x}
    {hM : ∀ x, offM x + S1.size x ≤ S2.size x} {h1 h2} {kk : PUnit → ProgV F i α} :
    iprop(ahead i d a m sm sq f k ∗ owing i d O W)
      ⊢ iprop((iprop(came i d a m sm sq f k (fun w => w = (chunkM a (base i + k) (chunk_lt i hk)).view.read (Elt F) f) ∗ owing i d O W)
            -∗ wp frame (wpE (defs₀ (F := F)) 𝒱₀ (tile d i) none) Set.univ (kk ⟨⟩) Q)
        -∗ wp frame (wpE (defs₀ (F := F)) 𝒱₀ (tile d i) none) Set.univ
          (.op (.waitDma2 ((sm.slice (Rect.unit (s := S2) offM S1.size hM)).squeeze S_ squeezes_S1_S_).sem
            (a.slice (Rect.unit (s := ArrS R) offS (ChS R).size hS) (fun _ => rfl))
            ((m.slice (Rect.unit (s := RingS R) offD (SlotS R).size hD) (fun _ => rfl)).squeeze (ChS R) sq) h1 h2) kk) Q) := by
  unfold ahead came owing
  rw [show inFlight i d a m sm sq f k = coming i d a m sm sq (k % 2) (two k) f (base i + k) (chunk_lt i hk) from dif_pos hk]
  iintro ⟨⟨Hd, Hf, Hg, Hh⟩, Ho, #Hm⟩ Hk
  iapply (wp_came i d a m sm sq (chunk_lt i hk) (two k) eD eM) $$ [Hf Ho]
  · isplitl [Hf]; · iexact Hf
    isplitl [Ho]; · iexact Ho
    iexact Hm
  iintro ⟨Hs, Hb, Hv, Ho⟩
  iapply Hk
  isplitr [Ho]
  · isplitl [Hd Hb]
    · iapply (held_join i d a (show base i ≤ base i + k by omega))
      isplitl [Hd] <;> iassumption
    isplitl [Hs]; · iexact Hs
    isplitl [Hv]; · iexact Hv
    isplitl [Hg]; · iexact Hg
    iexact Hh
  · isplitl [Ho]; · iexact Ho
    iexact Hm

/-! ## The lane of an output -/

/-- The chunk before `k` on its way out, if there is one. -/
def outFlight (T : a.view.ty.Contents (Elt F)) (k : ℕ) : sProp (MM F) :=
  if h : 0 < k ∧ k - 1 < num i then going i d a m sm sq ((k - 1) % 2) (two _) T (base i + (k - 1)) (chunk_lt i h.2)
    else rest i d m sm sq ((k + 1) % 2) (two (k + 1))

/-- Between trips: the chunks up to the one before `k` out, that one on its way, the others as they were. -/
def laneOut (T f : a.view.ty.Contents (Elt F)) (k : ℕ) : sProp (MM F) :=
  iprop(held i d a T (base i) (base i + (k - 1)) ∗ outFlight i d a m sm sq T k ∗ rest i d m sm sq (k % 2) (two k)
    ∗ held i d a f (base i + k) (base i + num i))

/-- A slot with chunk `k` in it. -/
def filled (T f : a.view.ty.Contents (Elt F)) (k : ℕ) (φ : ((ChS R).Idx → Elt F .f32) → Prop) : sProp (MM F) :=
  iprop(held i d a T (base i) (base i + (k - 1)) ∗ outFlight i d a m sm sq T k
    ∗ slot i d m sq (k % 2) (two k) φ ∗ semVal (tile d i, cell sm (k % 2) (two k)) 0
    ∗ held i d a f (base i + k) (base i + num i))

/-- Chunk `k` on its way out too. -/
def left (T f : a.view.ty.Contents (Elt F)) (k : ℕ) : sProp (MM F) :=
  iprop(held i d a T (base i) (base i + (k - 1)) ∗ outFlight i d a m sm sq T k ∗ outFlight i d a m sm sq T (k + 1)
    ∗ held i d a f (base i + (k + 1)) (base i + num i))

theorem laneOut_open {T f : a.view.ty.Contents (Elt F)} {k : ℕ} : laneOut i d a m sm sq T f k ⊢ filled i d a m sm sq T f k (fun _ => True) := by
  unfold laneOut filled rest
  iintro ⟨Hd, Hf, ⟨Hs, Hv⟩, Hh⟩
  isplitl [Hd]; · iexact Hd
  isplitl [Hf]; · iexact Hf
  isplitl [Hs]; · iexact Hs
  isplitl [Hv]; · iexact Hv
  iexact Hh

theorem filled_slot {T f : a.view.ty.Contents (Elt F)} {k : ℕ} {φ ψ : ((ChS R).Idx → Elt F .f32) → Prop} :
    filled i d a m sm sq T f k φ ⊢ iprop(slot i d m sq (k % 2) (two k) φ ∗ (slot i d m sq (k % 2) (two k) ψ -∗ filled i d a m sm sq T f k ψ)) := by
  unfold filled
  iintro ⟨Hd, Hf, Hs, Hv, Hh⟩
  isplitl [Hs]; · iexact Hs
  iintro Hs
  isplitl [Hd]; · iexact Hd
  isplitl [Hf]; · iexact Hf
  isplitl [Hs]; · iexact Hs
  isplitl [Hv]; · iexact Hv
  iexact Hh

theorem left_first {T f : a.view.ty.Contents (Elt F)} {k : ℕ} (h : ¬ 0 < k) : left i d a m sm sq T f k ⊢ laneOut i d a m sm sq T f (k + 1) := by
  obtain rfl : k = 0 := by omega
  unfold left laneOut
  rw [show outFlight i d a m sm sq T 0 = rest i d m sm sq ((0 + 1) % 2) (two (0 + 1)) from dif_neg (fun h => absurd h.1 (lt_irrefl _))]
  iintro ⟨Hd, Hf, Hg, Hh⟩
  isplitl [Hd]; · iexact Hd
  isplitl [Hg]; · iexact Hg
  isplitl [Hf]; · iexact Hf
  iexact Hh

theorem laneOut_start {T f : a.view.ty.Contents (Elt F)} :
    iprop(held i d a f (base i) (base i + num i) ∗ rest i d m sm sq 0 (by decide) ∗ rest i d m sm sq 1 (by decide)) ⊢ laneOut i d a m sm sq T f 0 := by
  unfold laneOut
  rw [show outFlight i d a m sm sq T 0 = rest i d m sm sq ((0 + 1) % 2) (two (0 + 1)) from dif_neg (fun h => absurd h.1 (lt_irrefl _)),
    held_empty i d a (show base i + (0 - 1) ≤ base i by omega)]
  iintro ⟨Hh, H0, H1⟩
  isplitr; · iempintro
  isplitl [H1]; · iexact H1
  isplitl [H0]; · iexact H0
  iexact Hh

/-- Chunk `k` is sent out. -/
theorem wp_send {T f : a.view.ty.Contents (Elt F)} {k : ℕ} (hk : k < num i)
    {offS : Fin 3 → ℕ} {offD : Fin 4 → ℕ} {offM : Fin 1 → ℕ} (eS : offS = ![base i + k, 0, 0]) (eD : offD = ![k % 2, 0, 0, 0]) (eM : offM = ![k % 2])
    {hS : ∀ x, offS x + (ChS R).size x ≤ (ArrS R).size x} {hD : ∀ x, offD x + (SlotS R).size x ≤ (RingS R).size x}
    {hM : ∀ x, offM x + S1.size x ≤ S2.size x} {h1 h2 h3} {kk : PUnit → ProgV F i α} (hN0 : 0 < (ChS R).numel) :
    filled i d a m sm sq T f k (fun w => w = (chunkM a (base i + k) (chunk_lt i hk)).view.read (Elt F) T)
      ⊢ iprop((left i d a m sm sq T f k -∗ wp frame (wpE (defs₀ (F := F)) 𝒱₀ (tile d i) none) Set.univ (kk ⟨⟩) Q)
        -∗ wp frame (wpE (defs₀ (F := F)) 𝒱₀ (tile d i) none) Set.univ
          (.op (.enqueueDmaAs ((m.slice (Rect.unit (s := RingS R) offD (SlotS R).size hD) (fun _ => rfl)).squeeze (ChS R) sq)
            (.here (a.slice (Rect.unit (s := ArrS R) offS (ChS R).size hS) (fun _ => rfl))) .same
            (.dma ((sm.slice (Rect.unit (s := S2) offM S1.size hM)).squeeze S_ squeezes_S1_S_).sem) h1 h2 h3) kk) Q) := by
  unfold filled left
  rw [show outFlight i d a m sm sq T (k + 1) = going i d a m sm sq (k % 2) (two k) T (base i + k) (chunk_lt i hk) from dif_pos ⟨Nat.succ_pos k, hk⟩]
  iintro ⟨Hd, Hf, Hs, Hv, Hh⟩ Hk
  iapply (wp_going (f := f) (T := T) (hi := base i + num i) i d a m sm sq (chunk_lt i hk) (two k) (by omega) eS eD eM hN0) $$ [Hh Hs Hv]
  · isplitl [Hh]; · iexact Hh
    isplitl [Hs] <;> iassumption
  iintro ⟨Hg, Hh⟩
  iapply Hk
  isplitl [Hd]; · iexact Hd
  isplitl [Hf]; · iexact Hf
  isplitl [Hg]; · iexact Hg
  iexact Hh

/-- The chunk before `k` is waited for. -/
theorem wp_sent {T f : a.view.ty.Contents (Elt F)} {k : ℕ} (hp : 0 < k) (hk : k < num i) {O : CellTallies nD τ sig (HIx 1)} {W : Waits sig (HIx 1)}
    {offS : Fin 3 → ℕ} {offD : Fin 4 → ℕ} {offM : Fin 1 → ℕ} (eS : offS = ![base i + (k - 1), 0, 0]) (eM : offM = ![(k - 1) % 2])
    {hS : ∀ x, offS x + (ChS R).size x ≤ (ArrS R).size x} {hD : ∀ x, offD x + (SlotS R).size x ≤ (RingS R).size x}
    {hM : ∀ x, offM x + S1.size x ≤ S2.size x} {h1 h2} {kk : PUnit → ProgV F i α} :
    iprop(left i d a m sm sq T f k ∗ owing i d O W)
      ⊢ iprop((iprop(laneOut i d a m sm sq T f (k + 1) ∗ owing i d O W)
            -∗ wp frame (wpE (defs₀ (F := F)) 𝒱₀ (tile d i) none) Set.univ (kk ⟨⟩) Q)
        -∗ wp frame (wpE (defs₀ (F := F)) 𝒱₀ (tile d i) none) Set.univ
          (.op (.waitDma2 ((sm.slice (Rect.unit (s := S2) offM S1.size hM)).squeeze S_ squeezes_S1_S_).sem
            ((m.slice (Rect.unit (s := RingS R) offD (SlotS R).size hD) (fun _ => rfl)).squeeze (ChS R) sq)
            (a.slice (Rect.unit (s := ArrS R) offS (ChS R).size hS) (fun _ => rfl)) h1 h2) kk) Q) := by
  have hl : k - 1 < num i := by omega
  unfold left laneOut owing
  rw [show outFlight i d a m sm sq T k = going i d a m sm sq ((k - 1) % 2) (two _) T (base i + (k - 1)) (chunk_lt i hl) from dif_pos ⟨hp, hl⟩]
  iintro ⟨⟨Hd, Hf, Hg, Hh⟩, Ho, #Hm⟩ Hk
  iapply (wp_went i d a m sm sq (chunk_lt i hl) (two _) eS eM) $$ [Hf Ho]
  · isplitl [Hf]; · iexact Hf
    isplitl [Ho]; · iexact Ho
    iexact Hm
  iintro ⟨Hb, Hr, Ho⟩
  iapply Hk
  isplitr [Ho]
  · isplitl [Hd Hb]
    · rw [show base i + (k + 1 - 1) = base i + (k - 1) + 1 by omega]
      iapply (held_join i d a (show base i ≤ base i + (k - 1) by omega))
      isplitl [Hd] <;> iassumption
    isplitl [Hg]; · iexact Hg
    isplitl [Hr]
    · rw [rest_congr i d m sm sq (show (k + 1) % 2 = (k - 1) % 2 by omega) _ (two _)]
      iexact Hr
    iexact Hh
  · isplitl [Ho]; · iexact Ho
    iexact Hm

/-- The last chunk is waited for. -/
theorem wp_last {T f : a.view.ty.Contents (Elt F)} {O : CellTallies nD τ sig (HIx 1)} {W : Waits sig (HIx 1)}
    {offS : Fin 3 → ℕ} {offD : Fin 4 → ℕ} {offM : Fin 1 → ℕ} (eS : offS = ![base i + (num i - 1), 0, 0]) (eM : offM = ![(num i - 1) % 2])
    {hS : ∀ x, offS x + (ChS R).size x ≤ (ArrS R).size x} {hD : ∀ x, offD x + (SlotS R).size x ≤ (RingS R).size x}
    {hM : ∀ x, offM x + S1.size x ≤ S2.size x} {h1 h2} {kk : PUnit → ProgV F i α} :
    iprop(laneOut i d a m sm sq T f (num i) ∗ owing i d O W)
      ⊢ iprop((iprop((held i d a T (base i) (base i + num i) ∗ rest i d m sm sq (num i % 2) (two _) ∗ rest i d m sm sq ((num i + 1) % 2) (two _)) ∗ owing i d O W)
            -∗ wp frame (wpE (defs₀ (F := F)) 𝒱₀ (tile d i) none) Set.univ (kk ⟨⟩) Q)
        -∗ wp frame (wpE (defs₀ (F := F)) 𝒱₀ (tile d i) none) Set.univ
          (.op (.waitDma2 ((sm.slice (Rect.unit (s := S2) offM S1.size hM)).squeeze S_ squeezes_S1_S_).sem
            ((m.slice (Rect.unit (s := RingS R) offD (SlotS R).size hD) (fun _ => rfl)).squeeze (ChS R) sq)
            (a.slice (Rect.unit (s := ArrS R) offS (ChS R).size hS) (fun _ => rfl)) h1 h2) kk) Q) := by
  have hp := num_pos i
  have hl : num i - 1 < num i := by omega
  unfold laneOut owing
  rw [show outFlight i d a m sm sq T (num i) = going i d a m sm sq ((num i - 1) % 2) (two _) T (base i + (num i - 1)) (chunk_lt i hl) from dif_pos ⟨hp, hl⟩]
  iintro ⟨⟨Hd, Hf, Hs, -⟩, Ho, #Hm⟩ Hk
  iapply (wp_went i d a m sm sq (chunk_lt i hl) (two _) eS eM) $$ [Hf Ho]
  · isplitl [Hf]; · iexact Hf
    isplitl [Ho]; · iexact Ho
    iexact Hm
  iintro ⟨Hb, Hr, Ho⟩
  iapply Hk
  isplitr [Ho]
  · isplitl [Hd Hb]
    · rw [show base i + num i = base i + (num i - 1) + 1 by omega]
      iapply (held_join i d a (show base i ≤ base i + (num i - 1) by omega))
      isplitl [Hd] <;> iassumption
    isplitl [Hs]; · iexact Hs
    rw [rest_congr i d m sm sq (show (num i + 1) % 2 = (num i - 1) % 2 by omega) _ (two _)]
    iexact Hr
  · isplitl [Ho]; · iexact Ho
    iexact Hm

end

end Cert.Proof.Pyramid

end
-- ==== Proof.Trip.lean ====
/-
  One trip of a tile's loop: the next chunk is sent for, this one awaited and worked on, its outputs sent out, and the
  previous chunk's awaited.
-/
module

public import proofs.«01_k».proof.Proof.ChunkRun
public import proofs.«01_k».proof.Proof.Stream
public import proofs.«01_k».proof.Proof.Gen.KernelIdeal.Skeleton

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem pos160 : 0 < (ChS 160).numel := by decide
theorem pos40 : 0 < (ChS 40).numel := by decide
theorem pos10 : 0 < (ChS 10).numel := by decide

/-- A step that turns `P` into `P'` before the rest. -/
theorem by_turn {P P' A B : sProp (MM F)} (h : P ⊢ iprop((P' -∗ B) -∗ A)) (hk : P' ⊢ B) : P ⊢ A := by
  iintro H
  iapply h $$ H
  iintro H'
  iapply hk $$ H'

/-- A step of a program that turns `P` into `P'` before the rest. -/
theorem by_step {i : grid0.Coords} {d : Dev nD} {α : Type} {e : TpuEff nD τ sig (Elt F) Λ₀ (.scVector ((i 0).castLE hcore0) ((i 1).castLE hsub0)) PUnit}
    {k : PUnit → ProgV F i α} {Q : α → sProp (MM F)} {P P' : sProp (MM F)}
    (h : P ⊢ iprop((P' -∗ wp frame (wpE (defs₀ (F := F)) 𝒱₀ (tile d i) none) Set.univ (k ⟨⟩) Q)
      -∗ wp frame (wpE (defs₀ (F := F)) 𝒱₀ (tile d i) none) Set.univ (.op e k) Q))
    (hk : P' ⊢ wp frame (wpE (defs₀ (F := F)) 𝒱₀ (tile d i) none) Set.univ (k ⟨⟩) Q) :
    P ⊢ wp frame (wpE (defs₀ (F := F)) 𝒱₀ (tile d i) none) Set.univ (.op e k) Q := by_turn h hk

/-- A step taken only on a condition, and not needed without it. -/
theorem by_fork {i : grid0.Coords} {d : Dev nD} {α : Type} {c : Prop} [Decidable c] {A : c → ProgV F i α} {B : ProgV F i α} {Q : α → sProp (MM F)}
    {P P' : sProp (MM F)}
    (hp : ∀ h, P ⊢ iprop((P' -∗ wp frame (wpE (defs₀ (F := F)) 𝒱₀ (tile d i) none) Set.univ B Q)
      -∗ wp frame (wpE (defs₀ (F := F)) 𝒱₀ (tile d i) none) Set.univ (A h) Q))
    (hn : ¬ c → P ⊢ P') (hk : P' ⊢ wp frame (wpE (defs₀ (F := F)) 𝒱₀ (tile d i) none) Set.univ B Q) :
    P ⊢ wp frame (wpE (defs₀ (F := F)) 𝒱₀ (tile d i) none) Set.univ (if h : c then A h else B) Q := by
  by_cases h : c
  · rw [dif_pos h]; exact by_turn (hp h) hk
  · rw [dif_neg h]; exact (hn h).trans hk

/-- A run of part of what is held, the rest kept. -/
theorem by_run {i : grid0.Coords} {d : Dev nD} {α : Type} {p : ProgV F i α} {Q : α → sProp (MM F)} {P X X' G : sProp (MM F)}
    (hs : P ⊢ iprop(X ∗ G)) (h : X ⊢ wp frame (wpE (defs₀ (F := F)) 𝒱₀ (tile d i) none) Set.univ p fun _ => X')
    (hk : ∀ x, iprop(X' ∗ G) ⊢ Q x) : P ⊢ wp frame (wpE (defs₀ (F := F)) 𝒱₀ (tile d i) none) Set.univ p Q := by
  iintro HP
  ihave HP := hs $$ HP
  icases HP with ⟨HX, HG⟩
  ihave Hw := h $$ HX
  iapply wp_wand_r
  isplitl [Hw]; · iexact Hw
  iintro %x HX
  iapply (hk x)
  isplitl [HX] <;> iassumption

theorem by_pure {i : grid0.Coords} {d : Dev nD} {α : Type} {x : α} {Q : α → sProp (MM F)} {P : sProp (MM F)} (h : P ⊢ Q x) :
    P ⊢ wp frame (wpE (defs₀ (F := F)) 𝒱₀ (tile d i) none) Set.univ (Pure.pure x) Q := h.trans fupd_intro

/-- The words a trip is handed. -/
abbrev words (i : grid0.Coords) (k : ℕ) : BitVec 32 × BitVec 32 × BitVec 32 × BitVec 32 × BitVec 32 × BitVec 32 × BitVec 32 × BitVec 32 × BitVec 32 :=
  (BitVec.ofNat 32 (min (k + 1) (num i)), BitVec.ofNat 32 k, BitVec.ofNat 32 k, BitVec.ofNat 32 (k - 1), BitVec.ofNat 32 k, BitVec.ofNat 32 (k - 1),
    BitVec.ofNat 32 k, BitVec.ofNat 32 (k - 1), BitVec.ofNat 32 (if k = num i then 0 else k))

section
variable (i : grid0.Coords) (arg2 : Memref sig .scVector .hbm S1250x160x128 .f32) (harg2 : arg2.IsWhole) (arg3 : Memref sig .scVector .hbm S1250x160x128 .f32) (harg3 : arg3.IsWhole) (arg4 : Memref sig .scVector .hbm S1250x40x128 .f32) (harg4 : arg4.IsWhole) (arg5 : Memref sig .scVector .hbm S1250x10x128 .f32) (harg5 : arg5.IsWhole) (alloca_r0 : Memref sig .scVector .vmem S2x1x160x128 .f32) (halloca_r0 : alloca_r0.IsWhole) (v12_r0 : DmaSems sig S2) (alloca_4_r0 : Memref sig .scVector .vmem S2x1x160x128 .f32) (halloca_4_r0 : alloca_4_r0.IsWhole) (v13_r0 : DmaSems sig S2) (alloca_5_r0 : Memref sig .scVector .vmem S2x1x40x128 .f32) (halloca_5_r0 : alloca_5_r0.IsWhole) (v14_r0 : DmaSems sig S2) (alloca_6_r0 : Memref sig .scVector .vmem S2x1x10x128 .f32) (halloca_6_r0 : alloca_6_r0.IsWhole) (v15_r0 : DmaSems sig S2) (k0_h1 : k0_cond1 i = 1#1) (d : Dev nD)
  (O : CellTallies nD τ sig (HIx 1)) (W : Waits sig (HIx 1))
  (fx : arg2.view.ty.Contents (Elt F)) (T₀ f₀ : arg3.view.ty.Contents (Elt F)) (T₁ f₁ : arg4.view.ty.Contents (Elt F))
  (T₂ f₂ : arg5.view.ty.Contents (Elt F))

/-- What is held between the trips. -/
def between (k : ℕ) : sProp (MM F) :=
  iprop(laneIn i d arg2 alloca_r0 v12_r0 sq160 fx k ∗ laneOut i d arg3 alloca_4_r0 v13_r0 sq160 T₀ f₀ k
    ∗ laneOut i d arg4 alloca_5_r0 v14_r0 sq40 T₁ f₁ k ∗ laneOut i d arg5 alloca_6_r0 v15_r0 sq10 T₂ f₂ k ∗ owing i d O W)

set_option maxRecDepth 20000 in
set_option maxHeartbeats 4000000 in
theorem wp_trip (hT : Made arg2 arg3 arg4 arg5 fx T₀ T₁ T₂) (v11 v43 w0 w1 w2 w3 w4 w5' w6 w7 w8 : BitVec 32) (t : Fin (k0_t1_loop i).trips) :
    between i arg2 arg3 arg4 arg5 alloca_r0 v12_r0 alloca_4_r0 v13_r0 alloca_5_r0 v14_r0 alloca_6_r0 v15_r0 d O W fx T₀ f₀ T₁ f₁ T₂ f₂ t.val
      ⊢ wp frame (wpE (defs₀ (F := F)) 𝒱₀ (tile d i) none) Set.univ (k0_t1_body (F := F) i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 (w5 i) (w10 i) v11 k0_h1 v43 0#32 w1 w2 w3 w4 w5' w6 w7 w8 w0 t (words i t.val))
        fun acc => iprop(⌜acc = words i (t.val + 1)⌝ ∗ between i arg2 arg3 arg4 arg5 alloca_r0 v12_r0 alloca_4_r0 v13_r0 alloca_5_r0 v14_r0 alloca_6_r0 v15_r0 d O W fx T₀ f₀ T₁ f₁ T₂ f₂ (t.val + 1)) := by
  have ht : t.val < num i := lt_of_lt_of_eq t.isLt (trips₁ i)
  have hnm := num_le i
  have h0 : t.val < 42 := by omega
  rw [show words i t.val = (BitVec.ofNat 32 (min (t.val + 1) (num i)), BitVec.ofNat 32 t.val, BitVec.ofNat 32 t.val, BitVec.ofNat 32 (t.val - 1), BitVec.ofNat 32 t.val, BitVec.ofNat 32 (t.val - 1),
    BitVec.ofNat 32 t.val, BitVec.ofNat 32 (t.val - 1), BitVec.ofNat 32 t.val) by unfold words; rw [if_neg ht.ne]]
  unfold k0_t1_body between
  dsimp only
  rw [wp_bind, k0_part98_eq_skeleton]
  unfold k0_part98_skel
  simp only [Prog.bind_lift]
  rw [wp_assume_of _ _ _ _ (chk5_of i h0), wp_assume_of _ _ _ _ (chk4_of i h0), wp_assume_of _ _ _ _ (chk3_of i h0), wp_assume_of _ _ _ _ (chk2_of i h0), wp_assume_of _ _ _ _ (chk1_of i t)]
  simp only [Prog.bind_op]
  refine by_fork (P' := iprop(ahead i d arg2 alloca_r0 v12_r0 sq160 fx t.val ∗ laneOut i d arg3 alloca_4_r0 v13_r0 sq160 T₀ f₀ t.val
    ∗ laneOut i d arg4 alloca_5_r0 v14_r0 sq40 T₁ f₁ t.val ∗ laneOut i d arg5 alloca_6_r0 v15_r0 sq10 T₂ f₂ t.val ∗ owing i d O W)) ?_ ?_ ?_
  · intro h
    have hn := (cond3_iff i t).mp h
    have e : min (t.val + 1) (num i) = t.val + 1 := by omega
    iintro ⟨Hx, HR⟩ Hk
    iapply (wp_next (R := 160) i d arg2 alloca_r0 v12_r0 sq160 hn (off5_eq i t.val ht hn) (by rw [e]; exact slot_off (by omega)) (by rw [e]; exact cell_off (by omega)) pos160) $$ Hx
    iintro Hx
    iapply Hk
    isplitl [Hx]; · iexact Hx
    iexact HR
  · intro h
    iintro ⟨Hx, HR⟩
    isplitl [Hx]
    · iapply (laneIn_skip i d arg2 alloca_r0 v12_r0 sq160 (fun hn => h ((cond3_iff i t).mpr hn))) $$ Hx
    · iexact HR
  refine by_pure ?_
  dsimp only
  rw [wp_bind, k0_part99_eq_skeleton]
  unfold k0_part99_skel
  rw [dif_pos (cond4_eq i t)]
  simp only [Prog.bind_lift, Prog.bind_op, Prog.bind_ret, Prog.pure_eq_ret, ite_self]
  refine by_step (P' := iprop(came i d arg2 alloca_r0 v12_r0 sq160 fx t.val (fun w => w = (chunkM arg2 (base i + t.val) (chunk_lt i ht)).view.read (Elt F) fx)
    ∗ laneOut i d arg3 alloca_4_r0 v13_r0 sq160 T₀ f₀ t.val
    ∗ laneOut i d arg4 alloca_5_r0 v14_r0 sq40 T₁ f₁ t.val ∗ laneOut i d arg5 alloca_6_r0 v15_r0 sq10 T₂ f₂ t.val ∗ owing i d O W)) ?_ ?_
  · iintro ⟨Hx, H0, H1, H2, Ho⟩ Hk
    iapply (wp_take (R := 160) i d arg2 alloca_r0 v12_r0 sq160 ht (slot_off h0) (cell_off h0)) $$ [Hx Ho]
    · isplitl [Hx] <;> iassumption
    iintro ⟨Hx, Ho⟩
    iapply Hk
    isplitl [Hx]; · iexact Hx
    isplitl [H0]; · iexact H0
    isplitl [H1]; · iexact H1
    isplitl [H2]; · iexact H2
    iexact Ho
  refine by_pure ?_
  rw [wp_bind, k0_part100_eq_skeleton]
  unfold k0_part100_skel
  simp only [Prog.bind_ret, Prog.pure_eq_ret, ite_self]
  rw [dif_pos (cond9_eq i t), dif_pos (cond10_eq i t), dif_pos (cond11_eq i t)]
  simp only [Prog.bind_lift, Prog.bind_op, Prog.bind_ret, Prog.pure_eq_ret, ite_self]
  rw [wp_bind]
  refine by_run (G := iprop((slot i d alloca_r0 sq160 (t.val % 2) (two _) (fun _ => True) -∗ came i d arg2 alloca_r0 v12_r0 sq160 fx t.val (fun _ => True))
      ∗ (slot i d alloca_4_r0 sq160 (t.val % 2) (two _) (fun w => w = (chunkM arg3 (base i + t.val) (chunk_lt i ht)).view.read (Elt F) T₀)
        -∗ filled i d arg3 alloca_4_r0 v13_r0 sq160 T₀ f₀ t.val (fun w => w = (chunkM arg3 (base i + t.val) (chunk_lt i ht)).view.read (Elt F) T₀))
      ∗ (slot i d alloca_5_r0 sq40 (t.val % 2) (two _) (fun w => w = (chunkM arg4 (base i + t.val) (chunk_lt i ht)).view.read (Elt F) T₁)
        -∗ filled i d arg4 alloca_5_r0 v14_r0 sq40 T₁ f₁ t.val (fun w => w = (chunkM arg4 (base i + t.val) (chunk_lt i ht)).view.read (Elt F) T₁))
      ∗ (slot i d alloca_6_r0 sq10 (t.val % 2) (two _) (fun w => w = (chunkM arg5 (base i + t.val) (chunk_lt i ht)).view.read (Elt F) T₂)
        -∗ filled i d arg5 alloca_6_r0 v15_r0 sq10 T₂ f₂ t.val (fun w => w = (chunkM arg5 (base i + t.val) (chunk_lt i ht)).view.read (Elt F) T₂))
      ∗ owing i d O W)) ?_
    (wp_chunk _ _ _ _ _ _ _ _ _ _ _ _ _ _ _ _ _ _ _ _ _ _ _ _ _ _ _ _ _ _ _ _ _ _ _ _ _ _ _ _ _ d hT (chunk_lt i ht) (two t.val) (slot_off h0) (slot_off h0) (slot_off h0) (slot_off h0)) fun _ => ?_
  · iintro ⟨Hx, H0, H1, H2, Ho⟩
    ihave Hx := (came_slot (ψ := fun _ => True) i d arg2 alloca_r0 v12_r0 sq160) $$ Hx
    ihave H0 := ((laneOut_open i d arg3 alloca_4_r0 v13_r0 sq160).trans (filled_slot i d arg3 alloca_4_r0 v13_r0 sq160)) $$ H0
    ihave H1 := ((laneOut_open i d arg4 alloca_5_r0 v14_r0 sq40).trans (filled_slot i d arg4 alloca_5_r0 v14_r0 sq40)) $$ H1
    ihave H2 := ((laneOut_open i d arg5 alloca_6_r0 v15_r0 sq10).trans (filled_slot i d arg5 alloca_6_r0 v15_r0 sq10)) $$ H2
    icases Hx with ⟨Hx, Kx⟩
    icases H0 with ⟨H0, K0⟩
    icases H1 with ⟨H1, K1⟩
    icases H2 with ⟨H2, K2⟩
    isplitl [Hx H0 H1 H2]
    · isplitl [Hx]; · iexact Hx
      isplitl [H0]; · iexact H0
      isplitl [H1]; · iexact H1
      iexact H2
    · isplitl [Kx]; · iexact Kx
      isplitl [K0]; · iexact K0
      isplitl [K1]; · iexact K1
      isplitl [K2]; · iexact K2
      iexact Ho
  refine BIBase.Entails.trans (Q := iprop(laneIn i d arg2 alloca_r0 v12_r0 sq160 fx (t.val + 1)
    ∗ filled i d arg3 alloca_4_r0 v13_r0 sq160 T₀ f₀ t.val (fun w => w = (chunkM arg3 (base i + t.val) (chunk_lt i ht)).view.read (Elt F) T₀)
    ∗ filled i d arg4 alloca_5_r0 v14_r0 sq40 T₁ f₁ t.val (fun w => w = (chunkM arg4 (base i + t.val) (chunk_lt i ht)).view.read (Elt F) T₁)
    ∗ filled i d arg5 alloca_6_r0 v15_r0 sq10 T₂ f₂ t.val (fun w => w = (chunkM arg5 (base i + t.val) (chunk_lt i ht)).view.read (Elt F) T₂)
    ∗ owing i d O W)) ?_ ?_
  · iintro ⟨⟨Hx, H0, H1, H2⟩, Kx, K0, K1, K2, Ho⟩
    isplitl [Hx Kx]
    · iapply (came_done i d arg2 alloca_r0 v12_r0 sq160)
      iapply Kx $$ Hx
    isplitl [H0 K0]; · iapply K0 $$ H0
    isplitl [H1 K1]; · iapply K1 $$ H1
    isplitl [H2 K2]; · iapply K2 $$ H2
    iexact Ho
  refine by_step (P' := iprop(laneIn i d arg2 alloca_r0 v12_r0 sq160 fx (t.val + 1)
    ∗ left i d arg3 alloca_4_r0 v13_r0 sq160 T₀ f₀ t.val
    ∗ filled i d arg4 alloca_5_r0 v14_r0 sq40 T₁ f₁ t.val (fun w => w = (chunkM arg4 (base i + t.val) (chunk_lt i ht)).view.read (Elt F) T₁)
    ∗ filled i d arg5 alloca_6_r0 v15_r0 sq10 T₂ f₂ t.val (fun w => w = (chunkM arg5 (base i + t.val) (chunk_lt i ht)).view.read (Elt F) T₂)
    ∗ owing i d O W)) ?_ ?_
  · iintro ⟨Hx, H0, HR⟩ Hk
    iapply (wp_send (R := 160) i d arg3 alloca_4_r0 v13_r0 sq160 ht (off8_eq i t.val ht) (slot_off h0) (cell_off h0) pos160) $$ H0
    iintro H0
    iapply Hk
    isplitl [Hx]; · iexact Hx
    isplitl [H0]; · iexact H0
    iexact HR
  refine by_step (P' := iprop(laneIn i d arg2 alloca_r0 v12_r0 sq160 fx (t.val + 1)
    ∗ left i d arg3 alloca_4_r0 v13_r0 sq160 T₀ f₀ t.val
    ∗ left i d arg4 alloca_5_r0 v14_r0 sq40 T₁ f₁ t.val
    ∗ filled i d arg5 alloca_6_r0 v15_r0 sq10 T₂ f₂ t.val (fun w => w = (chunkM arg5 (base i + t.val) (chunk_lt i ht)).view.read (Elt F) T₂)
    ∗ owing i d O W)) ?_ ?_
  · iintro ⟨Hx, H0, H1, HR⟩ Hk
    iapply (wp_send (R := 40) i d arg4 alloca_5_r0 v14_r0 sq40 ht (off8_eq i t.val ht) (slot_off h0) (cell_off h0) pos40) $$ H1
    iintro H1
    iapply Hk
    isplitl [Hx]; · iexact Hx
    isplitl [H0]; · iexact H0
    isplitl [H1]; · iexact H1
    iexact HR
  refine by_step (P' := iprop(laneIn i d arg2 alloca_r0 v12_r0 sq160 fx (t.val + 1)
    ∗ left i d arg3 alloca_4_r0 v13_r0 sq160 T₀ f₀ t.val
    ∗ left i d arg4 alloca_5_r0 v14_r0 sq40 T₁ f₁ t.val
    ∗ left i d arg5 alloca_6_r0 v15_r0 sq10 T₂ f₂ t.val ∗ owing i d O W)) ?_ ?_
  · iintro ⟨Hx, H0, H1, H2, Ho⟩ Hk
    iapply (wp_send (R := 10) i d arg5 alloca_6_r0 v15_r0 sq10 ht (off8_eq i t.val ht) (slot_off h0) (cell_off h0) pos10) $$ H2
    iintro H2
    iapply Hk
    isplitl [Hx]; · iexact Hx
    isplitl [H0]; · iexact H0
    isplitl [H1]; · iexact H1
    isplitl [H2]; · iexact H2
    iexact Ho
  refine by_pure ?_
  dsimp only
  rw [wp_bind, k0_part101_eq_skeleton]
  unfold k0_part101_skel
  simp only [Prog.bind_lift, Prog.bind_op, Prog.bind_ret, Prog.pure_eq_ret, ite_self]
  have h1 : t.val - 1 < 42 := by omega
  refine by_fork (P' := iprop(laneIn i d arg2 alloca_r0 v12_r0 sq160 fx (t.val + 1)
    ∗ laneOut i d arg3 alloca_4_r0 v13_r0 sq160 T₀ f₀ (t.val + 1)
    ∗ left i d arg4 alloca_5_r0 v14_r0 sq40 T₁ f₁ t.val
    ∗ left i d arg5 alloca_6_r0 v15_r0 sq10 T₂ f₂ t.val ∗ owing i d O W)) ?_ ?_ ?_
  · intro h
    have hp := (cond13_iff i t).mp h
    iintro ⟨Hx, H0, H1, H2, Ho⟩ Hk
    iapply (wp_sent (R := 160) i d arg3 alloca_4_r0 v13_r0 sq160 hp ht (off52_eq i t.val ht hp) (cell_off h1)) $$ [H0 Ho]
    · isplitl [H0] <;> iassumption
    iintro ⟨H0, Ho⟩
    iapply Hk
    isplitl [Hx]; · iexact Hx
    isplitl [H0]; · iexact H0
    isplitl [H1]; · iexact H1
    isplitl [H2]; · iexact H2
    iexact Ho
  · intro h
    iintro ⟨Hx, H0, HR⟩
    isplitl [Hx]; · iexact Hx
    isplitl [H0]
    · iapply (left_first i d arg3 alloca_4_r0 v13_r0 sq160 (fun hp => h ((cond13_iff i t).mpr hp))) $$ H0
    iexact HR
  refine by_fork (P' := iprop(laneIn i d arg2 alloca_r0 v12_r0 sq160 fx (t.val + 1)
    ∗ laneOut i d arg3 alloca_4_r0 v13_r0 sq160 T₀ f₀ (t.val + 1)
    ∗ laneOut i d arg4 alloca_5_r0 v14_r0 sq40 T₁ f₁ (t.val + 1)
    ∗ left i d arg5 alloca_6_r0 v15_r0 sq10 T₂ f₂ t.val ∗ owing i d O W)) ?_ ?_ ?_
  · intro h
    have hp := (cond14_iff i t).mp h
    iintro ⟨Hx, H0, H1, H2, Ho⟩ Hk
    iapply (wp_sent (R := 40) i d arg4 alloca_5_r0 v14_r0 sq40 hp ht (off52_eq i t.val ht hp) (cell_off h1)) $$ [H1 Ho]
    · isplitl [H1] <;> iassumption
    iintro ⟨H1, Ho⟩
    iapply Hk
    isplitl [Hx]; · iexact Hx
    isplitl [H0]; · iexact H0
    isplitl [H1]; · iexact H1
    isplitl [H2]; · iexact H2
    iexact Ho
  · intro h
    iintro ⟨Hx, H0, H1, HR⟩
    isplitl [Hx]; · iexact Hx
    isplitl [H0]; · iexact H0
    isplitl [H1]
    · iapply (left_first i d arg4 alloca_5_r0 v14_r0 sq40 (fun hp => h ((cond14_iff i t).mpr hp))) $$ H1
    iexact HR
  refine by_fork (P' := iprop(laneIn i d arg2 alloca_r0 v12_r0 sq160 fx (t.val + 1)
    ∗ laneOut i d arg3 alloca_4_r0 v13_r0 sq160 T₀ f₀ (t.val + 1)
    ∗ laneOut i d arg4 alloca_5_r0 v14_r0 sq40 T₁ f₁ (t.val + 1)
    ∗ laneOut i d arg5 alloca_6_r0 v15_r0 sq10 T₂ f₂ (t.val + 1) ∗ owing i d O W)) ?_ ?_ ?_
  · intro h
    have hp := (cond15_iff i t).mp h
    iintro ⟨Hx, H0, H1, H2, Ho⟩ Hk
    iapply (wp_sent (R := 10) i d arg5 alloca_6_r0 v15_r0 sq10 hp ht (off52_eq i t.val ht hp) (cell_off h1)) $$ [H2 Ho]
    · isplitl [H2] <;> iassumption
    iintro ⟨H2, Ho⟩
    iapply Hk
    isplitl [Hx]; · iexact Hx
    isplitl [H0]; · iexact H0
    isplitl [H1]; · iexact H1
    isplitl [H2]; · iexact H2
    iexact Ho
  · intro h
    iintro ⟨Hx, H0, H1, H2, Ho⟩
    isplitl [Hx]; · iexact Hx
    isplitl [H0]; · iexact H0
    isplitl [H1]; · iexact H1
    isplitl [H2]
    · iapply (left_first i d arg5 alloca_6_r0 v15_r0 sq10 (fun hp => h ((cond15_iff i t).mpr hp))) $$ H2
    iexact Ho
  refine by_pure ?_
  dsimp only
  refine by_pure ?_
  iintro H
  isplitr [H]
  rotate_left
  · iexact H
  ipureintro
  have e := succ_word t.val (by omega)
  have e8 : Scalar.ori (Scalar.cmpi .ne (Scalar.addi (BitVec.ofNat 32 t.val) (w10 i)) (wNext (w5 i) (w10 i) (BitVec.ofNat 32 t.val)))
      (Scalar.cmpi .eq (Scf.iv 0#32 1#32 t) (Scalar.subi (Scalar.muli 1#32 (w5 i)) 1#32)) = 1#1 := word₈ i t.val ht
  unfold words
  refine Prod.ext (word₇ i t.val ht) (Prod.ext ?_ (Prod.ext ?_ (Prod.ext (word₁₀ i t.val ht) (Prod.ext ?_ (Prod.ext (word₁₀ i t.val ht)
    (Prod.ext ?_ (Prod.ext (word₁₀ i t.val ht) (word₁₅ i t.val ht))))))))
  · exact (congrArg (fun c => Scalar.select c _ _) e8).trans e
  · exact (congrArg (fun c => Scalar.select (Scalar.andi c 1#1) _ _) e8).trans e
  · exact (congrArg (fun c => Scalar.select (Scalar.andi c 1#1) _ _) e8).trans e
  · exact (congrArg (fun c => Scalar.select (Scalar.andi c 1#1) _ _) e8).trans e

end

end Cert.Proof.Pyramid

end
-- ==== Proof.Tile.lean ====
/-
  A tile's whole body: the first chunk is sent for, the trips run, the last chunk's outputs are awaited. From the tile's
  rows of the four arrays and its rings at rest to the outputs' rows at their targets and the rings at rest.
-/
module

public import proofs.«01_k».proof.Proof.Trip

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A ring's two slots at rest. -/
def ring {R : ℕ} (i : grid0.Coords) (d : Dev nD) (m : Memref sig .scVector .vmem (RingS R) .f32) (sm : DmaSems sig S2) (sq : (SlotS R).Squeezes (ChS R)) : sProp (MM F) :=
  iprop(rest i d m sm sq 0 (by decide) ∗ rest i d m sm sq 1 (by decide))

theorem ring_of {R : ℕ} (i : grid0.Coords) (d : Dev nD) (m : Memref sig .scVector .vmem (RingS R) .f32) (sm : DmaSems sig S2) (sq : (SlotS R).Squeezes (ChS R)) (n : ℕ) :
    (iprop(rest i d m sm sq (n % 2) (two n) ∗ rest i d m sm sq ((n + 1) % 2) (two (n + 1))) : sProp (MM F)) ⊢ ring i d m sm sq := by
  unfold ring
  rcases Nat.mod_two_eq_zero_or_one n with h | h
  · rw [rest_congr i d m sm sq h _ (by decide), rest_congr i d m sm sq (show (n + 1) % 2 = 1 by omega) _ (by decide)]
  · rw [rest_congr i d m sm sq h _ (by decide), rest_congr i d m sm sq (show (n + 1) % 2 = 0 by omega) _ (by decide)]
    exact sep_comm.1

/-- A counted loop by an invariant of what its trips hand on. -/
theorem by_loop {i : grid0.Coords} {d : Dev nD} {σ : Type} {l : Scf.Loop 32} {hok : l.OK} {init : σ} {body : Fin l.trips → σ → ProgV F i σ}
    {Q : σ → sProp (MM F)} {P : sProp (MM F)} (I : ℕ → σ → sProp (MM F)) (h0 : P ⊢ I 0 init)
    (hb : ∀ k acc, I k.val acc ⊢ wp frame (wpE (defs₀ (F := F)) 𝒱₀ (tile d i) none) Set.univ (body k acc) (I (k.val + 1)))
    (hk : ∀ acc, I l.trips acc ⊢ Q acc) :
    P ⊢ wp frame (wpE (defs₀ (F := F)) 𝒱₀ (tile d i) none) Set.univ (Scf.Loop.for l hok init body) Q := by
  iintro HP
  iapply (Scf.wp_for _ _ _ _ _ _ _ _ _ I hb)
  isplitl [HP]
  · iapply h0 $$ HP
  · iintro %acc HI
    iapply (hk acc) $$ HI

/-- A choice between two runs of the same program. -/
theorem by_either {i : grid0.Coords} {d : Dev nD} {α : Type} {c : Prop} [Decidable c] {A : ProgV F i α} {Q : α → sProp (MM F)} {P : sProp (MM F)}
    (h : P ⊢ wp frame (wpE (defs₀ (F := F)) 𝒱₀ (tile d i) none) Set.univ A Q) :
    P ⊢ wp frame (wpE (defs₀ (F := F)) 𝒱₀ (tile d i) none) Set.univ (if _h : c then A else A) Q := by
  by_cases hc : c
  · rw [dif_pos hc]; exact h
  · rw [dif_neg hc]; exact h

theorem first_word : ∀ i : grid0.Coords, Scalar.select (Scalar.andi 1#1 (Scalar.cmpi .sgt (Scalar.muli 1#32 (w5 i)) 0#32)) (Scalar.addi 0#32 1#32) 0#32
    = BitVec.ofNat 32 (min 1 (num i)) := forall_gp (by decide +kernel)

section
variable (i : grid0.Coords) (arg2 : Memref sig .scVector .hbm S1250x160x128 .f32) (harg2 : arg2.IsWhole) (arg3 : Memref sig .scVector .hbm S1250x160x128 .f32) (harg3 : arg3.IsWhole) (arg4 : Memref sig .scVector .hbm S1250x40x128 .f32) (harg4 : arg4.IsWhole) (arg5 : Memref sig .scVector .hbm S1250x10x128 .f32) (harg5 : arg5.IsWhole) (alloca_r0 : Memref sig .scVector .vmem S2x1x160x128 .f32) (halloca_r0 : alloca_r0.IsWhole) (v12_r0 : DmaSems sig S2) (alloca_4_r0 : Memref sig .scVector .vmem S2x1x160x128 .f32) (halloca_4_r0 : alloca_4_r0.IsWhole) (v13_r0 : DmaSems sig S2) (alloca_5_r0 : Memref sig .scVector .vmem S2x1x40x128 .f32) (halloca_5_r0 : alloca_5_r0.IsWhole) (v14_r0 : DmaSems sig S2) (alloca_6_r0 : Memref sig .scVector .vmem S2x1x10x128 .f32) (halloca_6_r0 : alloca_6_r0.IsWhole) (v15_r0 : DmaSems sig S2) (d : Dev nD)
  (O : CellTallies nD τ sig (HIx 1)) (W : Waits sig (HIx 1))
  (fx : arg2.view.ty.Contents (Elt F)) (T₀ f₀ : arg3.view.ty.Contents (Elt F)) (T₁ f₁ : arg4.view.ty.Contents (Elt F))
  (T₂ f₂ : arg5.view.ty.Contents (Elt F))

/-- What the tile starts from, and (the targets in the outputs' place) ends with. -/
def stock (g₀ : arg3.view.ty.Contents (Elt F)) (g₁ : arg4.view.ty.Contents (Elt F)) (g₂ : arg5.view.ty.Contents (Elt F)) : sProp (MM F) :=
  iprop((held i d arg2 fx (base i) (base i + num i) ∗ ring i d alloca_r0 v12_r0 sq160)
    ∗ (held i d arg3 g₀ (base i) (base i + num i) ∗ ring i d alloca_4_r0 v13_r0 sq160)
    ∗ (held i d arg4 g₁ (base i) (base i + num i) ∗ ring i d alloca_5_r0 v14_r0 sq40)
    ∗ (held i d arg5 g₂ (base i) (base i + num i) ∗ ring i d alloca_6_r0 v15_r0 sq10) ∗ owing i d O W)

theorem words_zero : words i 0 = (BitVec.ofNat 32 (min 1 (num i)), 0#32, 0#32, 0#32, 0#32, 0#32, 0#32, 0#32, 0#32) := by
  unfold words; rw [if_neg (num_pos i).ne]
theorem words_end : words i (num i) = (BitVec.ofNat 32 (min (num i + 1) (num i)), BitVec.ofNat 32 (num i), BitVec.ofNat 32 (num i), BitVec.ofNat 32 (num i - 1),
    BitVec.ofNat 32 (num i), BitVec.ofNat 32 (num i - 1), BitVec.ofNat 32 (num i), BitVec.ofNat 32 (num i - 1), 0#32) := by
  unfold words; rw [if_pos rfl]

set_option maxRecDepth 20000 in
set_option maxHeartbeats 1000000 in
theorem wp_tile (hT : Made arg2 arg3 arg4 arg5 fx T₀ T₁ T₂) :
    stock i arg2 arg3 arg4 arg5 alloca_r0 v12_r0 alloca_4_r0 v13_r0 alloca_5_r0 v14_r0 alloca_6_r0 v15_r0 d O W fx f₀ f₁ f₂
      ⊢ wp frame (wpE (defs₀ (F := F)) 𝒱₀ (tile d i) none) Set.univ (cc0_run (F := F) i arg2 harg2 arg3 harg3 arg4 harg4 arg5 harg5 alloca_r0 halloca_r0 v12_r0 alloca_4_r0 halloca_4_r0 v13_r0 alloca_5_r0 halloca_5_r0 v14_r0 alloca_6_r0 halloca_6_r0 v15_r0)
        fun _ => stock i arg2 arg3 arg4 arg5 alloca_r0 v12_r0 alloca_4_r0 v13_r0 alloca_5_r0 v14_r0 alloca_6_r0 v15_r0 d O W fx T₀ T₁ T₂ := by
  have hn := num_le i
  have hp := num_pos i
  have h1 : num i - 1 < 42 := by omega
  rw [cc0_run_eq_skeleton]
  unfold cc0_run_skel stock
  dsimp only
  rw [dif_pos (cond1_eq i)]
  rw [wp_bind, k0_part203_eq_skeleton]
  unfold k0_part203_skel
  rw [dif_pos (cond2_eq i)]
  simp only [Prog.bind_lift, Prog.bind_op, Prog.bind_ret, Prog.pure_eq_ret, ite_self]
  refine by_step (P' := between i arg2 arg3 arg4 arg5 alloca_r0 v12_r0 alloca_4_r0 v13_r0 alloca_5_r0 v14_r0 alloca_6_r0 v15_r0 d O W fx T₀ f₀ T₁ f₁ T₂ f₂ 0) ?_ ?_
  · unfold ring between
    iintro ⟨⟨Hx, Rx⟩, H0, H1, H2, Ho⟩ Hk
    iapply (wp_first (R := 160) i d arg2 alloca_r0 v12_r0 sq160 (off2_eq i) rfl rfl pos160) $$ [Hx Rx]
    · isplitl [Hx] <;> iassumption
    iintro Hx
    iapply Hk
    isplitl [Hx]; · iexact Hx
    isplitl [H0]; · iapply (laneOut_start i d arg3 alloca_4_r0 v13_r0 sq160) $$ H0
    isplitl [H1]; · iapply (laneOut_start i d arg4 alloca_5_r0 v14_r0 sq40) $$ H1
    isplitl [H2]; · iapply (laneOut_start i d arg5 alloca_6_r0 v15_r0 sq10) $$ H2
    iexact Ho
  refine by_pure ?_
  dsimp only
  rw [wp_bind, k0_part204_eq_skeleton]
  unfold k0_part204_skel
  rw [wp_bind]
  refine by_loop (fun k acc => iprop(⌜acc = words i k⌝ ∗ between i arg2 arg3 arg4 arg5 alloca_r0 v12_r0 alloca_4_r0 v13_r0 alloca_5_r0 v14_r0 alloca_6_r0 v15_r0 d O W fx T₀ f₀ T₁ f₁ T₂ f₂ k)) ?_ ?_ ?_
  · iintro H
    isplitr [H]
    rotate_left
    · iexact H
    ipureintro
    rw [words_zero]
    exact congrArg (fun w => (w, _)) (first_word i)
  · intro k acc
    iintro ⟨%e, H⟩
    subst e
    iapply (wp_trip i arg2 harg2 arg3 harg3 arg4 harg4 arg5 harg5 alloca_r0 halloca_r0 v12_r0 alloca_4_r0 halloca_4_r0 v13_r0 alloca_5_r0 halloca_5_r0 v14_r0 alloca_6_r0 halloca_6_r0 v15_r0 (cond1_eq i) d O W fx T₀ f₀ T₁ f₁ T₂ f₂ hT _ _ _ _ _ _ _ _ _ _ _ k) $$ H
  intro acc
  rw [trips₁]
  iintro ⟨%e, H⟩
  rw [e, words_end]
  dsimp only
  iapply (show between i arg2 arg3 arg4 arg5 alloca_r0 v12_r0 alloca_4_r0 v13_r0 alloca_5_r0 v14_r0 alloca_6_r0 v15_r0 d O W fx T₀ f₀ T₁ f₁ T₂ f₂ (num i) ⊢ _ from ?_) $$ H
  rw [wp_bind]
  refine by_loop (fun _ acc => iprop(⌜acc = words i (num i)⌝ ∗ between i arg2 arg3 arg4 arg5 alloca_r0 v12_r0 alloca_4_r0 v13_r0 alloca_5_r0 v14_r0 alloca_6_r0 v15_r0 d O W fx T₀ f₀ T₁ f₁ T₂ f₂ (num i))) ?_ ?_ ?_
  · iintro H
    isplitr [H]
    rotate_left
    · iexact H
    ipureintro
    rw [words_end]
  · intro k
    exact absurd (lt_of_lt_of_eq k.isLt (trips₃ i)) (Nat.not_lt_zero _)
  intro acc
  iintro ⟨%e, H⟩
  rw [e, words_end]
  dsimp only
  iapply (show between i arg2 arg3 arg4 arg5 alloca_r0 v12_r0 alloca_4_r0 v13_r0 alloca_5_r0 v14_r0 alloca_6_r0 v15_r0 d O W fx T₀ f₀ T₁ f₁ T₂ f₂ (num i) ⊢ _ from ?_) $$ H
  simp only [Prog.bind_lift]
  rw [wp_assume_of _ _ _ _ (chk14_of i h1), wp_assume_of _ _ _ _ (chk13_of i h1), wp_assume_of _ _ _ _ (chk12_of i), wp_assume_of _ _ _ _ (chk11_of i h1)]
  refine by_pure ?_
  dsimp only
  rw [dif_pos (cond30_eq i), dif_pos (cond31_eq i), dif_pos (cond32_eq i)]
  refine by_either ?_
  refine by_step (P' := iprop((held i d arg2 fx (base i) (base i + num i) ∗ ring i d alloca_r0 v12_r0 sq160) ∗ (held i d arg3 T₀ (base i) (base i + num i) ∗ ring i d alloca_4_r0 v13_r0 sq160) ∗ laneOut i d arg4 alloca_5_r0 v14_r0 sq40 T₁ f₁ (num i) ∗ laneOut i d arg5 alloca_6_r0 v15_r0 sq10 T₂ f₂ (num i) ∗ owing i d O W)) ?_ ?_
  · unfold between
    iintro ⟨Hx, H0, H1, H2, Ho⟩ Hk
    iapply (wp_last (R := 160) i d arg3 alloca_4_r0 v13_r0 sq160 (off117_eq i) (cell_off h1)) $$ [H0 Ho]
    · isplitl [H0] <;> iassumption
    iintro ⟨⟨H0, R0⟩, Ho⟩
    iapply Hk
    ihave Hx := (laneIn_end i d arg2 alloca_r0 v12_r0 sq160) $$ Hx
    icases Hx with ⟨Hx, Rx⟩
    isplitl [Hx Rx]
    · isplitl [Hx]; · iexact Hx
      iapply (ring_of i d alloca_r0 v12_r0 sq160 (num i)) $$ Rx
    isplitl [H0 R0]
    · isplitl [H0]; · iexact H0
      iapply (ring_of i d alloca_4_r0 v13_r0 sq160 (num i)) $$ R0
    isplitl [H1]; · iexact H1
    isplitl [H2]; · iexact H2
    iexact Ho
  refine by_step (P' := iprop((held i d arg2 fx (base i) (base i + num i) ∗ ring i d alloca_r0 v12_r0 sq160) ∗ (held i d arg3 T₀ (base i) (base i + num i) ∗ ring i d alloca_4_r0 v13_r0 sq160) ∗ (held i d arg4 T₁ (base i) (base i + num i) ∗ ring i d alloca_5_r0 v14_r0 sq40) ∗ laneOut i d arg5 alloca_6_r0 v15_r0 sq10 T₂ f₂ (num i) ∗ owing i d O W)) ?_ ?_
  · iintro ⟨Hx, H0, H1, H2, Ho⟩ Hk
    iapply (wp_last (R := 40) i d arg4 alloca_5_r0 v14_r0 sq40 (off117_eq i) (cell_off h1)) $$ [H1 Ho]
    · isplitl [H1] <;> iassumption
    iintro ⟨⟨H1, R1⟩, Ho⟩
    iapply Hk
    isplitl [Hx]; · iexact Hx
    isplitl [H0]; · iexact H0
    isplitl [H1 R1]
    · isplitl [H1]; · iexact H1
      iapply (ring_of i d alloca_5_r0 v14_r0 sq40 (num i)) $$ R1
    isplitl [H2]; · iexact H2
    iexact Ho
  refine by_step (P' := iprop((held i d arg2 fx (base i) (base i + num i) ∗ ring i d alloca_r0 v12_r0 sq160) ∗ (held i d arg3 T₀ (base i) (base i + num i) ∗ ring i d alloca_4_r0 v13_r0 sq160) ∗ (held i d arg4 T₁ (base i) (base i + num i) ∗ ring i d alloca_5_r0 v14_r0 sq40) ∗ (held i d arg5 T₂ (base i) (base i + num i) ∗ ring i d alloca_6_r0 v15_r0 sq10) ∗ owing i d O W)) ?_ ?_
  · iintro ⟨Hx, H0, H1, H2, Ho⟩ Hk
    iapply (wp_last (R := 10) i d arg5 alloca_6_r0 v15_r0 sq10 (off117_eq i) (cell_off h1)) $$ [H2 Ho]
    · isplitl [H2] <;> iassumption
    iintro ⟨⟨H2, R2⟩, Ho⟩
    iapply Hk
    isplitl [Hx]; · iexact Hx
    isplitl [H0]; · iexact H0
    isplitl [H1]; · iexact H1
    isplitl [H2 R2]
    · isplitl [H2]; · iexact H2
      iapply (ring_of i d alloca_6_r0 v15_r0 sq10 (num i)) $$ R2
    iexact Ho
  exact by_pure Entails.rfl

end

end Cert.Proof.Pyramid

end
-- ==== Proof.Spread.lean ====
/-
  How the arrays' rows fall to the thirty-two tiles, and how a ring held whole is its two slots.
-/
module

public import proofs.«01_k».proof.Proof.Tile

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Rows -/

/-- The first row and the count of rows of the tile numbered `w`. -/
def fstRow (w : ℕ) : ℕ := if w < 2 then 40 * w else 39 * w + 2
def cntRow (w : ℕ) : ℕ := if w < 2 then 40 else 39

theorem rows_apart {w w' : ℕ} (h : w < w') : fstRow w + cntRow w ≤ fstRow w' := by
  unfold fstRow cntRow; split_ifs <;> omega

theorem rows_reach {r : ℕ} (hr : r < 1250) : ∃ w < 32, fstRow w ≤ r ∧ r < fstRow w + cntRow w := by
  by_cases h : r < 80
  · refine ⟨r / 40, by omega, ?_⟩
    unfold fstRow cntRow
    rw [if_pos (by omega), if_pos (by omega)]; omega
  · refine ⟨(r - 2) / 39, by omega, ?_⟩
    unfold fstRow cntRow
    rw [if_neg (by omega), if_neg (by omega)]; omega

/-- The tile that has a row. -/
theorem tile_of_row {r : ℕ} (hr : r < 1250) : ∃ (c : Fin 2) (s : Fin 16), base (gp c s) ≤ r ∧ r < base (gp c s) + num (gp c s) := by
  obtain ⟨w, hw, h⟩ := rows_reach hr
  refine ⟨⟨w / 16, by omega⟩, ⟨w % 16, by omega⟩, ?_⟩
  have e : wid (gp ⟨w / 16, by omega⟩ ⟨w % 16, by omega⟩) = w := by
    show w % 16 + 16 * (w / 16) = w
    omega
  unfold base num
  rw [e]
  exact h

/-- No two tiles share a row. -/
theorem tile_unique {r : ℕ} {c c' : Fin 2} {s s' : Fin 16} (h : base (gp c s) ≤ r ∧ r < base (gp c s) + num (gp c s))
    (h' : base (gp c' s') ≤ r ∧ r < base (gp c' s') + num (gp c' s')) : c = c' ∧ s = s' := by
  have h0 := c.isLt
  have h1 := s.isLt
  have h0' := c'.isLt
  have h1' := s'.isLt
  have e : s.val + 16 * c.val = s'.val + 16 * c'.val := by
    change fstRow (s.val + 16 * c.val) ≤ r ∧ r < fstRow (s.val + 16 * c.val) + cntRow (s.val + 16 * c.val) at h
    change fstRow (s'.val + 16 * c'.val) ≤ r ∧ r < fstRow (s'.val + 16 * c'.val) + cntRow (s'.val + 16 * c'.val) at h'
    rcases Nat.lt_trichotomy (s.val + 16 * c.val) (s'.val + 16 * c'.val) with l | l | l
    · have := rows_apart l; omega
    · exact l
    · have := rows_apart l; omega
  exact ⟨Fin.ext (by omega), Fin.ext (by omega)⟩

section
variable {R : ℕ} (a : Memref sig .scVector .hbm (ArrS R) .f32)

/-- A tile's rows of an array. -/
abbrev lot (p : Fin 2 × Fin 16) : Finset a.view.ty.Idx := rows a (base (gp p.1 p.2)) (base (gp p.1 p.2) + num (gp p.1 p.2))

theorem lot_disjoint : ∀ p ∈ (Finset.univ : Finset (Fin 2 × Fin 16)), ∀ p' ∈ (Finset.univ : Finset (Fin 2 × Fin 16)), p ≠ p' → Disjoint (lot a p) (lot a p') := by
  intro p _ p' _ hne
  rw [Finset.disjoint_left]
  intro z h1 h2
  obtain ⟨y, rfl⟩ := rows_of_mem a h1
  rw [mem_rows] at h1 h2
  obtain ⟨e, e'⟩ := tile_unique h1 h2
  exact hne (Prod.ext e e')

theorem lot_cover (hw : a.view.set = Finset.univ) : (Finset.univ : Finset (Fin 2 × Fin 16)).biUnion (lot a) = Finset.univ := by
  rw [Finset.eq_univ_iff_forall]
  intro z
  have hz : z ∈ a.view.set := hw ▸ Finset.mem_univ z
  obtain ⟨y, _, rfl⟩ := Finset.mem_map.mp hz
  obtain ⟨c, s, h⟩ := tile_of_row (y 0).isLt
  exact Finset.mem_biUnion.mpr ⟨(c, s), Finset.mem_univ _, (mem_rows a _ _ y).mpr h⟩
end

/-- An array held whole is held lot by lot, once lots part it. -/
theorem by_lots (ℓ : Loc nD τ sig) (J : Fin 2 × Fin 16 → Finset (Idx ℓ))
    (hd : ∀ p ∈ (Finset.univ : Finset (Fin 2 × Fin 16)), ∀ p' ∈ (Finset.univ : Finset (Fin 2 × Fin 16)), p ≠ p' → Disjoint (J p) (J p'))
    (hc : (Finset.univ : Finset (Fin 2 × Fin 16)).biUnion J = Finset.univ) (f : Buf (Elt F) ℓ) :
    (ℓ ↦{fullShare} f : sProp (MM F)) = bigSep Finset.univ fun c : Fin 2 => bigSep Finset.univ fun s : Fin 16 => (ℓ ↦[J (c, s)]{fullShare} f : sProp (MM F)) := by
  rw [← hc, pointsTo_biUnion Finset.univ (ℓ := ℓ) J hd, bigSep_univ_prod]

/-! ## Rings -/

section
variable {R : ℕ} (i : grid0.Coords) (d : Dev nD)
variable (m : Memref sig .scVector .vmem (RingS R) .f32) (sm : DmaSems sig S2) (sq : (SlotS R).Squeezes (ChS R))

/-- The elements of a ring's slot. -/
abbrev half (b : ℕ) (hb : b < 2) : Finset m.view.ty.Idx := (slotM m sq b hb).view.set

theorem half_eq (b : ℕ) (hb : b < 2) : half m sq b hb = m.view.setOn (Rect.unit (s := RingS R) ![b, 0, 0, 0] (SlotS R).size (inbS R hb)).set := by
  show ((m.view.slice _).reshape _ _).set = _
  rw [View.set_reshape, View.set_slice]
  rfl

theorem mem_half (b : ℕ) (hb : b < 2) (y : (RingS R).Idx) : Iff (m.view.emb y ∈ half m sq b hb) ((y 0).val = b) := by
  rw [half_eq, View.mem_setOn, Rect.mem_set_unit]
  constructor
  · intro h
    have h0 : b ≤ (y 0).val ∧ (y 0).val < b + 1 := h 0
    omega
  · intro h x
    have hy := (y x).isLt
    fin_cases x
    · show b ≤ (y 0).val ∧ (y 0).val < b + 1
      omega
    · exact ⟨Nat.zero_le _, lt_of_lt_of_eq hy (Nat.zero_add _).symm⟩
    · exact ⟨Nat.zero_le _, lt_of_lt_of_eq hy (Nat.zero_add _).symm⟩
    · exact ⟨Nat.zero_le _, lt_of_lt_of_eq hy (Nat.zero_add _).symm⟩

theorem halves_disjoint (hw : m.view.set = Finset.univ) :
    Disjoint (half m sq 0 (by decide)) (half m sq 1 (by decide)) := by
  rw [Finset.disjoint_left]
  intro z h1 h2
  have hz : z ∈ m.view.set := hw ▸ Finset.mem_univ z
  obtain ⟨y, _, rfl⟩ := Finset.mem_map.mp hz
  rw [mem_half] at h1 h2
  omega

theorem halves_cover (hw : m.view.set = Finset.univ) :
    (half m sq 0 (by decide)) ∪ (half m sq 1 (by decide)) = Finset.univ := by
  rw [Finset.eq_univ_iff_forall]
  intro z
  have hz : z ∈ m.view.set := hw ▸ Finset.mem_univ z
  obtain ⟨y, _, rfl⟩ := Finset.mem_map.mp hz
  have h : (y 0).val < 2 := (y 0).isLt
  rw [Finset.mem_union, mem_half, mem_half]
  omega

theorem ring_take (hw : m.view.set = Finset.univ) :
    (iprop((∃ f, m.view.loc (tile d i) ↦{fullShare} f) ∗ semVal (tile d i, cell sm 0 (by decide)) 0 ∗ semVal (tile d i, cell sm 1 (by decide)) 0) : sProp (MM F))
      ⊢ ring i d m sm sq := by
  unfold ring rest slot
  iintro ⟨⟨%f, Hf⟩, H0, H1⟩
  rw [← halves_cover m sq hw]
  ihave Hf := (pointsTo_union (halves_disjoint m sq hw)).1 $$ Hf
  icases Hf with ⟨F0, F1⟩
  isplitl [F0 H0]
  · isplitl [F0]
    · iexists f
      isplitr [F0]
      · ipureintro; trivial
      · iexact F0
    · iexact H0
  · isplitl [F1]
    · iexists f
      isplitr [F1]
      · ipureintro; trivial
      · iexact F1
    · iexact H1

theorem ring_give (hw : m.view.set = Finset.univ) :
    ring i d m sm sq ⊢ (iprop((∃ f, m.view.loc (tile d i) ↦{fullShare} f) ∗ semVal (tile d i, cell sm 0 (by decide)) 0 ∗ semVal (tile d i, cell sm 1 (by decide)) 0) : sProp (MM F)) := by
  unfold ring rest slot
  iintro ⟨⟨⟨%f, -, F0⟩, H0⟩, ⟨%g, -, F1⟩, H1⟩
  isplitl [F0 F1]
  · rw [← halves_cover m sq hw]
    iexists _
    iapply (pointsTo_join (f := f) (g := g) (halves_disjoint m sq hw))
    isplitl [F0]
    · iexact F0
    · iexact F1
  isplitl [H0] <;> iassumption
end

end Cert.Proof.Pyramid

end
-- ==== Proof.Target.lean ====
/-
  What the launch is to leave in the three outputs: every row of 128 lanes, chunk by chunk, as the passes over a chunk
  make it.
-/
module

public import proofs.«01_k».proof.Proof.Spread
public import Idealize.ShloMosaic.Lib.ValueLayout

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- The arrays and the rings as the tile's body takes them. -/
abbrev xA : Memref sig .scVector .hbm S1250x160x128 .f32 := Memref.whole main_v0_scv
abbrev oA : Memref sig .scVector .hbm S1250x160x128 .f32 := Memref.whole main_v1_0_scv
abbrev oB : Memref sig .scVector .hbm S1250x40x128 .f32 := Memref.whole main_v1_1_scv
abbrev oC : Memref sig .scVector .hbm S1250x10x128 .f32 := Memref.whole main_v1_2_scv
abbrev xR : Memref sig .scVector .vmem S2x1x160x128 .f32 := Memref.whole cc0_scoped0
abbrev aR : Memref sig .scVector .vmem S2x1x160x128 .f32 := Memref.whole cc0_scoped2
abbrev bR : Memref sig .scVector .vmem S2x1x40x128 .f32 := Memref.whole cc0_scoped4
abbrev cR : Memref sig .scVector .vmem S2x1x10x128 .f32 := Memref.whole cc0_scoped6

/-- Chunk `c` of an array as a table. -/
def slab {R : ℕ} (f : (ArrS R).Idx → F .f32) (c : Fin 1250) (y : (TabS R).Idx) : F .f32 := f (ix3 c (y 0) (y 1))

/-- The outputs of the array `f`. -/
def level₀ (f : S1250x160x128.Idx → F .f32) (z : S1250x160x128.Idx) : F .f32 := G₀ (slab (R := 160) f (z 0)) (ix2 (z 1) (z 2))
def level₁ (f : S1250x160x128.Idx → F .f32) (z : S1250x40x128.Idx) : F .f32 := G₁ (slab (R := 160) f (z 0)) (ix2 (z 1) (z 2))
def level₂ (f : S1250x160x128.Idx → F .f32) (z : S1250x10x128.Idx) : F .f32 := G₂ (slab (R := 160) f (z 0)) (ix2 (z 1) (z 2))

/-- A chunk's table, entry by entry. -/
theorem table_at {R : ℕ} (a : Memref sig .scVector .hbm (ArrS R) .f32) (sqw : (ChS R).Squeezes (TabS R)) (f : a.view.ty.Contents (Elt F))
    (c : ℕ) (hc : c < 1250) (y : (TabS R).Idx) : table a sqw f c hc y = a.view.read (Elt F) f (ix3 ⟨c, hc⟩ (y 0) (y 1)) := by
  unfold table
  rw [seat_eq]
  show a.view.read (Elt F) f ((Rect.unit (s := ArrS R) ![c, 0, 0] (ChS R).size (inbC R hc)).emb (Shape.reshapeEquiv sqw.numel_eq y)) = _
  congr 1
  obtain ⟨p, q, rfl⟩ : ∃ p q, y = ix2 p q := ⟨y 0, y 1, eq_ix2 y⟩
  rw [reshapeEquiv_ix2_1ab]
  funext x
  apply Fin.ext
  rw [Rect.emb_apply]
  match x with
  | 0 => show c + 1 * 0 = c; omega
  | 1 => show 0 + 1 * p.val = p.val; omega
  | 2 => show 0 + 1 * q.val = q.val; omega

theorem made (fx : S1250x160x128.Idx → F .f32) : Made xA oA oB oC (fx : xA.view.ty.Contents (Elt F)) (level₀ fx) (level₁ fx) (level₂ fx) := by
  intro c hc
  have e : table xA sqw160 (fx : xA.view.ty.Contents (Elt F)) c hc = slab (R := 160) fx ⟨c, hc⟩ := by
    funext y
    exact table_at xA sqw160 (fx : xA.view.ty.Contents (Elt F)) c hc y
  rw [e]
  refine ⟨funext fun y => ?_, funext fun y => ?_, funext fun y => ?_⟩
  · refine (table_at oA sqw160 _ c hc y).trans ?_
    exact congrArg (G₀ (slab (R := 160) fx ⟨c, hc⟩)) (eq_ix2 y).symm
  · refine (table_at oB sqw40 _ c hc y).trans ?_
    exact congrArg (G₁ (slab (R := 160) fx ⟨c, hc⟩)) (eq_ix2 y).symm
  · refine (table_at oC sqw10 _ c hc y).trans ?_
    exact congrArg (G₂ (slab (R := 160) fx ⟨c, hc⟩)) (eq_ix2 y).symm

end Cert.Proof.Pyramid

end
-- ==== Proof.Task.lean ====
/-
  A tile's task as the launch hands it out: its rows of the four arrays, its own memory and its own counters at zero.
-/
module

public import proofs.«01_k».proof.Proof.Target

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.SparseCore.Cfg (ownBufs ownSems0 ownCells ownRefs mem_ownCells mem_ownRefs_of_owner)

section
variable (i : grid0.Coords) (d : Dev nD)

/-- A tile's rows of the four arrays. -/
def portion (fx : S1250x160x128.Idx → F .f32) (g₀ : S1250x160x128.Idx → F .f32) (g₁ : S1250x40x128.Idx → F .f32) (g₂ : S1250x10x128.Idx → F .f32) : sProp (MM F) :=
  iprop(held (R := 160) i d xA fx (base i) (base i + num i) ∗ held (R := 160) i d oA g₀ (base i) (base i + num i)
    ∗ held (R := 40) i d oB g₁ (base i) (base i + num i) ∗ held (R := 10) i d oC g₂ (base i) (base i + num i))

/-- The tile's eight counters. -/
abbrev marks : Finset (SemLoc sig) :=
  {cell cc0_scoped1 0 (by decide), cell cc0_scoped1 1 (by decide), cell cc0_scoped3 0 (by decide), cell cc0_scoped3 1 (by decide),
    cell cc0_scoped5 0 (by decide), cell cc0_scoped5 1 (by decide), cell cc0_scoped7 0 (by decide), cell cc0_scoped7 1 (by decide)}
abbrev at_ (thr : Thread nD τ) : SemLoc sig ↪ GSem nD τ sig := ⟨fun s => (thr, s), fun _ _ e => (Prod.mk.inj e).2⟩

theorem marks_scoped : ∀ s ∈ marks, s.isScoped .scVector = true := by decide

theorem marks_sub : marks.map (at_ (tile d i)) ⊆ ownCells (tile d i) := by
  intro g hg
  obtain ⟨s, hs, rfl⟩ := Finset.mem_map.mp hg
  exact mem_ownCells.mpr ⟨rfl, marks_scoped s hs⟩

/-- The tile's counters, the eight ones and any others. -/
theorem counters_eq : (ownSems0 (tile d i) : sProp (MM F)) = iprop((semVal (tile d i, cell cc0_scoped1 0 (by decide)) 0
    ∗ semVal (tile d i, cell cc0_scoped1 1 (by decide)) 0 ∗ semVal (tile d i, cell cc0_scoped3 0 (by decide)) 0 ∗ semVal (tile d i, cell cc0_scoped3 1 (by decide)) 0
    ∗ semVal (tile d i, cell cc0_scoped5 0 (by decide)) 0 ∗ semVal (tile d i, cell cc0_scoped5 1 (by decide)) 0 ∗ semVal (tile d i, cell cc0_scoped7 0 (by decide)) 0
    ∗ semVal (tile d i, cell cc0_scoped7 1 (by decide)) 0) ∗ bigSep (ownCells (tile d i) \ marks.map (at_ (tile d i))) fun g => semVal g 0) := by
  unfold SparseCore.Cfg.ownSems0
  rw [SparseCore.bigSep_sdiff_split' (marks_sub i d), bigSep_map]
  unfold marks
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The tile's four rings. -/
abbrev pools : Finset (Ref sig .scVector) := {cc0_scoped0, cc0_scoped2, cc0_scoped4, cc0_scoped6}
abbrev on_ (p : Proc τ) : Ref sig p.kind ↪ DevRef τ sig := ⟨p.devRef, Proc.devRef_injective p⟩

theorem pools_sub : pools.map (on_ (.scVector (cV i) (jV i))) ⊆ ownRefs (.scVector (cV i) (jV i)) := by
  intro b hb
  obtain ⟨r, hr, rfl⟩ := Finset.mem_map.mp hb
  simp only [pools, Finset.mem_insert, Finset.mem_singleton] at hr
  rcases hr with rfl | rfl | rfl | rfl <;> exact mem_ownRefs_of_owner rfl

theorem pools₁ : (cc0_scoped0 : Ref sig .scVector) ∉ ({cc0_scoped2, cc0_scoped4, cc0_scoped6} : Finset (Ref sig .scVector)) := by decide
theorem pools₂ : (cc0_scoped2 : Ref sig .scVector) ∉ ({cc0_scoped4, cc0_scoped6} : Finset (Ref sig .scVector)) := by decide
theorem pools₃ : (cc0_scoped4 : Ref sig .scVector) ∉ ({cc0_scoped6} : Finset (Ref sig .scVector)) := by decide

theorem buffers_eq : (ownBufs (tile d i) : sProp (MM F)) = iprop(((∃ f, (tile d i).loc cc0_scoped0 ↦{fullShare} f)
    ∗ (∃ f, (tile d i).loc cc0_scoped2 ↦{fullShare} f) ∗ (∃ f, (tile d i).loc cc0_scoped4 ↦{fullShare} f) ∗ ∃ f, (tile d i).loc cc0_scoped6 ↦{fullShare} f)
    ∗ bigSep (ownRefs (.scVector (cV i) (jV i)) \ pools.map (on_ (.scVector (cV i) (jV i)))) fun b => iprop(∃ f, ((d, b) : Loc nD τ sig) ↦{fullShare} f)) := by
  unfold SparseCore.Cfg.ownBufs
  refine (SparseCore.bigSep_sdiff_split' (pools_sub i)).trans ?_
  rw [bigSep_map]
  unfold pools
  refine congrArg (fun A : sProp (MM F) => iprop(A ∗ bigSep (ownRefs (.scVector (cV i) (jV i)) \ pools.map (on_ (.scVector (cV i) (jV i)))) fun b => iprop(∃ f, ((d, b) : Loc nD τ sig) ↦{fullShare} f))) ?_
  refine (SparseCore.bigSep_insert' pools₁).trans ?_
  rw [SparseCore.bigSep_insert' pools₂, SparseCore.bigSep_insert' pools₃, bigSep_singleton]
  rfl

set_option maxHeartbeats 2000000 in
theorem tile_body (O : CellTallies nD τ sig (HIx 1)) (W : Waits sig (HIx 1)) (hO : ∀ g, O g none = 0)
    (fx : S1250x160x128.Idx → F .f32) (g₀ : S1250x160x128.Idx → F .f32) (g₁ : S1250x40x128.Idx → F .f32) (g₂ : S1250x10x128.Idx → F .f32) :
    iprop(levAts (K (F := F)).L (K (F := F)).lev ∗ emp ∗ portion i d fx g₀ g₁ g₂
        ∗ scopedBufs (tile d i) ∗ scopedSems0 (tile d i) ∗ owes (tile d i) O W)
      ⊢ wp frame (wpE (defs₀ (F := F)) 𝒱₀ (tile d i) none) Set.univ
          (cc0_run i xA (Memref.isWhole_whole _) oA (Memref.isWhole_whole _) oB (Memref.isWhole_whole _) oC (Memref.isWhole_whole _)
            xR (Memref.isWhole_whole _) cc0_scoped1 aR (Memref.isWhole_whole _) cc0_scoped3 bR (Memref.isWhole_whole _) cc0_scoped5 cR (Memref.isWhole_whole _) cc0_scoped7)
          fun _ => iprop(portion i d fx (level₀ fx) (level₁ fx) (level₂ fx) ∗ scopedBufs (tile d i) ∗ scopedSems0 (tile d i)
            ∗ ∃ W', ⌜∀ p ∈ W', p ∈ W ∨ p.2 = none⌝ ∗ owes (tile d i) O W') := by
  rw [(K (F := F)).scopedBufs_V facts d (cV i) (jV i), SparseCore.Cfg.scopedSems0_V (Val := Elt F) d (cV i) (jV i), counters_eq, buffers_eq]
  have hrun := wp_tile (F := F) i xA (Memref.isWhole_whole _) oA (Memref.isWhole_whole _) oB (Memref.isWhole_whole _) oC (Memref.isWhole_whole _)
            xR (Memref.isWhole_whole _) cc0_scoped1 aR (Memref.isWhole_whole _) cc0_scoped3 bR (Memref.isWhole_whole _) cc0_scoped5 cR (Memref.isWhole_whole _) cc0_scoped7
            d O W fx (level₀ fx) g₀ (level₁ fx) g₁ (level₂ fx) g₂ (made fx)
  unfold portion
  iintro ⟨#Hlv, -, ⟨Hx, H0, H1, H2⟩, ⟨⟨Bx, B0, B1, B2⟩, Hbufs⟩, ⟨⟨Sx, Sx', S0, S0', S1, S1', S2, S2'⟩, Hsems⟩, HO⟩
  ihave Hmw := ((K (F := F)).mayWaits_none (thr := tile d i) hO) $$ Hlv
  iapply (wp_wand_r frame (wpE (defs₀ (F := F)) 𝒱₀ (tile d i) none))
  isplitr [Hbufs Hsems]
  · iapply hrun
    unfold stock owing owed
    isplitl [Hx Bx Sx Sx']
    · isplitl [Hx]; · iexact Hx
      iapply (ring_take i d xR cc0_scoped1 sq160 (View.set_whole _))
      isplitl [Bx]; · iexact Bx
      isplitl [Sx] <;> iassumption
    isplitl [H0 B0 S0 S0']
    · isplitl [H0]; · iexact H0
      iapply (ring_take i d aR cc0_scoped3 sq160 (View.set_whole _))
      isplitl [B0]; · iexact B0
      isplitl [S0] <;> iassumption
    isplitl [H1 B1 S1 S1']
    · isplitl [H1]; · iexact H1
      iapply (ring_take i d bR cc0_scoped5 sq40 (View.set_whole _))
      isplitl [B1]; · iexact B1
      isplitl [S1] <;> iassumption
    isplitl [H2 B2 S2 S2']
    · isplitl [H2]; · iexact H2
      iapply (ring_take i d cR cc0_scoped7 sq10 (View.set_whole _))
      isplitl [B2]; · iexact B2
      isplitl [S2] <;> iassumption
    isplitl [HO]
    · iexists W
      isplitr
      · ipureintro; exact fun p hp => .inl hp
      · iexact HO
    · iexact Hmw
  iintro %_ H
  unfold stock owing owed
  icases H with ⟨⟨Hx, Rx⟩, ⟨H0, R0⟩, ⟨H1, R1⟩, ⟨H2, R2⟩, HO, -⟩
  ihave Rx := (ring_give i d xR cc0_scoped1 sq160 (View.set_whole _)) $$ Rx
  icases Rx with ⟨Bx, Sx, Sx'⟩
  ihave R0 := (ring_give i d aR cc0_scoped3 sq160 (View.set_whole _)) $$ R0
  icases R0 with ⟨B0, S0, S0'⟩
  ihave R1 := (ring_give i d bR cc0_scoped5 sq40 (View.set_whole _)) $$ R1
  icases R1 with ⟨B1, S1, S1'⟩
  ihave R2 := (ring_give i d cR cc0_scoped7 sq10 (View.set_whole _)) $$ R2
  icases R2 with ⟨B2, S2, S2'⟩
  isplitl [Hx H0 H1 H2]
  · isplitl [Hx]; · iexact Hx
    isplitl [H0]; · iexact H0
    isplitl [H1]; · iexact H1
    iexact H2
  isplitl [Bx B0 B1 B2 Hbufs]
  · isplitl [Bx B0 B1 B2]
    · isplitl [Bx]; · iexact Bx
      isplitl [B0]; · iexact B0
      isplitl [B1]; · iexact B1
      iexact B2
    · iexact Hbufs
  isplitl [Sx Sx' S0 S0' S1 S1' S2 S2' Hsems]
  · isplitl [Sx Sx' S0 S0' S1 S1' S2 S2']
    · isplitl [Sx]; · iexact Sx
      isplitl [Sx']; · iexact Sx'
      isplitl [S0]; · iexact S0
      isplitl [S0']; · iexact S0'
      isplitl [S1]; · iexact S1
      isplitl [S1']; · iexact S1'
      isplitl [S2]; · iexact S2
      iexact S2'
    · iexact Hsems
  iexact HO
end

end Cert.Proof.Pyramid

end
-- ==== Proof.Launch.lean ====
/-
  The launch: the host lays the input out in chunks, the call spreads the four arrays over the thirty-two tiles and takes
  them back, the host lays the three outputs out. At the end every array is known.
-/
module

public import proofs.«01_k».proof.Proof.Task

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo (held_sub_split held_congr wp_hlo_within)

abbrev EH : Emb UH (MM F) := embL

/-! ## The arrays at each stage -/

abbrev x' : DevRef τ sig := Proc.devRef .tc (main_arg0 : Ref sig .tc)
abbrev p' : DevRef τ sig := Proc.devRef .tc (main_arg1 : Ref sig .tc)
abbrev q' : DevRef τ sig := Proc.devRef .tc (main_arg2 : Ref sig .tc)
abbrev r' : DevRef τ sig := Proc.devRef .tc (main_arg3 : Ref sig .tc)
abbrev xc' : DevRef τ sig := Proc.devRef .tc (main_v0 : Ref sig .tc)
abbrev a' : DevRef τ sig := Proc.devRef .tc (main_v1_0 : Ref sig .tc)
abbrev b' : DevRef τ sig := Proc.devRef .tc (main_v1_1 : Ref sig .tc)
abbrev c' : DevRef τ sig := Proc.devRef .tc (main_v1_2 : Ref sig .tc)
abbrev ya' : DevRef τ sig := Proc.devRef .tc (main_v2 : Ref sig .tc)
abbrev yb' : DevRef τ sig := Proc.devRef .tc (main_v3 : Ref sig .tc)
abbrev yc' : DevRef τ sig := Proc.devRef .tc (main_v4 : Ref sig .tc)

abbrev opX : HloOp τ sig (Elt F) := StableHlo.reshape main_arg0 main_v0 rfl shapeCasts_S2x100000x128_S1250x160x128
abbrev opA : HloOp τ sig (Elt F) := StableHlo.reshape main_v1_0 main_v2 rfl shapeCasts_S1250x160x128_S2x100000x128
abbrev opB : HloOp τ sig (Elt F) := StableHlo.reshape main_v1_1 main_v3 rfl shapeCasts_S1250x40x128_S2x25000x128
abbrev opC : HloOp τ sig (Elt F) := StableHlo.reshape main_v1_2 main_v4 rfl shapeCasts_S1250x10x128_S2x6250x128

/-- The host's arrays, and the four that the call works on. -/
abbrev arrays : Finset (DevRef τ sig) := {x', p', q', r', xc', a', b', c', ya', yb', yc'}
abbrev four : Finset (DevRef τ sig) := {xc', a', b', c'}

variable (m : (ℓ : Loc nD τ sig) → Buf (Elt F) ℓ) (ρ : Dev nD → PrngReg)

def V0 (d : Dev nD) : Valuation τ sig (Elt F) := fun b => m (d, b)
def V1 (d : Dev nD) : Valuation τ sig (Elt F) := (opX (F := F)).result (V0 m d)

/-- The input in chunks. -/
def chunks (d : Dev nD) : S1250x160x128.Idx → F .f32 := V1 m d xc'

def V2 (d : Dev nD) : Valuation τ sig (Elt F) :=
  Function.update (Function.update (Function.update (V1 m d) a' (level₀ (chunks m d) : (a' : DevRef τ sig).ty.Contents (Elt F))) b' (level₁ (chunks m d) : (b' : DevRef τ sig).ty.Contents (Elt F)))
    c' (level₂ (chunks m d) : (c' : DevRef τ sig).ty.Contents (Elt F))
def V3 (d : Dev nD) : Valuation τ sig (Elt F) := (opA (F := F)).result (V2 m d)
def V4 (d : Dev nD) : Valuation τ sig (Elt F) := (opB (F := F)).result (V3 m d)
def V5 (d : Dev nD) : Valuation τ sig (Elt F) := (opC (F := F)).result (V4 m d)

theorem V2_xc (d : Dev nD) : V2 m d xc' = V1 m d xc' :=
  (Function.update_of_ne (show xc' ≠ c' by decide) _ _).trans ((Function.update_of_ne (show xc' ≠ b' by decide) _ _).trans (Function.update_of_ne (show xc' ≠ a' by decide) _ _))
theorem V2_a (d : Dev nD) : V2 m d a' = level₀ (chunks m d) :=
  (Function.update_of_ne (show a' ≠ c' by decide) _ _).trans ((Function.update_of_ne (show a' ≠ b' by decide) _ _).trans (Function.update_self _ _ _))
theorem V2_b (d : Dev nD) : V2 m d b' = level₁ (chunks m d) :=
  (Function.update_of_ne (show b' ≠ c' by decide) _ _).trans (Function.update_self _ _ _)
theorem V2_c (d : Dev nD) : V2 m d c' = level₂ (chunks m d) := Function.update_self _ _ _
theorem V2_rest (d : Dev nD) : ∀ b ∈ arrays \ four, V2 m d b = V1 m d b := by
  intro b hb
  have h : b ∉ four := (Finset.mem_sdiff.mp hb).2
  simp only [four, Finset.mem_insert, Finset.mem_singleton, not_or] at h
  exact (Function.update_of_ne h.2.2.2 _ _).trans ((Function.update_of_ne h.2.2.1 _ _).trans (Function.update_of_ne h.2.1 _ _))

/-! ## The payloads -/

def coordsV (c : Fin 2) (s : Fin 16) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- What a tile is given, and what it gives back. -/
def given (d : Dev nD) (c : Fin 2) (s : Fin 16) : sProp (MM F) := portion (coordsV c s) d (chunks m d) (V1 m d a') (V1 m d b') (V1 m d c')
def returned (d : Dev nD) (c : Fin 2) (s : Fin 16) : sProp (MM F) :=
  portion (coordsV c s) d (chunks m d) (level₀ (chunks m d)) (level₁ (chunks m d)) (level₂ (chunks m d))

instance portion_storable (i : grid0.Coords) (d : Dev nD) (fx : S1250x160x128.Idx → F .f32) (g₀ : S1250x160x128.Idx → F .f32) (g₁ : S1250x40x128.Idx → F .f32)
    (g₂ : S1250x10x128.Idx → F .f32) : BI.Storable (upEmb : UEmb _ (MM F)) (portion i d fx g₀ g₁ g₂) := by
  unfold portion held; infer_instance
instance given_storable (d : Dev nD) (c : Fin 2) (s : Fin 16) : BI.Storable (upEmb : UEmb _ (MM F)) (given m d c s) := by unfold given; infer_instance
instance returned_storable (d : Dev nD) (c : Fin 2) (s : Fin 16) : BI.Storable (upEmb : UEmb _ (MM F)) (returned m d c s) := by unfold returned; infer_instance

def P : (K (F := F)).Pay (nD := nD) (Val := Elt F) (Name := ℕ) (U := UU) where
  st q d c := match q, c with | 0, c => bigSep Finset.univ fun s : Fin 16 => given m d (Fin.cast nCore_zero c) s
  dn q d c := match q, c with | 0, c => bigSep Finset.univ fun s : Fin 16 => returned m d (Fin.cast nCore_zero c) s
  go q d c i := match q, c, i with | 0, c, i => given m d (Fin.cast nCore_zero c) (Fin.cast nSub_zero i)
  td q d c i := match q, c, i with | 0, c, i => returned m d (Fin.cast nCore_zero c) (Fin.cast nSub_zero i)
  x := fun _ _ => iprop(emp)

instance P_storable : (P (F := F) m).IsStorable where
  st q d c := match q, c with | 0, c => (inferInstance : BI.Storable (upEmb : UEmb _ (MM F)) (bigSep Finset.univ fun s : Fin 16 => given m d (Fin.cast nCore_zero c) s))
  dn q d c := match q, c with | 0, c => (inferInstance : BI.Storable (upEmb : UEmb _ (MM F)) (bigSep Finset.univ fun s : Fin 16 => returned m d (Fin.cast nCore_zero c) s))
  go q d c i := match q, c, i with | 0, c, i => given_storable m d (Fin.cast nCore_zero c) (Fin.cast nSub_zero i)
  td q d c i := match q, c, i with | 0, c, i => returned_storable m d (Fin.cast nCore_zero c) (Fin.cast nSub_zero i)

theorem defs₀_vector (c : Fin τ.nSC) (s : Fin τ.nSub) :
    defs₀ (F := F) (.scVector c s) 0 ()
      = SparseCore.onTile hcore0 hsub0 (fun c s => cc0_run (coordsV c s) xA (Memref.isWhole_whole _) oA (Memref.isWhole_whole _) oB (Memref.isWhole_whole _) oC (Memref.isWhole_whole _)
            xR (Memref.isWhole_whole _) cc0_scoped1 aR (Memref.isWhole_whole _) cc0_scoped3 bR (Memref.isWhole_whole _) cc0_scoped5 cR (Memref.isWhole_whole _) cc0_scoped7) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (coordsV ⟨_, hc.1⟩ ⟨_, hc.2⟩) d O W hO (chunks m d) (V1 m d a') (V1 m d b') (V1 m d c')).trans (wp_mono frame _ _ fun _ => obl_post)

theorem vecSplit : (K (F := F)).VecSplit' (P m) 0 := by
  intro d c
  show (bigSep Finset.univ fun s : Fin 16 => given m d (Fin.cast nCore_zero c) s) ⊢ |={Set.univ}=> iprop(
      (bigSep Finset.univ fun s : Fin 16 => given m d (Fin.cast nCore_zero c) s)
      ∗ ((bigSep Finset.univ fun s : Fin 16 => returned m d (Fin.cast nCore_zero c) s)
          -∗ bigSep Finset.univ fun s : Fin 16 => returned m d (Fin.cast nCore_zero c) s))
  iintro H; imodintro
  isplitl [H]; · iexact H
  iintro H
  iexact H

/-! ## The launch element -/

def u₀ : UU := (initOf (K (F := F)).hsCells (K (F := F)).hsToks, 1)

theorem nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp (MM F))) = iprop(emp) from by
    rw [bigSep_congr fun _ _ => nothing _, nothing]]
  iempintro

/-! ## The arrays, spread over the tiles -/

theorem spread (d : Dev nD) (fx : S1250x160x128.Idx → F .f32) (g₀ : S1250x160x128.Idx → F .f32) (g₁ : S1250x40x128.Idx → F .f32) (g₂ : S1250x10x128.Idx → F .f32) :
    (bigSep Finset.univ fun c : Fin 2 => bigSep Finset.univ fun s : Fin 16 => (portion (coordsV c s) d fx g₀ g₁ g₂ : sProp (MM F)))
      = iprop(((SparseCore.T d).loc main_v0 ↦{fullShare} fx) ∗ ((SparseCore.T d).loc main_v1_0 ↦{fullShare} g₀) ∗ ((SparseCore.T d).loc main_v1_1 ↦{fullShare} g₁) ∗ (SparseCore.T d).loc main_v1_2 ↦{fullShare} g₂) := by
  have ex := by_lots (F := F) ((SparseCore.T d).loc main_v0) (lot (R := 160) xA) (lot_disjoint (R := 160) xA) (lot_cover (R := 160) xA (View.set_whole _)) fx
  have e0 := by_lots (F := F) ((SparseCore.T d).loc main_v1_0) (lot (R := 160) oA) (lot_disjoint (R := 160) oA) (lot_cover (R := 160) oA (View.set_whole _)) g₀
  have e1 := by_lots (F := F) ((SparseCore.T d).loc main_v1_1) (lot (R := 40) oB) (lot_disjoint (R := 40) oB) (lot_cover (R := 40) oB (View.set_whole _)) g₁
  have e2 := by_lots (F := F) ((SparseCore.T d).loc main_v1_2) (lot (R := 10) oC) (lot_disjoint (R := 10) oC) (lot_cover (R := 10) oC (View.set_whole _)) g₂
  rw [ex, e0, e1, e2]
  unfold portion
  simp only [bigSep_sep']
  rfl

theorem four_held (d : Dev nD) (W : Valuation τ sig (Elt F)) :
    (StableHlo.held (SparseCore.T d) four W : sProp (MM F)) = bigSep Finset.univ fun c : Fin 2 => bigSep Finset.univ fun s : Fin 16 => portion (coordsV c s) d (W xc') (W a') (W b') (W c') := by
  rw [spread]
  unfold StableHlo.held four
  rw [SparseCore.bigSep_insert' (by decide), SparseCore.bigSep_insert' (by decide), SparseCore.bigSep_insert' (by decide), bigSep_singleton]

theorem four_sub : four ⊆ arrays := by decide

theorem before (d : Dev nD) : (StableHlo.held (SparseCore.T d) arrays ((opX (F := F)).result (V0 m d)) : sProp (MM F))
    = iprop((bigSep Finset.univ fun c : Fin ((K (F := F)).nCore 0) => (P m).st 0 d c) ∗ StableHlo.held (SparseCore.T d) (arrays \ four) (V1 m d)) := by
  rw [show (opX (F := F)).result (V0 m d) = V1 m d from rfl, held_sub_split _ four_sub, four_held]
  rfl

theorem after (d : Dev nD) : (StableHlo.held (SparseCore.T d) arrays (V2 m d) : sProp (MM F))
    = iprop((bigSep Finset.univ fun c : Fin ((K (F := F)).nCore 0) => (P m).dn 0 d c) ∗ StableHlo.held (SparseCore.T d) (arrays \ four) (V1 m d)) := by
  rw [held_sub_split _ four_sub, four_held, held_congr _ (V2_rest m d), V2_xc, V2_a, V2_b, V2_c]
  rfl

/-! ## @main -/

theorem unscoped_held (d : Dev nD) : (unscopedBufs d (fun b => m ((SparseCore.T d).loc b)) : sProp (MM F)) = StableHlo.held (SparseCore.T d) arrays (V0 m d) := by
  unfold unscopedBufs StableHlo.held arrays
  rw [show (Finset.univ.filter fun b : Ref sig .tc => ¬ b.isScoped) = {main_arg0, main_arg1, main_arg2, main_arg3, main_v0, main_v1_0, main_v1_1, main_v1_2, main_v2, main_v3, main_v4} by decide]
  repeat rw [SparseCore.bigSep_insert' (by decide)]
  rw [bigSep_singleton]
  repeat rw [SparseCore.bigSep_insert' (by decide)]
  rw [bigSep_singleton]
  rfl

theorem subX : (opX (F := F)).bufs ⊆ arrays := show ({x', xc'} : Finset (DevRef τ sig)) ⊆ arrays by decide
theorem subA : (opA (F := F)).bufs ⊆ arrays := show ({a', ya'} : Finset (DevRef τ sig)) ⊆ arrays by decide
theorem subB : (opB (F := F)).bufs ⊆ arrays := show ({b', yb'} : Finset (DevRef τ sig)) ⊆ arrays by decide
theorem subC : (opC (F := F)).bufs ⊆ arrays := show ({c', yc'} : Finset (DevRef τ sig)) ⊆ arrays by decide

abbrev FIN (d : Dev nD) : sProp (MM F) := StableHlo.held (SparseCore.T d) arrays (V5 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := arrays) subX (V := V0 m d)) $$ [Hb Hheld]
  · isplitl [Hb]; · iexact Hb
    iexact Hheld
  iintro ⟨Hb, Hheld⟩
  rw [wp_ret]; imodintro
  ihave Hh := (Entails.of_eq (before m d)) $$ Hheld
  icases Hh with ⟨Hgo, Hrest⟩
  iapply ((K (F := F)).wp_run (D (F := F)) 𝒱 (EH := EH) (P := P m) κ d 0) $$ [Hst Hgo Hrest Hb Hts]
  isplitr; · iexact Hctx
  isplitl [Hst]; · iexact Hst
  isplitl [Hgo]; · iexact Hgo
  iintro ⟨Hst, Hdn⟩
  iapply (wp_hlo_within 𝒱 (SparseCore.T d) none Set.univ (op := opA) (S := arrays) subA (V := V2 m d)) $$ [Hb Hdn Hrest]
  · isplitl [Hb]; · iexact Hb
    rw [after]
    isplitl [Hdn] <;> iassumption
  iintro ⟨Hb, Hheld⟩
  rw [wp_ret]; imodintro
  iapply (wp_hlo_within 𝒱 (SparseCore.T d) none Set.univ (op := opB) (S := arrays) subB (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := arrays) subC (V := V4 m d)) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

/-! ## The run -/

def fq (d : Dev nD) (s' : Phys nD τ sig (Elt F)) : Prop := ∀ b ∈ arrays, s'.mem.mem (d, b) = V5 m d b

theorem known (d : Dev nD) (s' : Phys nD τ sig (Elt F)) {b : DevRef τ sig} (hb : b ∈ arrays) :
    iprop(FIN m d ∗ SI s') ⊢ (⌜s'.mem.mem (d, b) = V5 m d b⌝ : sProp (MM F)) := by
  have e : FIN m d = iprop(((d, b) ↦{fullShare} V5 m d b) ∗ bigSep (arrays.erase b) fun b => ((d, b) : Loc nD τ sig) ↦{fullShare} V5 m d b) :=
    SparseCore.bigSep_erase' (Φ := fun b => (((d, b) : Loc nD τ sig) ↦{fullShare} V5 m d b : sProp (MM F))) hb
  rw [e]
  iintro ⟨⟨Hx, -⟩, HSI⟩
  ihave H := (SI_pointsTo_agree (st := s') (ℓ := (d, b)) (I := Finset.univ) (q := fullShare) (f := V5 m d b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (MM F)) :=
  fun a ha _ hb => known m d s' hb a ha

def QC : PUnit × MemSt nD τ sig (Elt F) → Prop := fun r => (∀ c : Dev nD, ∀ b ∈ arrays, r.2.mem (c, b) = V5 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pyramid

end
-- ==== Proof.Frames.lean ====
/-
  What a run leaves: the arguments as they were, every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- An array that no host operation and no tile writes ends as it was. -/
theorem V5_kept (d : Dev nD) {b : DevRef τ sig} (hX : b ∉ ({xc'} : Finset (DevRef τ sig))) (h4 : b ∉ four) (hA : b ∉ ({ya'} : Finset (DevRef τ sig)))
    (hB : b ∉ ({yb'} : Finset (DevRef τ sig))) (hC : b ∉ ({yc'} : Finset (DevRef τ sig))) (hb : b ∈ arrays) : V5 m d b = m (d, b) :=
  ((opC (F := F)).result_of_not_mem (V4 m d) hC).trans <| ((opB (F := F)).result_of_not_mem (V3 m d) hB).trans <| ((opA (F := F)).result_of_not_mem (V2 m d) hA).trans <|
    (V2_rest m d b (Finset.mem_sdiff.mpr ⟨hb, h4⟩)).trans ((opX (F := F)).result_of_not_mem (V0 m d) hX)

theorem V5_x (d : Dev nD) : V5 m d x' = m (d, x') := V5_kept m d (by decide) (by decide) (by decide) (by decide) (by decide) (by decide)
theorem V5_p (d : Dev nD) : V5 m d p' = m (d, p') := V5_kept m d (by decide) (by decide) (by decide) (by decide) (by decide) (by decide)
theorem V5_q (d : Dev nD) : V5 m d q' = m (d, q') := V5_kept m d (by decide) (by decide) (by decide) (by decide) (by decide) (by decide)
theorem V5_r (d : Dev nD) : V5 m d r' = m (d, r') := V5_kept m d (by decide) (by decide) (by decide) (by decide) (by decide) (by decide)

/-- What a run leaves of the arguments. -/
def Kept (r : PUnit × MemSt nD τ sig (Elt F)) : Prop := ∀ c : Dev nD,
  r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)

theorem kept {r : PUnit × MemSt nD τ sig (Elt F)} (h : QC m r) : Kept m r := fun c =>
  ⟨(h.1 c x' (by decide)).trans (V5_x m c), (h.1 c p' (by decide)).trans (V5_p m c), (h.1 c q' (by decide)).trans (V5_q m c), (h.1 c r' (by decide)).trans (V5_r m c)⟩

theorem frame_main [∀ e, Nonempty (Elt F e)] :
    θ_run (Cert.KernelIdeal.defs (F := F)) (Cert.KernelIdeal.threads (F := F)) ⟨m, fun _ => 0, ρ⟩ fun r => Kept m r ∧ r.2.sem = fun _ => 0 :=
  (θ_run (Cert.KernelIdeal.defs (F := F)) _ _).mono (fun _ h => ⟨kept m h, h.2⟩) (run_main m ρ)

theorem frame_kernelIdeal : Cert.quiescent_KernelIdeal := fun m ρ _ => frame_main m ρ

/-- The two programs have the same text. -/
theorem frame_kernel : Cert.quiescent_Kernel := fun m ρ _ =>
  (θ_run Cert.KernelIdeal.defs _ _).mono (fun _ h => h) (frame_main (F := Bits) m ρ)

/-- The reference declares no counter. -/
theorem frame_referenceIdeal : Cert.quiescent_ReferenceIdeal := fun m ρ _ =>
  (θ_run (Cert.ReferenceIdeal.defs (F := Ideal)) _ _).mono (fun r h => ⟨fun c => ⟨(h c).2.2.2.1, (h c).2.2.2.2.1, (h c).2.2.2.2.2.1, (h c).2.2.2.2.2.2⟩,
    sem_eq_zero_of_no_sems (by decide) r.2⟩) (Cert.ReferenceIdeal.Value.run m ρ)

end Cert.Proof.Pyramid

end
-- ==== Proof.Sections.lean ====
/-
  The reference's mathematics at the extended reals, for any number of sections: the rows that a table of indices looks up,
  their means by fours, and what is left when the means are taken away. Arrays of two batches are read by the row's place
  among all rows, which a change of layout keeps.
-/
module

public import Idealize.ShloMosaic.Lib.IdealHost
public import Idealize.ShloMosaic.Lib.Pointwise
public import Idealize.ShloMosaic.Lib.ReduceAll
public import Idealize.ShloMosaic.Lib.Affine
public import Idealize.ShloMosaic.Lib.Pipeline.Value
public import Idealize.ShloMosaic.Lib.StableHlo.Predicate

@[expose] public section

noncomputable section

namespace Cert.Proof.Pyramid

open Idealize.ShloMosaic hiding ix1 ix2 ix3 ix4
open Idealize.ShloMosaic.ValueIdx

/-- `A` batches of `N` rows. -/
abbrev Tab (A N : ℕ) : Shape := ⟨3, ![A, N, 128]⟩
/-- `N` sections of four rows, two batches. -/
abbrev Sec (N : ℕ) : Shape := ⟨4, ![2, N, 4, 128]⟩
abbrev Mid (N : ℕ) : Shape := ⟨4, ![2, N, 1, 128]⟩

/-! ## Rows by their place among all rows -/

section Flat
variable {A N A' N' : ℕ}

theorem batch_lt {R : ℕ} (h : R < A * N) : R / N < A := Nat.div_lt_of_lt_mul (by rwa [Nat.mul_comm])
theorem row_lt {R : ℕ} (h : R < A * N) : R % N < N := Nat.mod_lt _ (Nat.pos_of_ne_zero fun e => by subst e; simp at h)

def byRow (X : (Tab A N).Idx → EReal) (R c : ℕ) : EReal :=
  if h : R < A * N ∧ c < 128 then X (ix3 ⟨R / N, batch_lt h.1⟩ ⟨R % N, row_lt h.1⟩ ⟨c, h.2⟩) else 0

theorem place_lt (a : Fin A) (r : Fin N) : a.val * N + r.val < A * N :=
  calc a.val * N + r.val < a.val * N + N := Nat.add_lt_add_left r.isLt _
    _ = (a.val + 1) * N := (Nat.succ_mul _ _).symm
    _ ≤ A * N := Nat.mul_le_mul_right _ a.isLt

theorem byRow_at (X : (Tab A N).Idx → EReal) (a : Fin A) (r : Fin N) (c : Fin 128) : byRow X (a.val * N + r.val) c.val = X (ix3 a r c) := by
  have hN : 0 < N := Nat.lt_of_le_of_lt (Nat.zero_le _) r.isLt
  unfold byRow
  rw [dif_pos ⟨place_lt a r, c.isLt⟩]
  have e0 : (a.val * N + r.val) / N = a.val := by rw [Nat.add_comm, Nat.add_mul_div_right _ _ hN, Nat.div_eq_of_lt r.isLt, Nat.zero_add]
  have e1 : (a.val * N + r.val) % N = r.val := by rw [Nat.add_comm, Nat.add_mul_mod_self_right, Nat.mod_eq_of_lt r.isLt]
  exact congrArg X (by congr 1 <;> exact Fin.ext (by assumption))

/-- Two arrays that agree row by row are equal. -/
theorem byRow_ext {X Y : (Tab A N).Idx → EReal} (h : ∀ R c, R < A * N → c < 128 → byRow X R c = byRow Y R c) : X = Y := by
  funext y
  obtain ⟨a, r, c, rfl⟩ : ∃ a r c, y = ix3 a r c := ⟨y 0, y 1, y 2, ValueIdx.eq_ix3 y⟩
  rw [← byRow_at X, ← byRow_at Y]
  exact h _ _ (place_lt a r) c.isLt

/-- What an array holds row by row. -/
theorem byRow_of {X : (Tab A N).Idx → EReal} {f : ℕ → ℕ → EReal} (h : ∀ (a : Fin A) (r : Fin N) (c : Fin 128), X (ix3 a r c) = f (a.val * N + r.val) c.val)
    {R c : ℕ} (hR : R < A * N) (hc : c < 128) : byRow X R c = f R c := by
  unfold byRow
  rw [dif_pos ⟨hR, hc⟩, h]
  show f (R / N * N + R % N) c = f R c
  rw [Nat.div_add_mod']

/-- A change of layout keeps every row's place. -/
theorem byRow_cast (X : (Tab A N).Idx → EReal) (h : (Tab A N).ShapeCasts (Tab A' N')) (hn : A * N = A' * N') : byRow (shapeCast (Tab A' N') X h) = byRow X := by
  funext R c
  unfold byRow
  by_cases hR : R < A * N ∧ c < 128
  · rw [dif_pos hR, dif_pos (hn ▸ hR)]
    refine shapeCast_apply X h _ _ ?_
    rw [Shape.rowMajor_val_three, Shape.rowMajor_val_three]
    show (R / N * N + R % N) * 128 + c = (R / N' * N' + R % N') * 128 + c
    rw [Nat.div_add_mod', Nat.div_add_mod']
  · rw [dif_neg hR, dif_neg (hn ▸ hR)]

end Flat

/-! ## Means by fours -/

/-- The mean of rows `4 Q` to `4 Q + 3`. -/
def means (f : ℕ → ℕ → EReal) (Q c : ℕ) : EReal := (f (4 * Q) c + f (4 * Q + 1) c + (f (4 * Q + 2) c + f (4 * Q + 3) c)) * ((1 / 4 : ℝ) : EReal)

theorem means_congr {f g : ℕ → ℕ → EReal} {B : ℕ} (h : ∀ R c, R < 4 * B → c < 128 → f R c = g R c) {Q c : ℕ} (hQ : Q < B) (hc : c < 128) : means f Q c = means g Q c := by
  unfold means
  rw [h _ c (by omega) hc, h _ c (by omega) hc, h _ c (by omega) hc, h _ c (by omega) hc]

theorem four_eq : Ideal.ofBits .f32 0x40800000#32 = ((4 : ℝ) : EReal) := by simp [Ideal.ofBits, Ideal.ieee, -EReal.coe_mul]; norm_num
theorem quarter_eq : Ideal.ofBits .f32 0x3E800000#32 = ((1 / 4 : ℝ) : EReal) := by simp [Ideal.ofBits, Ideal.ieee, -EReal.coe_mul]; norm_num

/-! ## The rows that the indices look up -/

section Level
variable {M N : ℕ}

/-- Row `q` of the table of indices holds the four rows of section `q`. -/
def Consecutive (I : IVec (⟨2, ![N, 4]⟩ : Shape) 32) : Prop := ∀ (q : Fin N) (k : Fin 4), I (ix2 q k) = BitVec.ofNat 32 (4 * q.val + k.val)

/-- Indices that are not negative stay as they are. -/
theorem wrapped (I Z W : IVec (⟨2, ![N, 4]⟩ : Shape) 32) (hZ : ∀ y, Z y = 0#32) (hI : Consecutive I) (hN : 4 * N < 2 ^ 31)
    (hb : (⟨2, ![N, 4]⟩ : Shape).BroadcastsInDim ⟨3, ![N, 4, 1]⟩ ![0, 1]) (q : Fin N) (k : Fin 4) :
    broadcastInDim ⟨3, ![N, 4, 1]⟩ ![0, 1] hb (select (cmpi .slt I Z) (addi I W) I) (ix3 q k 0) = BitVec.ofNat 32 (4 * q.val + k.val) := by
  rw [broadcastInDim_apply ![0, 1] hb _ (ix3 q k 0) (ix2 q k) (fun a => by
    match a with
    | ⟨0, _⟩ =>
      show q.val = if N = 1 then 0 else q.val
      have := q.isLt
      split <;> omega
    | ⟨1, _⟩ => rfl)]
  show Scalar.select (IntOp.cmpi .slt (I (ix2 q k)) (Z (ix2 q k))) _ (I (ix2 q k)) = _
  rw [hI, hZ]
  unfold Scalar.select
  rw [if_neg]
  intro h
  have h' : BitVec.ofBool ((BitVec.ofNat 32 (4 * q.val + k.val)).slt 0#32) = 1#1 := h
  have := q.isLt; have := k.isLt
  rw [show (0#32 : BitVec 32) = BitVec.ofNat 32 0 from rfl] at h'
  have := (StableHlo.Predicate.slt_ofNat_iff (4 * q.val + k.val) 0 (by omega) (by decide)).1 h'
  omega

/-- The look-up of rows of both batches. -/
abbrev secDims (M N : ℕ) (wf : GatherDims.WF (Tab 2 M) ⟨3, ![N, 4, 1]⟩ (Sec N) [0, 3] [1] [] [1] [] 2 ![2, 1, 128]) : GatherDims (Tab 2 M) ⟨3, ![N, 4, 1]⟩ (Sec N) where
  offsetDims := [0, 3]
  collapsedSliceDims := [1]
  operandBatchingDims := []
  startIndicesBatchingDims := []
  startIndexMap := [1]
  indexVectorDim := 2
  sliceSizes := ![2, 1, 128]
  wf := wf

variable (wf : GatherDims.WF (Tab 2 M) ⟨3, ![N, 4, 1]⟩ (Sec N) [0, 3] [1] [] [1] [] 2 ![2, 1, 128])

/-- The element of a look-up: the row that the index names, the batch and the column of the place. -/
theorem lookup_at {α : Type} (X : (Tab 2 M).Idx → α) (idx : IVec (⟨3, ![N, 4, 1]⟩ : Shape) 32) (b : Fin 2) (q : Fin N) (k : Fin 4) (c : Fin 128) (r : Fin M)
    (hr : (idx (ix3 q k 0)).toInt.toNat = r.val) : Host.gather (secDims M N wf) X idx (ix4 b q k c) = X (ix3 b r c) := by
  unfold Host.gather
  congr 1
  funext a
  refine Fin.ext ?_
  show (secDims M N wf).start (ix4 b q k c) idx a + (secDims M N wf).batchCoord (ix4 b q k c) a + (secDims M N wf).offCoord (ix4 b q k c) a = _
  have hk : ∀ a : Fin 3, a ≠ 1 → a ∈ (secDims M N wf).sKept := fun a ha => (GatherDims.mem_sKept _ _).mpr ⟨fun h => ha (List.mem_singleton.mp h), List.not_mem_nil⟩
  have hs : ∀ a : Fin 3, a ≠ 1 → (secDims M N wf).start (ix4 b q k c) idx a = 0 := fun a ha => by
    unfold GatherDims.start
    rw [dif_neg fun h => ha (List.mem_singleton.mp h)]
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [hs _ (show (0 : Fin 3) ≠ 1 from by decide), Nat.zero_add]
    unfold GatherDims.offCoord
    rw [dif_pos (hk _ (show (0 : Fin 3) ≠ 1 from by decide))]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ (secDims M N wf).startIndexMap from List.mem_singleton.mpr rfl)]
    have hsi : (secDims M N wf).siIdx (ix4 b q k c) ⟨List.idxOf (1 : Fin 3) (secDims M N wf).startIndexMap, List.idxOf_lt_length_iff.2 (List.mem_singleton.mpr rfl)⟩ = ix3 q k 0 := by
      funext x; refine Fin.ext ?_
      match x with
      | ⟨0, _⟩ => rfl
      | ⟨1, _⟩ => rfl
      | ⟨2, _⟩ => rfl
    rw [hsi, hr]
    show min r.val (M - 1) = r.val
    have := r.isLt
    omega
  · rw [hs _ (show (2 : Fin 3) ≠ 1 from by decide), Nat.zero_add]
    unfold GatherDims.offCoord
    rw [dif_pos (hk _ (show (2 : Fin 3) ≠ 1 from by decide))]
    rfl

variable (hM : M = 4 * N)

include hM in
/-- Consecutive indices look up a section's rows. -/
theorem section_row (hN : 4 * N < 2 ^ 31) (X : (Tab 2 M).Idx → EReal) (idx : IVec (⟨3, ![N, 4, 1]⟩ : Shape) 32)
    (hidx : ∀ (q : Fin N) (k : Fin 4), idx (ix3 q k 0) = BitVec.ofNat 32 (4 * q.val + k.val)) (b : Fin 2) (q : Fin N) (k : Fin 4) (c : Fin 128) :
    Host.gather (secDims M N wf) X idx (ix4 b q k c) = byRow X (4 * (b.val * N + q.val) + k.val) c.val := by
  have hq := q.isLt; have hk := k.isLt
  have hr : 4 * q.val + k.val < M := by omega
  rw [lookup_at wf X idx b q k c ⟨4 * q.val + k.val, hr⟩ (by rw [hidx, StableHlo.Predicate.toInt_ofNat_small _ (by omega)]; rfl), ← byRow_at X]
  congr 1
  subst hM
  show b.val * (4 * N) + (4 * q.val + k.val) = _
  rw [Nat.mul_left_comm]; omega

/-! ## The means and what is left -/

variable (hred : (Sec N).ReducesTo [2] (Tab 2 N)) (hu : 0 < (⟨0, ![]⟩ : Shape).numel)
  (hb : (Tab 2 N).BroadcastsInDim (Mid N) ![0, 1, 3]) (hd : (⟨0, ![]⟩ : Shape).BroadcastsInDim (Mid N) ![]) (he : (Mid N).BroadcastsInDim (Sec N) ![0, 1, 2, 3])
  (hc : (Sec N).ShapeCasts (Tab 2 M)) (hc' : (Mid N).ShapeCasts (Tab 2 N))

/-- The sections' means. -/
def secMean (V : FVec Ideal (Sec N) .f32) : FVec Ideal (Mid N) .f32 :=
  Host.divf (broadcastInDim (Mid N) ![0, 1, 3] hb (Host.reduceAdd V (constant ⟨0, ![]⟩ .f32 0x00000000#32) hred hu)) (broadcastInDim (Mid N) ![] hd (constant ⟨0, ![]⟩ .f32 0x40800000#32))
/-- The means, a row for each section. -/
def lower (V : FVec Ideal (Sec N) .f32) : FVec Ideal (Tab 2 N) .f32 := shapeCast (Tab 2 N) (secMean hred hu hb hd V) hc'
/-- The rows less their means. -/
def detail (V : FVec Ideal (Sec N) .f32) : FVec Ideal (Tab 2 M) .f32 := shapeCast (Tab 2 M) (subf V (broadcastInDim (Sec N) ![0, 1, 2, 3] he (secMean hred hu hb hd V))) hc

theorem secMean_at (V : FVec Ideal (Sec N) .f32) (b : Fin 2) (q : Fin N) (c : Fin 128) :
    secMean hred hu hb hd V (ix4 b q 0 c) = (V (ix4 b q 0 c) + V (ix4 b q 1 c) + (V (ix4 b q 2 c) + V (ix4 b q 3 c))) * ((1 / 4 : ℝ) : EReal) := by
  unfold secMean
  show Ideal.div (broadcastInDim (s := Tab 2 N) (Mid N) ![0, 1, 3] hb _ (ix4 b q 0 c)) (broadcastInDim (s := ⟨0, ![]⟩) (Mid N) ![] hd _ (ix4 b q 0 c)) = _
  rw [broadcastInDim_scalar_apply hd]
  show Ideal.div _ (Ideal.ofBits .f32 0x40800000#32) = _
  rw [four_eq, Ideal.div_coe (by norm_num)]
  congr 1
  rw [broadcastInDim_apply ![0, 1, 3] hb _ (ix4 b q 0 c) (ix3 b q c) (fun a => by
    match a with
    | ⟨0, _⟩ => rfl
    | ⟨1, _⟩ =>
      show q.val = if N = 1 then 0 else q.val
      have := q.isLt
      split <;> omega
    | ⟨2, _⟩ => rfl), hostReduceAdd_apply, Ideal.hostReduceAdd_r4_a2]
  show Ideal.ofBits .f32 0x00000000#32 + _ = _
  rw [Ideal.ofBits_zero_f32, zero_add, Fin.sum_univ_four, add_assoc (_ + _)]
  rfl

variable {f : ℕ → ℕ → EReal} {V : FVec Ideal (Sec N) .f32}
  (hV : ∀ (b : Fin 2) (q : Fin N) (k : Fin 4) (c : Fin 128), V (ix4 b q k c) = f (4 * (b.val * N + q.val) + k.val) c.val)

include hV in
theorem secMean_eq (b : Fin 2) (q : Fin N) (c : Fin 128) : secMean hred hu hb hd V (ix4 b q 0 c) = means f (b.val * N + q.val) c.val := by
  rw [secMean_at, hV, hV, hV, hV]
  rfl

include hV in
theorem byRow_lower {Q c : ℕ} (hQ : Q < 2 * N) (hcol : c < 128) : byRow (lower hred hu hb hd hc' V) Q c = means f Q c := by
  refine byRow_of (fun b q c => ?_) hQ hcol
  unfold lower
  rw [shapeCast_apply _ hc' (ix3 b q c) (ix4 b q 0 c) (by
    rw [Shape.rowMajor_val_three, Shape.rowMajor_val_four]
    show ((b.val * N + q.val) * 1 + 0) * 128 + c.val = (b.val * N + q.val) * 128 + c.val
    omega)]
  exact secMean_eq hred hu hb hd hV b q c

include hV hM in
theorem byRow_detail {R c : ℕ} (hR : R < 2 * M) (hcol : c < 128) : byRow (detail hred hu hb hd he hc V) R c = f R c - means f (R / 4) c := by
  refine byRow_of (f := fun R c => f R c - means f (R / 4) c) (fun b r c => ?_) hR hcol
  subst hM
  have hr := r.isLt
  have e : 4 * (b.val * N + r.val / 4) + r.val % 4 = b.val * (4 * N) + r.val := by rw [Nat.mul_left_comm]; omega
  unfold detail
  rw [shapeCast_apply _ hc (ix3 b r c) (ix4 b ⟨r.val / 4, by omega⟩ ⟨r.val % 4, by omega⟩ c) (by
    rw [Shape.rowMajor_val_three, Shape.rowMajor_val_four]
    show ((b.val * N + r.val / 4) * 4 + r.val % 4) * 128 + c.val = (b.val * (4 * N) + r.val) * 128 + c.val
    rw [← e]; omega)]
  show V _ - broadcastInDim (s := Mid N) (Sec N) ![0, 1, 2, 3] he _ _ = _
  rw [broadcastInDim_apply ![0, 1, 2, 3] he _ (ix4 b ⟨r.val / 4, by omega⟩ ⟨r.val % 4, by omega⟩ c) (ix4 b ⟨r.val / 4, by omega⟩ 0 c) (fun a => by
    match a with
    | ⟨0, _⟩ => rfl
    | ⟨1, _⟩ =>
      show r.val / 4 = if N = 1 then 0 else r.val / 4
      split <;> omega
    | ⟨2, _⟩ => rfl
    | ⟨3, _⟩ => rfl), secMean_eq hred hu hb hd hV, hV]
  show f (4 * (b.val * N + r.val / 4) + r.val % 4) c.val - means f (b.val * N + r.val / 4) c.val = _
  rw [e, show b.val * N + r.val / 4 = (b.val * (4 * N) + r.val) / 4 by omega]

end Level

end Cert.Proof.Pyramid

end
-- ==== Proof.KernelValue.lean ====
/-
  The kernel's three results at the extended reals, row by row, from the input's rows.
-/
module

public import proofs.«01_k».proof.Proof.Launch
public import proofs.«01_k».proof.Proof.Sections

@[expose] public section

noncomputable section

namespace Cert.Proof.Pyramid

open Cert.KernelIdeal Cert.KernelIdeal.Gen

open Idealize.ShloMosaic hiding ix1 ix2 ix3 ix4
open Idealize.ShloMosaic.ValueIdx

/-! ## A chunk's outputs -/

section Chunks
variable (f : S1250x160x128.Idx → Ideal .f32)

/-- The input's rows, from its chunks. -/
abbrev chunkRow : ℕ → ℕ → EReal := byRow (A := 1250) (N := 160) f

theorem avg_eq (a b c d : Ideal .f32) : avg a b c d = (a + b + (c + d)) * ((1 / 4 : ℝ) : EReal) := by
  show (a + b + (c + d)) * Ideal.ofBits .f32 0x3E800000#32 = _
  rw [quarter_eq]

theorem pick_slab (k : Fin 1250) {r c : ℕ} (hr : r < 160) (hc : c < 128) : pick (by decide) (slab (R := 160) f k) r c = chunkRow f (k.val * 160 + r) c := by
  rw [pick_eq (by decide) (slab (R := 160) f k) (ix2 ⟨r, hr⟩ ⟨c, hc⟩) rfl rfl]
  exact (byRow_at (A := 1250) (N := 160) f k ⟨r, hr⟩ ⟨c, hc⟩).symm

theorem mean4_slab (k : Fin 1250) {q c : ℕ} (hq : q < 40) (hc : c < 128) : mean4 (slab (R := 160) f k) q c = means (chunkRow f) (k.val * 40 + q) c := by
  unfold mean4 means
  rw [avg_eq, pick_slab f k (by omega) hc, pick_slab f k (by omega) hc, pick_slab f k (by omega) hc, pick_slab f k (by omega) hc,
    show k.val * 160 + 4 * q = 4 * (k.val * 40 + q) by omega, show k.val * 160 + (4 * q + 1) = 4 * (k.val * 40 + q) + 1 by omega,
    show k.val * 160 + (4 * q + 2) = 4 * (k.val * 40 + q) + 2 by omega, show k.val * 160 + (4 * q + 3) = 4 * (k.val * 40 + q) + 3 by omega]

theorem mean16_slab (k : Fin 1250) {g c : ℕ} (hg : g < 10) (hc : c < 128) : mean16 (slab (R := 160) f k) g c = means (means (chunkRow f)) (k.val * 10 + g) c := by
  unfold mean16
  rw [avg_eq, mean4_slab f k (by omega) hc, mean4_slab f k (by omega) hc, mean4_slab f k (by omega) hc, mean4_slab f k (by omega) hc,
    show k.val * 40 + 4 * g = 4 * (k.val * 10 + g) by omega, show k.val * 40 + (4 * g + 1) = 4 * (k.val * 10 + g) + 1 by omega,
    show k.val * 40 + (4 * g + 2) = 4 * (k.val * 10 + g) + 2 by omega, show k.val * 40 + (4 * g + 3) = 4 * (k.val * 10 + g) + 3 by omega]
  rfl

theorem level₀_row {R c : ℕ} (hR : R < 200000) (hc : c < 128) :
    byRow (A := 1250) (N := 160) (level₀ f) R c = chunkRow f R c - means (chunkRow f) (R / 4) c := by
  refine byRow_of (A := 1250) (N := 160) (f := fun R c => chunkRow f R c - means (chunkRow f) (R / 4) c) (fun a r c => ?_) hR hc
  have hr := r.isLt
  show pick (by decide) (slab (R := 160) f a) r.val c.val - mean4 (slab (R := 160) f a) (r.val / 4) c.val = _
  rw [pick_slab f a hr c.isLt, mean4_slab f a (by omega) c.isLt, show a.val * 40 + r.val / 4 = (a.val * 160 + r.val) / 4 by omega]

theorem level₁_row {R c : ℕ} (hR : R < 50000) (hc : c < 128) :
    byRow (A := 1250) (N := 40) (level₁ f) R c = means (chunkRow f) R c - means (means (chunkRow f)) (R / 4) c := by
  refine byRow_of (A := 1250) (N := 40) (f := fun R c => means (chunkRow f) R c - means (means (chunkRow f)) (R / 4) c) (fun a r c => ?_) hR hc
  have hr := r.isLt
  show mean4 (slab (R := 160) f a) r.val c.val - mean16 (slab (R := 160) f a) (r.val / 4) c.val = _
  rw [mean4_slab f a hr c.isLt, mean16_slab f a (by omega) c.isLt, show a.val * 10 + r.val / 4 = (a.val * 40 + r.val) / 4 by omega]

theorem level₂_row {R c : ℕ} (hR : R < 12500) (hc : c < 128) : byRow (A := 1250) (N := 10) (level₂ f) R c = means (means (chunkRow f)) R c := by
  refine byRow_of (A := 1250) (N := 10) (f := fun R c => means (means (chunkRow f)) R c) (fun a r c => ?_) hR hc
  exact mean16_slab f a r.isLt c.isLt

end Chunks

/-! ## The results -/

variable (m : (ℓ : Loc nD τ sig) → Buf (Elt Ideal) ℓ) (d : Dev nD)

/-- The input's rows. -/
abbrev inputRow : ℕ → ℕ → EReal := byRow (A := 2) (N := 100000) (m (d, x') : S2x100000x128.Idx → EReal)

theorem chunks_eq : chunks m d = shapeCast S1250x160x128 (m (d, x') : S2x100000x128.Idx → EReal) shapeCasts_S2x100000x128_S1250x160x128 := by
  unfold chunks V1 opX
  rw [StableHlo.reshape_result]
  rfl

theorem chunkRow_eq : chunkRow (chunks m d) = inputRow m d := by
  unfold chunkRow
  rw [chunks_eq]
  exact byRow_cast (A := 2) (N := 100000) (A' := 1250) (N' := 160) _ shapeCasts_S2x100000x128_S1250x160x128 (by norm_num)

theorem V5_ya : V5 m d ya' = shapeCast S2x100000x128 (level₀ (chunks m d)) shapeCasts_S1250x160x128_S2x100000x128 :=
  ((opC (F := Ideal)).result_of_not_mem (V4 m d) (show ya' ∉ ({yc'} : Finset (DevRef τ sig)) by decide)).trans <|
    ((opB (F := Ideal)).result_of_not_mem (V3 m d) (show ya' ∉ ({yb'} : Finset (DevRef τ sig)) by decide)).trans <|
      (StableHlo.reshape_result (τ := τ) (Val := Elt Ideal) main_v1_0 main_v2 rfl shapeCasts_S1250x160x128_S2x100000x128 _ _ (V2 m d)).trans
        (congrArg (fun g => shapeCast S2x100000x128 g shapeCasts_S1250x160x128_S2x100000x128) (V2_a m d))

theorem V5_yb : V5 m d yb' = shapeCast S2x25000x128 (level₁ (chunks m d)) shapeCasts_S1250x40x128_S2x25000x128 :=
  ((opC (F := Ideal)).result_of_not_mem (V4 m d) (show yb' ∉ ({yc'} : Finset (DevRef τ sig)) by decide)).trans <|
    (StableHlo.reshape_result (τ := τ) (Val := Elt Ideal) main_v1_1 main_v3 rfl shapeCasts_S1250x40x128_S2x25000x128 _ _ (V3 m d)).trans
      (congrArg (fun g => shapeCast S2x25000x128 g shapeCasts_S1250x40x128_S2x25000x128)
        (((opA (F := Ideal)).result_of_not_mem (V2 m d) (show b' ∉ ({ya'} : Finset (DevRef τ sig)) by decide)).trans (V2_b m d)))

theorem V5_yc : V5 m d yc' = shapeCast S2x6250x128 (level₂ (chunks m d)) shapeCasts_S1250x10x128_S2x6250x128 :=
  (StableHlo.reshape_result (τ := τ) (Val := Elt Ideal) main_v1_2 main_v4 rfl shapeCasts_S1250x10x128_S2x6250x128 _ _ (V4 m d)).trans
    (congrArg (fun g => shapeCast S2x6250x128 g shapeCasts_S1250x10x128_S2x6250x128)
      (((opB (F := Ideal)).result_of_not_mem (V3 m d) (show c' ∉ ({yb'} : Finset (DevRef τ sig)) by decide)).trans
        (((opA (F := Ideal)).result_of_not_mem (V2 m d) (show c' ∉ ({ya'} : Finset (DevRef τ sig)) by decide)).trans (V2_c m d))))

theorem result₀_row {R c : ℕ} (hR : R < 200000) (hc : c < 128) :
    byRow (A := 2) (N := 100000) (V5 m d ya' : S2x100000x128.Idx → EReal) R c = inputRow m d R c - means (inputRow m d) (R / 4) c := by
  rw [V5_ya, ← chunkRow_eq]
  exact (congrFun (congrFun (byRow_cast (A := 1250) (N := 160) (A' := 2) (N' := 100000) (level₀ (chunks m d)) shapeCasts_S1250x160x128_S2x100000x128 (by norm_num)) R) c).trans
    (level₀_row (chunks m d) hR hc)

theorem result₁_row {R c : ℕ} (hR : R < 50000) (hc : c < 128) :
    byRow (A := 2) (N := 25000) (V5 m d yb' : S2x25000x128.Idx → EReal) R c = means (inputRow m d) R c - means (means (inputRow m d)) (R / 4) c := by
  rw [V5_yb, ← chunkRow_eq]
  exact (congrFun (congrFun (byRow_cast (A := 1250) (N := 40) (A' := 2) (N' := 25000) (level₁ (chunks m d)) shapeCasts_S1250x40x128_S2x25000x128 (by norm_num)) R) c).trans
    (level₁_row (chunks m d) hR hc)

theorem result₂_row {R c : ℕ} (hR : R < 12500) (hc : c < 128) :
    byRow (A := 2) (N := 6250) (V5 m d yc' : S2x6250x128.Idx → EReal) R c = means (means (inputRow m d)) R c := by
  rw [V5_yc, ← chunkRow_eq]
  exact (congrFun (congrFun (byRow_cast (A := 1250) (N := 10) (A' := 2) (N' := 6250) (level₂ (chunks m d)) shapeCasts_S1250x10x128_S2x6250x128 (by norm_num)) R) c).trans
    (level₂_row (chunks m d) hR hc)

end Cert.Proof.Pyramid

end
-- ==== Proof.ReferenceValue.lean ====
/-
  The reference's three results, row by row, when every section is four consecutive rows.
-/
module

public import proofs.«01_k».proof.Proof.Gen.ReferenceIdeal.Run
public import proofs.«01_k».proof.Proof.Sections

@[expose] public section

noncomputable section

namespace Cert.Proof.Pyramid.Ref

open Cert.ReferenceIdeal Cert.ReferenceIdeal.Gen

open Idealize.ShloMosaic hiding ix1 ix2 ix3 ix4
open Idealize.ShloMosaic.ValueIdx
open Idealize.SL.Sem
open Cert.ReferenceIdeal.Facts

variable (X : FVec Ideal S2x100000x128 .f32) (I : IVec S25000x4 32) (J : IVec S6250x4 32)

/-- The rows of the first level's sections. -/
def found₁ : FVec Ideal S2x25000x4x128 .f32 :=
  Host.gather gather_S2x100000x128_S25000x4x1_S2x25000x4x128_03_1_n_n_1_2_21128 X (broadcastInDim S25000x4x1 ![0, 1] bcast_S25000x4_S25000x4x1_0_1
    (select (cmpi .slt I (broadcastInDim S25000x4 ![] bcast_S_S25000x4 (constantI S_ 32 0#32))) (addi I (broadcastInDim S25000x4 ![] bcast_S_S25000x4 (constantI S_ 32 100000#32))) I))

/-- The first level's means. -/
def means₁ : FVec Ideal S2x25000x128 .f32 :=
  lower (N := 25000) reducesTo_S2x25000x4x128_S2x25000x128_d2 h_S_ bcast_S2x25000x128_S2x25000x1x128_0_1_3 bcast_S_S2x25000x1x128 shapeCasts_S2x25000x1x128_S2x25000x128 (found₁ X I)

/-- The rows of the second level's sections. -/
def found₂ : FVec Ideal S2x6250x4x128 .f32 :=
  Host.gather gather_S2x25000x128_S6250x4x1_S2x6250x4x128_03_1_n_n_1_2_21128 (means₁ X I) (broadcastInDim S6250x4x1 ![0, 1] bcast_S6250x4_S6250x4x1_0_1
    (select (cmpi .slt J (broadcastInDim S6250x4 ![] bcast_S_S6250x4 (constantI S_ 32 0#32))) (addi J (broadcastInDim S6250x4 ![] bcast_S_S6250x4 (constantI S_ 32 25000#32))) J))

/-- The three results. -/
def result₀ : FVec Ideal S2x100000x128 .f32 :=
  detail (M := 100000) (N := 25000) reducesTo_S2x25000x4x128_S2x25000x128_d2 h_S_ bcast_S2x25000x128_S2x25000x1x128_0_1_3 bcast_S_S2x25000x1x128 bcast_S2x25000x1x128_S2x25000x4x128_0_1_2_3
    shapeCasts_S2x25000x4x128_S2x100000x128 (found₁ X I)
def result₁ : FVec Ideal S2x25000x128 .f32 :=
  detail (M := 25000) (N := 6250) reducesTo_S2x6250x4x128_S2x6250x128_d2 h_S_ bcast_S2x6250x128_S2x6250x1x128_0_1_3 bcast_S_S2x6250x1x128 bcast_S2x6250x1x128_S2x6250x4x128_0_1_2_3
    shapeCasts_S2x6250x4x128_S2x25000x128 (found₂ X I J)
def result₂ : FVec Ideal S2x6250x128 .f32 :=
  lower (N := 6250) reducesTo_S2x6250x4x128_S2x6250x128_d2 h_S_ bcast_S2x6250x128_S2x6250x1x128_0_1_3 bcast_S_S2x6250x1x128 shapeCasts_S2x6250x1x128_S2x6250x128 (found₂ X I J)

section Rows
variable (hI : Consecutive I) (hJ : Consecutive J)

/-- The input's rows. -/
abbrev row₀ : ℕ → ℕ → EReal := byRow (A := 2) (N := 100000) X

include hI in
theorem found₁_at (b : Fin 2) (q : Fin 25000) (k : Fin 4) (c : Fin 128) : found₁ X I (ix4 b q k c) = row₀ X (4 * (b.val * 25000 + q.val) + k.val) c.val :=
  section_row (M := 100000) (N := 25000) _ (by norm_num) (by norm_num) X _
    (fun q k => wrapped I _ _ (fun _ => rfl) hI (by norm_num) bcast_S25000x4_S25000x4x1_0_1 q k) b q k c

include hI in
theorem means₁_row {Q c : ℕ} (hQ : Q < 50000) (hc : c < 128) : byRow (A := 2) (N := 25000) (means₁ X I) Q c = means (row₀ X) Q c :=
  byRow_lower (N := 25000) _ _ _ _ _ (found₁_at X I hI) hQ hc

include hI hJ in
theorem found₂_at (b : Fin 2) (q : Fin 6250) (k : Fin 4) (c : Fin 128) : found₂ X I J (ix4 b q k c) = means (row₀ X) (4 * (b.val * 6250 + q.val) + k.val) c.val := by
  have hb := b.isLt; have hq := q.isLt; have hk := k.isLt
  exact (section_row (M := 25000) (N := 6250) _ (by norm_num) (by norm_num) (means₁ X I) _
    (fun q k => wrapped J _ _ (fun _ => rfl) hJ (by norm_num) bcast_S6250x4_S6250x4x1_0_1 q k) b q k c).trans
    (means₁_row X I hI (by omega) c.isLt)

include hI in
theorem result₀_row {R c : ℕ} (hR : R < 200000) (hc : c < 128) : byRow (A := 2) (N := 100000) (result₀ X I) R c = row₀ X R c - means (row₀ X) (R / 4) c :=
  byRow_detail (M := 100000) (N := 25000) (by norm_num) _ _ _ _ _ _ (found₁_at X I hI) hR hc

include hI hJ in
theorem result₁_row {R c : ℕ} (hR : R < 50000) (hc : c < 128) :
    byRow (A := 2) (N := 25000) (result₁ X I J) R c = means (row₀ X) R c - means (means (row₀ X)) (R / 4) c :=
  byRow_detail (M := 25000) (N := 6250) (by norm_num) _ _ _ _ _ _ (found₂_at X I J hI hJ) hR hc

include hI hJ in
theorem result₂_row {R c : ℕ} (hR : R < 12500) (hc : c < 128) : byRow (A := 2) (N := 6250) (result₂ X I J) R c = means (means (row₀ X)) R c :=
  byRow_lower (N := 6250) _ _ _ _ _ (found₂_at X I J hI hJ) hR hc

end Rows

/-- What a run leaves. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = result₀ (m ((c.tc : Thread nD τ).loc main_arg0)) (m ((c.tc : Thread nD τ).loc main_arg1))
      ∧ r.2.mem ((c.tc : Thread nD τ).loc main_v28)
          = result₁ (m ((c.tc : Thread nD τ).loc main_arg0)) (m ((c.tc : Thread nD τ).loc main_arg1)) (m ((c.tc : Thread nD τ).loc main_arg2))
      ∧ r.2.mem ((c.tc : Thread nD τ).loc main_v29)
          = result₂ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Proof.Pyramid.Ref

end
-- ==== Proof.Algebraic.lean ====
/-
  The kernel and the reference end with equal results when every section is four consecutive rows.
-/
module

public import proofs.«01_k».proof.Defs
public import proofs.«01_k».proof.Proof.Frames
public import proofs.«01_k».proof.Proof.KernelValue
public import proofs.«01_k».proof.Proof.ReferenceValue
public import proofs.«01_k».proof.Proof.Gen.Pre_sections

@[expose] public section

noncomputable section

namespace Cert.Proof.Pyramid

open Idealize.ShloMosaic hiding ix1 ix2 ix3 ix4
open Idealize.ShloMosaic.ValueIdx
open Idealize.SL.Sem

/-! ## What the precondition says -/

/-- The word of a place in the table that numbers its places. -/
theorem numbered {N M : ℕ} (h : (⟨1, ![M]⟩ : Shape).ShapeCasts ⟨2, ![N, 4]⟩) (hM : M = 4 * N) (q : Fin N) (k : Fin 4) :
    shapeCast ⟨2, ![N, 4]⟩ (iotaInDim ⟨1, ![M]⟩ 32 0) h (ix2 q k) = BitVec.ofNat 32 (4 * q.val + k.val) := by
  have hq := q.isLt; have hk := k.isLt
  rw [shapeCast_apply _ h (ix2 q k) (ix1 ⟨4 * q.val + k.val, by omega⟩) (by
    rw [Shape.rowMajor_val_one, Shape.rowMajor_val_two]
    show 4 * q.val + k.val = q.val * 4 + k.val
    omega)]
  rfl

instance : Subsingleton Cert.Pre_sections.S_.Idx := ⟨fun a b => funext fun x => x.elim0⟩

theorem consecutive_of {X : FVec Ideal Cert.Pre_sections.S2x100000x128 .f32} {I : IVec Cert.Pre_sections.S25000x4 32} {J : IVec Cert.Pre_sections.S6250x4 32} {n : IVec Cert.Pre_sections.S_ 32}
    (h : Cert.Pre_sections.fn (F := Ideal) X I J n = fun _ => 1#1) : Consecutive I ∧ Consecutive J := by
  have h0 := congrFun h (fun x => x.elim0)
  dsimp only [Cert.Pre_sections.fn] at h0
  obtain ⟨h1, h2⟩ := IntOp.andi_eq_one.1 h0
  refine ⟨fun q k => ?_, fun q k => ?_⟩
  · have e := StableHlo.Predicate.cmpi_eq_iff.1 (Host.reduce_andi_all _ _ _ _ _ h1 (ix2 q k))
    exact e.trans (numbered _ (by norm_num) q k)
  · have e := StableHlo.Predicate.cmpi_eq_iff.1 (Host.reduce_andi_all _ _ _ _ _ h2 (ix2 q k))
    exact e.trans (numbered _ (by norm_num) q k)

/-! ## The claim -/

theorem algebraic : Cert.algebraic_KernelIdeal_ReferenceIdeal_pre_sections := by
  intro m g m' g' hpre hargs
  have hIJ := fun c => consecutive_of (hpre c)
  have e₀ : ∀ c, (V5 m c ya' : Cert.KernelIdeal.S2x100000x128.Idx → EReal) = Ref.result₀ (m (c, x')) (m (c, p')) := fun c =>
    byRow_ext (A := 2) (N := 100000) fun R col hR hc => (result₀_row m c hR hc).trans (Ref.result₀_row _ _ (hIJ c).1 hR hc).symm
  have e₁ : ∀ c, (V5 m c yb' : Cert.KernelIdeal.S2x25000x128.Idx → EReal) = Ref.result₁ (m (c, x')) (m (c, p')) (m (c, q')) := fun c =>
    byRow_ext (A := 2) (N := 25000) fun R col hR hc => (result₁_row m c hR hc).trans (Ref.result₁_row _ _ _ (hIJ c).1 (hIJ c).2 hR hc).symm
  have e₂ : ∀ c, (V5 m c yc' : Cert.KernelIdeal.S2x6250x128.Idx → EReal) = Ref.result₂ (m (c, x')) (m (c, p')) (m (c, q')) := fun c =>
    byRow_ext (A := 2) (N := 6250) fun R col hR hc => (result₂_row m c hR hc).trans (Ref.result₂_row _ _ _ (hIJ c).1 (hIJ c).2 hR hc).symm
  refine ⟨fun c => V5 m c ya', fun c => V5 m c yb', fun c => V5 m c yc', ?_, ?_⟩
  · exact (θ_run (Cert.KernelIdeal.defs (F := Ideal)) _ _).mono (fun r h c =>
      ⟨h.1 c ya' (by decide), h.1 c yb' (by decide), h.1 c yc' (by decide), kept m h c⟩) (run_main m g)
  · refine (θ_run (Cert.ReferenceIdeal.defs (F := Ideal)) _ _).mono (fun r h c => ?_) (Ref.run m' g')
    obtain ⟨a0, a1, a2, _⟩ := hargs c
    obtain ⟨r0, r1, r2, k⟩ := h c
    rw [a0, a1] at r0
    rw [a0, a1, a2] at r1 r2
    exact ⟨r0.trans (e₀ c).symm, r1.trans (e₁ c).symm, r2.trans (e₂ c).symm, k⟩

end Cert.Proof.Pyramid

end
-- ==== Proof.lean ====
/-
  The claims, from the modules that prove them.
-/
module

public import proofs.«01_k».proof.Defs
public import proofs.«01_k».proof.Proof.Frames
public import proofs.«01_k».proof.Proof.Algebraic
public import proofs.«01_k».proof.Proof.Gen.Pre_sections

@[expose] public section

noncomputable section

namespace Cert.Proof

theorem claim : Cert.Claim :=
  ⟨Cert.Kernel.Gen.facts, Cert.KernelIdeal.Gen.facts, Cert.ReferenceIdeal.Gen.facts, Cert.Pre_sections.Gen.facts,
    Pyramid.frame_kernel, Pyramid.frame_kernelIdeal, fun m ρ _ => Pyramid.frame_main m ρ,
    Pyramid.frame_referenceIdeal, fun m ρ _ => Pyramid.frame_referenceIdeal m ρ trivial, trivial, Pyramid.algebraic⟩

end Cert.Proof

end
